-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_hidden [hPre_finite_hidden : Cert.Pre_finite_hidden.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_hidden.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_hidden.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_hidden.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_hidden [hPre_finite_hidden : Cert.Pre_finite_hidden.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_hidden.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_hidden.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_hidden.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_gated [hPre_finite_gated : Cert.Pre_finite_gated.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_gated.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_gated.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite_gated.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_gated [hPre_finite_gated : Cert.Pre_finite_gated.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_gated.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_gated.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite_gated.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_hidden [hKernel3Ideal : Cert.Kernel3Ideal.Facts] [hPre_finite_hidden : Cert.Pre_finite_hidden.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_hidden m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_hidden [hReference3Ideal : Cert.Reference3Ideal.Facts] [hPre_finite_hidden : Cert.Pre_finite_hidden.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_hidden m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_gated [hKernel8Ideal : Cert.Kernel8Ideal.Facts] [hPre_finite_gated : Cert.Pre_finite_gated.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_gated m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_gated [hReference8Ideal : Cert.Reference8Ideal.Facts] [hPre_finite_gated : Cert.Pre_finite_gated.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_gated m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite_hidden [hKernel3Ideal : Cert.Kernel3Ideal.Facts] [hReference3Ideal : Cert.Reference3Ideal.Facts] [hPre_finite_hidden : Cert.Pre_finite_hidden.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_hidden m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)) (v5 : (c : Dev Cert.Kernel7Ideal.nD) → Buf (Elt Ideal) ((c.tc : Thread Cert.Kernel7Ideal.nD Cert.Kernel7Ideal.τ).loc Cert.Kernel7Ideal.main_v2_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_v2_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v31) = v3 c
          ∧ r.2.mem ((c.tc : Thread Cert.Reference7Ideal.nD Cert.Reference7Ideal.τ).loc Cert.Reference7Ideal.main_v43) = v4 c
          ∧ r.2.mem ((c.tc : Thread Cert.Reference7Ideal.nD Cert.Reference7Ideal.τ).loc Cert.Reference7Ideal.main_v44) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite_gated [hKernel8Ideal : Cert.Kernel8Ideal.Facts] [hReference8Ideal : Cert.Reference8Ideal.Facts] [hPre_finite_gated : Cert.Pre_finite_gated.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_gated m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v49) = v1 c
          ∧ r.2.mem ((c.tc : Thread Cert.Reference8Ideal.nD Cert.Reference8Ideal.τ).loc Cert.Reference8Ideal.main_v50) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v16) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v49) = v0 c
          ∧ r.2.mem ((c.tc : Thread Cert.Reference10Ideal.nD Cert.Reference10Ideal.τ).loc Cert.Reference10Ideal.main_v50) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_v2) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v40) = v0 c
          ∧ r.2.mem ((c.tc : Thread Cert.Reference20Ideal.nD Cert.Reference20Ideal.τ).loc Cert.Reference20Ideal.main_v41) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite_qk : Cert.Pre_finite_qk.Facts) (hPre_finite_hidden : Cert.Pre_finite_hidden.Facts) (hPre_finite_gated : Cert.Pre_finite_gated.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_hidden (hKernel3Ideal := hKernel3Ideal) (hPre_finite_hidden := hPre_finite_hidden)
    ∧ quiescent_Reference3Ideal (hReference3Ideal := hReference3Ideal)
    ∧ quiescent_Reference3Ideal_pre_finite_hidden (hReference3Ideal := hReference3Ideal) (hPre_finite_hidden := hPre_finite_hidden)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_gated (hKernel8Ideal := hKernel8Ideal) (hPre_finite_gated := hPre_finite_gated)
    ∧ quiescent_Reference8Ideal (hReference8Ideal := hReference8Ideal)
    ∧ quiescent_Reference8Ideal_pre_finite_gated (hReference8Ideal := hReference8Ideal) (hPre_finite_gated := hPre_finite_gated)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_hidden (hKernel3Ideal := hKernel3Ideal) (hReference3Ideal := hReference3Ideal) (hPre_finite_hidden := hPre_finite_hidden)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_gated (hKernel8Ideal := hKernel8Ideal) (hReference8Ideal := hReference8Ideal) (hPre_finite_gated := hPre_finite_gated)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite_gated.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x1024 .bf16) (main_arg2 : FVec F S4096x1024 .f32) (main_arg3 : FVec F S4096x1024 .f32) (main_arg4 : FVec F S1024 .f32) : IVec S4096x1024 1 × IVec S1024x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := (extf .f32 · bitsLt_bf16_f32) main_arg1
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S1024 .f32 := Host.absf main_arg4
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  (main_v2, main_v6, main_v9)
-- ==== Pre_finite_hidden.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S4096x1024 1 × IVec S2816x1024 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := (extf .f32 · bitsLt_bf16_f32) main_arg3
  let main_v9 : FVec F S4096x2816 .f32 := Host.absf main_v8
  let main_cst_1 : FVec F S_ .f32 := constant S_ .f32 0x7F800000#32
  let main_v10 : FVec F S4096x2816 .f32 := broadcastInDim S4096x2816 ![] bcast_S_S4096x2816 main_cst_1
  let main_v11 : IVec S4096x2816 1 := cmpf .olt main_v9 main_v10
  (main_v3, main_v7, main_v11)
-- ==== Pre_finite_qk.lean ====
abbrev S4096x1024 : Shape := ⟨2, ![4096, 1024]⟩
abbrev S512x1024 : Shape := ⟨2, ![512, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S512x1024 : S_.BroadcastsInDim S512x1024 (![] : Fin 0 → Fin S512x1024.rank)

variable [Facts]

def fn {F : FTy → Type} [FloatOps F] (main_arg0 : FVec F S4096x1024 .bf16) (main_arg1 : FVec F S512x1024 .bf16) (main_arg2 : FVec F S512x1024 .bf16) (main_arg3 : FVec F S4096x1024 .bf16) : IVec S4096x1024 1 × IVec S512x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  (main_v3, main_v7)
-- ==== Kernel.lean ====
abbrev S4096x1024 : Shape := ⟨2, ![4096, 1024]⟩
abbrev S512x1024 : Shape := ⟨2, ![512, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .bf16⟩
  | .hbm, ⟨3, _⟩ => ⟨S4096x1024, .bf16⟩
  | .hbm, ⟨4, _⟩ => ⟨S4096x1024, .bf16⟩
  | .hbm, ⟨5, _⟩ => ⟨S512x1024, .bf16⟩
  | .hbm, ⟨6, _⟩ => ⟨S512x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4096x1024 : Shape := ⟨2, ![4096, 1024]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .bf16⟩
  | .hbm, ⟨3, _⟩ => ⟨S4096x1024, .bf16⟩
  | .hbm, ⟨4, _⟩ => ⟨S4096x1024, .f32⟩
  | .hbm, ⟨5, _⟩ => ⟨S512x1024, .f32⟩
  | .hbm, ⟨6, _⟩ => ⟨S512x1024, .f32⟩
  | .hbm, ⟨7, _⟩ => ⟨S2x2048x4x256, .f32⟩
  | .hbm, ⟨8, _⟩ => ⟨S2x256x4x256, .f32⟩
  | .hbm, ⟨9, _⟩ => ⟨S2x256x4x256, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x256x2048, .f32⟩
  | .hbm, ⟨53, _⟩ => ⟨S2x2048x4x256, .f32⟩
  | .hbm, ⟨54, _⟩ => ⟨S4096x1024, .f32⟩
  | .hbm, ⟨55, _⟩ => ⟨S4096x1024, .f32⟩
  | .hbm, ⟨56, _⟩ => ⟨S2x2048x4x256, .f32⟩
  | .hbm, ⟨57, _⟩ => ⟨S2x4x256x2048, .f32⟩
  | .hbm, ⟨58, _⟩ => ⟨S2x4x2048x256, .f32⟩
  | .hbm, ⟨59, _⟩ => ⟨S2x4x256x256, .f32⟩
  | .hbm, ⟨60, _⟩ => ⟨S2x256x4x256, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x256, .f32⟩
  | .hbm, ⟨79, _⟩ => ⟨S2x256x4x256, .f32⟩
  | .hbm, ⟨80, _⟩ => ⟨S2x4x2048x256, .f32⟩
  | .hbm, ⟨81, _⟩ => ⟨S2x2048x4x256, .f32⟩
  | .hbm, ⟨82, _⟩ => ⟨S512x1024, .f32⟩
  | .hbm, ⟨83, _⟩ => ⟨S512x1024, .f32⟩
  | .hbm, ⟨84, _⟩ => ⟨S4096x1024, .f32⟩
  | .hbm, ⟨85, _⟩ => ⟨S4096x1024, .bf16⟩
  | .hbm, ⟨86, _⟩ => ⟨S512x1024, .bf16⟩
  | .hbm, ⟨87, _⟩ => ⟨S512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S384x1024 : Shape := ⟨2, ![384, 1024]⟩
abbrev S512x384 : Shape := ⟨2, ![512, 384]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩

abbrev nBuf : Space → Nat
  | .hbm => 65
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S2816x1024, .f32⟩
  | .hbm, ⟨28, _⟩ => ⟨S1024x2816, .f32⟩
  | .hbm, ⟨29, _⟩ => ⟨S4096x2816, .f32⟩
  | .hbm, ⟨30, _⟩ => ⟨S2816x1024, .f32⟩
  | .hbm, ⟨31, _⟩ => ⟨S1024x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S384x1024 : Shape := ⟨2, ![384, 1024]⟩
abbrev S512x384 : Shape := ⟨2, ![512, 384]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 16
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true, false]
-- ==== Reference7Ideal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference8Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096x2x512 : Shape := ⟨3, ![4096, 2, 512]⟩
abbrev S2x512 : Shape := ⟨2, ![2, 512]⟩
abbrev S4096x2 : Shape := ⟨2, ![4096, 2]⟩
abbrev S4096x2x1 : Shape := ⟨3, ![4096, 2, 1]⟩
abbrev S1x2x512 : Shape := ⟨3, ![1, 2, 512]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2x512, .f32⟩
  | .hbm, ⟨20, _⟩ => ⟨S2x512, .f32⟩
  | .hbm, ⟨21, _⟩ => ⟨S4096x2x512, .f32⟩
  | .hbm, ⟨22, _⟩ => ⟨S_, .f32⟩
  | .hbm, ⟨23, _⟩ => ⟨S4096x2, .f32⟩
  | .hbm, ⟨24, _⟩ => ⟨S4096x2x1, .f32⟩
  | .hbm, ⟨25, _⟩ => ⟨S_, .f32⟩
  | .hbm, ⟨26, _⟩ => ⟨S4096x2x1, .f32⟩
  | .hbm, ⟨27, _⟩ => ⟨S4096x2x1, .f32⟩
  | .hbm, ⟨28, _⟩ => ⟨S_, .f32⟩
  | .hbm, ⟨29, _⟩ => ⟨S4096x2x1, .f32⟩
  | .hbm, ⟨30, _⟩ => ⟨S4096x2x1, .f32⟩
  | .hbm, ⟨31, _⟩ => ⟨S4096x2x1, .f32⟩
  | .hbm, ⟨32, _⟩ => ⟨S4096x2x1, .f32⟩
  | .hbm, ⟨33, _⟩ => ⟨S_, .f32⟩
  | .hbm, ⟨34, _⟩ => ⟨S4096x2x1, .f32⟩
  | .hbm, ⟨35, _⟩ => ⟨S4096x2x1, .f32⟩
  | .hbm, ⟨36, _⟩ => ⟨S4096x2x512, .f32⟩
  | .hbm, ⟨37, _⟩ => ⟨S4096x2x512, .f32⟩
  | .hbm, ⟨38, _⟩ => ⟨S1x2x512, .f32⟩
  | .hbm, ⟨39, _⟩ => ⟨S4096x2x512, .f32⟩
  | .hbm, ⟨40, _⟩ => ⟨S4096x2x512, .f32⟩
  | .hbm, ⟨41, _⟩ => ⟨S4096x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x2x512, .f32⟩
  | .hbm, ⟨46, _⟩ => ⟨S4096x2x512, .f32⟩
  | .hbm, ⟨47, _⟩ => ⟨S_, .f32⟩
  | .hbm, ⟨48, _⟩ => ⟨S2x512, .f32⟩
  | .hbm, ⟨49, _⟩ => ⟨S1x2x512, .f32⟩
  | .hbm, ⟨50, _⟩ => ⟨S4096x2x512, .f32⟩
  | .hbm, ⟨51, _⟩ => ⟨S4096x2x512, .f32⟩
  | .hbm, ⟨52, _⟩ => ⟨S_, .f32⟩
  | .hbm, ⟨53, _⟩ => ⟨S2x512, .f32⟩
  | .hbm, ⟨54, _⟩ => ⟨S4096x2x512, .f32⟩
  | .hbm, ⟨55, _⟩ => ⟨S_, .f32⟩
  | .hbm, ⟨56, _⟩ => ⟨S4096x2, .f32⟩
  | .hbm, ⟨57, _⟩ => ⟨S4096x2x1, .f32⟩
  | .hbm, ⟨58, _⟩ => ⟨S4096x2x512, .f32⟩
  | .hbm, ⟨59, _⟩ => ⟨S4096x2x512, .f32⟩
  | .hbm, ⟨60, _⟩ => ⟨S4096x2x1, .f32⟩
  | .hbm, ⟨61, _⟩ => ⟨S_, .f32⟩
  | .hbm, ⟨62, _⟩ => ⟨S4096x2x1, .f32⟩
  | .hbm, ⟨63, _⟩ => ⟨S4096x2x1, .f32⟩
  | .hbm, ⟨64, _⟩ => ⟨S_, .f32⟩
  | .hbm, ⟨65, _⟩ => ⟨S4096x2, .f32⟩
  | .hbm, ⟨66, _⟩ => ⟨S4096x2x512, .f32⟩
  | .hbm, ⟨67, _⟩ => ⟨S4096x2x512, .f32⟩
  | .hbm, ⟨68, _⟩ => ⟨S4096x2x512, .f32⟩
  | .hbm, ⟨69, _⟩ => ⟨S4096x2x512, .f32⟩
  | .hbm, ⟨70, _⟩ => ⟨S4096x2x512, .f32⟩
  | .hbm, ⟨71, _⟩ => ⟨S1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Kernel9.lean ====
abbrev S1x5x352x1024 : Shape := ⟨4, ![1, 5, 352, 1024]⟩
abbrev S1x3x2x352x1024 : Shape := ⟨5, ![1, 3, 2, 352, 1024]⟩
abbrev S1x704x1024 : Shape := ⟨3, ![1, 704, 1024]⟩
abbrev S1x1x176x1024 : Shape := ⟨4, ![1, 1, 176, 1024]⟩
abbrev S1x1x1x176x1024 : Shape := ⟨5, ![1, 1, 1, 176, 1024]⟩
abbrev S1x176x1024 : Shape := ⟨3, ![1, 176, 1024]⟩
abbrev S176x1024 : Shape := ⟨2, ![176, 1024]⟩

abbrev nBuf : Space → Nat
  | .hbm => 9
  | .vmem => 22
  | .smem => 0
  | _ => 0

abbrev bufTy : (tb : Table) → Fin (tcTables nBuf tb) → BufTy
  | .hbm, ⟨0, _⟩ => ⟨S1x5x352x1024, .bf16⟩
  | .hbm, ⟨1, _⟩ => ⟨S1x3x2x352x1024, .bf16⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .local _ .vmem, ⟨0, _⟩ => ⟨S1x1x176x1024, .bf16⟩
  | .local _ .vmem, ⟨1, _⟩ => ⟨S1x1x176x1024, .bf16⟩
  | .local _ .vmem, ⟨2, _⟩ => ⟨S1x1x1x176x1024, .bf16⟩
  | .local _ .vmem, ⟨3, _⟩ => ⟨S1x1x1x176x1024, .bf16⟩
  | .local _ .vmem, ⟨4, _⟩ => ⟨S1x1x1x176x1024, .bf16⟩
  | .local _ .vmem, ⟨5, _⟩ => ⟨S1x1x1x176x1024, .bf16⟩
  | .local _ .vmem, ⟨6, _⟩ => ⟨S1x1x1x176x1024, .bf16⟩
  | .local _ .vmem, ⟨7, _⟩ => ⟨S1x1x1x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S1x5x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, arg1.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, arg1.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S1x5x352x1024 : Shape := ⟨4, ![1, 5, 352, 1024]⟩
abbrev S1x3x2x352x1024 : Shape := ⟨5, ![1, 3, 2, 352, 1024]⟩
abbrev S1x704x1024 : Shape := ⟨3, ![1, 704, 1024]⟩
abbrev S1x2x352x1024 : Shape := ⟨4, ![1, 2, 352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x5x352x1024, .bf16⟩
  | .hbm, ⟨1, _⟩ => ⟨S1x3x2x352x1024, .bf16⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x2x352x1024, .bf16⟩
  | .hbm, ⟨6, _⟩ => ⟨S1x2x352x1024, .f32⟩
  | .hbm, ⟨7, _⟩ => ⟨S1x3x2x352x1024, .f32⟩
  | .hbm, ⟨8, _⟩ => ⟨S_, .f32⟩
  | .hbm, ⟨9, _⟩ => ⟨S1x2x352x1024, .f32⟩
  | .hbm, ⟨10, _⟩ => ⟨S1x2x352x1024, .f32⟩
  | .hbm, ⟨11, _⟩ => ⟨S1x704x1024, .f32⟩
  | .hbm, ⟨12, _⟩ => ⟨S_, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | .hbm, ⟨41, _⟩ => ⟨S1x704x1024, .f32⟩
  | .hbm, ⟨42, _⟩ => ⟨S_, .f32⟩
  | .hbm, ⟨43, _⟩ => ⟨S1x704x1024, .f32⟩
  | .hbm, ⟨44, _⟩ => ⟨S1x704x1024, .f32⟩
  | _, _ => ⟨S1x5x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel10.lean ====
abbrev S4096x1024 : Shape := ⟨2, ![4096, 1024]⟩
abbrev S4096x1536 : Shape := ⟨2, ![4096, 1536]⟩
abbrev S4096x16 : Shape := ⟨2, ![4096, 16]⟩
abbrev S4096x384 : Shape := ⟨2, ![4096, 384]⟩
abbrev S4096x256 : Shape := ⟨2, ![4096, 256]⟩
abbrev S4096x32 : Shape := ⟨2, ![4096, 32]⟩
abbrev S5296x1024 : Shape := ⟨2, ![5296, 1024]⟩
abbrev S1024 : Shape := ⟨1, ![1024]⟩
abbrev S1024x1024 : Shape := ⟨2, ![1024, 1024]⟩
abbrev S1536x1024 : Shape := ⟨2, ![1536, 1024]⟩
abbrev S384x1024 : Shape := ⟨2, ![384, 1024]⟩
abbrev S256x1024 : Shape := ⟨2, ![256, 1024]⟩
abbrev S16x1024 : Shape := ⟨2, ![16, 1024]⟩
abbrev S32x1024 : Shape := ⟨2, ![32, 1024]⟩
abbrev S_ : Shape := ⟨0, ![]⟩
abbrev S80x1024 : Shape := ⟨2, ![80, 1024]⟩
abbrev S128x1024 : Shape := ⟨2, ![128, 1024]⟩
abbrev S4096x80 : Shape := ⟨2, ![4096, 80]⟩
abbrev S4096x128 : Shape := ⟨2, ![4096, 128]⟩
abbrev S1x1024 : Shape := ⟨2, ![1, 1024]⟩
abbrev S256x1536 : Shape := ⟨2, ![256, 1536]⟩
abbrev S256x384 : Shape := ⟨2, ![256, 384]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 29
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x16, .f32⟩
  | .hbm, ⟨3, _⟩ => ⟨S4096x384, .f32⟩
  | .hbm, ⟨4, _⟩ => ⟨S4096x256, .f32⟩
  | .hbm, ⟨5, _⟩ => ⟨S4096x32, .f32⟩
  | .hbm, ⟨6, _⟩ => ⟨S4096x1024, .f32⟩
  | .hbm, ⟨7, _⟩ => ⟨S4096x1024, .f32⟩
  | .hbm, ⟨8, _⟩ => ⟨S5296x1024, .bf16⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S1024x1024, .bf16⟩
  | .hbm, ⟨13, _⟩ => ⟨S1536x1024, .bf16⟩
  | .hbm, ⟨14, _⟩ => ⟨S384x1024, .bf16⟩
  | .hbm, ⟨15, _⟩ => ⟨S256x1024, .bf16⟩
  | .hbm, ⟨16, _⟩ => ⟨S1024x1024, .bf16⟩
  | .hbm, ⟨17, _⟩ => ⟨S1024x1024, .bf16⟩
  | .hbm, ⟨18, _⟩ => ⟨S16x1024, .bf16⟩
  | .hbm, ⟨19, _⟩ => ⟨S32x1024, .bf16⟩
  | .hbm, ⟨20, _⟩ => ⟨S_, .bf16⟩
  | .hbm, ⟨21, _⟩ => ⟨S80x1024, .bf16⟩
  | .hbm, ⟨22, _⟩ => ⟨S128x1024, .bf16⟩
  | .hbm, ⟨23, _⟩ => ⟨S_, .f32⟩
  | .hbm, ⟨24, _⟩ => ⟨S4096x80, .f32⟩
  | .hbm, ⟨25, _⟩ => ⟨S4096x128, .f32⟩
  | .hbm, ⟨26, _⟩ => ⟨S1x1024, .f32⟩
  | .hbm, ⟨27, _⟩ => ⟨S4096x1024, .f32⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1536, .f32⟩
  | .local _ .vmem, ⟨4, _⟩ => ⟨S256x1536, .f32⟩
  | .local _ .vmem, ⟨5, _⟩ => ⟨S1536x1024, .bf16⟩
  | .local _ .vmem, ⟨6, _⟩ => ⟨S256x384, .f32⟩
  | .local _ .vmem, ⟨7, _⟩ => ⟨S256x384, .f32⟩
  | .local _ .vmem, ⟨8, _⟩ => ⟨S384x1024, .bf16⟩
  | .local _ .vmem, ⟨9, _⟩ => ⟨S256x256, .f32⟩
  | .local _ .vmem, ⟨10, _⟩ => ⟨S256x256, .f32⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S1024x1024, .bf16⟩
  | .local _ .vmem, ⟨18, _⟩ => ⟨S256x128, .f32⟩
  | .local _ .vmem, ⟨19, _⟩ => ⟨S256x128, .f32⟩
  | .local _ .vmem, ⟨20, _⟩ => ⟨S128x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, true, false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, true, false]
-- ==== Reference10Ideal.lean ====
abbrev S4096x1024 : Shape := ⟨2, ![4096, 1024]⟩
abbrev S4096x1536 : Shape := ⟨2, ![4096, 1536]⟩
abbrev S4096x16 : Shape := ⟨2, ![4096, 16]⟩
abbrev S4096x384 : Shape := ⟨2, ![4096, 384]⟩
abbrev S4096x256 : Shape := ⟨2, ![4096, 256]⟩
abbrev S4096x32 : Shape := ⟨2, ![4096, 32]⟩
abbrev S5296x1024 : Shape := ⟨2, ![5296, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5296 : Shape := ⟨2, ![1024, 5296]⟩
abbrev S4096x5296 : Shape := ⟨2, ![4096, 5296]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x16, .f32⟩
  | .hbm, ⟨3, _⟩ => ⟨S4096x384, .f32⟩
  | .hbm, ⟨4, _⟩ => ⟨S4096x256, .f32⟩
  | .hbm, ⟨5, _⟩ => ⟨S4096x32, .f32⟩
  | .hbm, ⟨6, _⟩ => ⟨S4096x1024, .f32⟩
  | .hbm, ⟨7, _⟩ => ⟨S4096x1024, .f32⟩
  | .hbm, ⟨8, _⟩ => ⟨S5296x1024, .bf16⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S5296x1024, .f32⟩
  | .hbm, ⟨33, _⟩ => ⟨S1024x5296, .f32⟩
  | .hbm, ⟨34, _⟩ => ⟨S4096x5296, .f32⟩
  | .hbm, ⟨35, _⟩ => ⟨S4096x1024, .f32⟩
  | .hbm, ⟨36, _⟩ => ⟨S4096x1536, .f32⟩
  | .hbm, ⟨37, _⟩ => ⟨S4096x16, .f32⟩
  | .hbm, ⟨38, _⟩ => ⟨S4096x384, .f32⟩
  | .hbm, ⟨39, _⟩ => ⟨S4096x256, .f32⟩
  | .hbm, ⟨40, _⟩ => ⟨S4096x32, .f32⟩
  | .hbm, ⟨41, _⟩ => ⟨S4096x1024, .f32⟩
  | .hbm, ⟨42, _⟩ => ⟨S4096x1024, .f32⟩
  | .hbm, ⟨43, _⟩ => ⟨S4096x5296, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S4096x1024 : Shape := ⟨2, ![4096, 1024]⟩
abbrev S1536x1024 : Shape := ⟨2, ![1536, 1024]⟩
abbrev S4096x1536 : Shape := ⟨2, ![4096, 1536]⟩
abbrev S512x1024 : Shape := ⟨2, ![512, 1024]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1536, .f32⟩
  | .local _ .vmem, ⟨4, _⟩ => ⟨S512x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1536x1024, .f32⟩
  | .hbm, ⟨4, _⟩ => ⟨S1024x1536, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x1536 : Shape := ⟨2, ![4096, 1536]⟩
abbrev S4096x1024 : Shape := ⟨2, ![4096, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4096x1024, .bf16⟩
  | .hbm, ⟨2, _⟩ => ⟨S1536x1024, .bf16⟩
  | .local _ .vmem, ⟨0, _⟩ => ⟨S2048x768, .f32⟩
  | .local _ .vmem, ⟨1, _⟩ => ⟨S2048x768, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .bf16⟩
  | .hbm, ⟨2, _⟩ => ⟨S_, .f32⟩
  | .hbm, ⟨3, _⟩ => ⟨S1536x1024, .f32⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference20Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Xa.Math.lean ====
/-
  The gradient of a softmax attention for one head, as plain functions of rows and columns over the extended reals, in the
  two forms met here: `dsK`, with the probabilities formed first, and `dsR`, as differentiating exponential, sum and
  quotient one by one gives it. `dsK_eq_dsR` is the equation between the two: for finite queries and keys, whatever the
  values and the incoming gradient are.
-/
module

public import Idealize.ShloMosaic.PureOps.Ideal
public import Idealize.ShloMosaic.PureOps.Ideal.Laws
public import Idealize.ShloMosaic.Lib.Pointwise

@[expose] public section

noncomputable section

namespace Cert.AttnGrad

open Idealize.ShloMosaic Idealize.ShloMosaic.Pointwise

variable {n k d : ℕ}

/-- A finite extended real. -/
def Fin' (x : EReal) : Prop := x ≠ ⊥ ∧ x ≠ ⊤

theorem Fin'.coe {x : EReal} (h : Fin' x) : ∃ r : ℝ, x = r := ⟨x.toReal, (EReal.coe_toReal h.2 h.1).symm⟩
theorem fin_coe (r : ℝ) : Fin' (r : EReal) := ⟨EReal.coe_ne_bot r, EReal.coe_ne_top r⟩
theorem Fin'.mul {x y : EReal} (hx : Fin' x) (hy : Fin' y) : Fin' (x * y) := by
  obtain ⟨a, rfl⟩ := hx.coe; obtain ⟨b, rfl⟩ := hy.coe
  rw [← EReal.coe_mul]; exact fin_coe _
theorem coe_sum' {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]
theorem Fin'.sum {ι : Type*} (s : Finset ι) (f : ι → EReal) (h : ∀ i, Fin' (f i)) : Fin' (∑ i ∈ s, f i) := by
  choose g hg using fun i => (h i).coe
  simp only [hg, coe_sum']
  exact fin_coe _

/-- A scaled product of two rows. -/
def dotRow (q k : Fin d → EReal) : EReal := ∑ x, q x * k x

/-- The exponential of a score less its row's maximum. -/
def expo (s : Fin k → EReal) (j : Fin k) : EReal := Ideal.exp (s j - (Finset.univ : Finset (Fin k)).fold max ⊥ s)

/-- The softmax of a row of scores. -/
def prob (s : Fin k → EReal) (j : Fin k) : EReal := Ideal.div (expo s j) (∑ j', expo s j')

/-- The scores' gradient with the probabilities formed first. -/
def dsK (c : EReal) (s dp : Fin k → EReal) (j : Fin k) : EReal :=
  prob s j * (dp j - ∑ j', prob s j' * dp j') * c

/-- The scores' gradient through the quotient, the sum and the exponential. -/
def dsR (c : EReal) (s dp : Fin k → EReal) (j : Fin k) : EReal :=
  (Ideal.div (dp j) (∑ j', expo s j')
    + -(∑ j', dp j' * Ideal.div 1 ((∑ j'', expo s j'') * (∑ j'', expo s j'')) * expo s j')) * expo s j * c

/-- Of finite scores the exponentials are nonnegative reals, and their sum is a positive real. -/
theorem expo_real (hk : 0 < k) (s : Fin k → EReal) (hs : ∀ j, Fin' (s j)) :
    ∃ (e : Fin k → ℝ) (t : ℝ), (∀ j, 0 ≤ e j) ∧ 0 < t ∧ (∀ j, expo s j = e j) ∧ (∑ j, expo s j) = t := by
  choose g hg using fun j => (hs j).coe
  have hm : Fin' ((Finset.univ : Finset (Fin k)).fold max ⊥ s) := by
    constructor
    · intro h
      have h0 : s ⟨0, hk⟩ ≤ (Finset.univ : Finset (Fin k)).fold max ⊥ s :=
        (Finset.le_fold_max _).2 (.inr ⟨⟨0, hk⟩, Finset.mem_univ _, le_rfl⟩)
      rw [h, le_bot_iff] at h0
      exact (hs _).1 h0
    · have : (Finset.univ : Finset (Fin k)).fold max ⊥ s < ⊤ :=
        (Finset.fold_max_lt _).2 ⟨bot_lt_top, fun j _ => lt_top_iff_ne_top.2 (hs j).2⟩
      exact this.ne
  obtain ⟨m, hm⟩ := hm.coe
  have he : ∀ j, expo s j = ((Real.exp (g j - m) : ℝ) : EReal) := fun j => by
    rw [expo, hm, hg, ← EReal.coe_sub, Ideal.exp_coe]
  refine ⟨fun j => Real.exp (g j - m), ∑ j, Real.exp (g j - m), fun j => (Real.exp_pos _).le, ?_, he, ?_⟩
  · exact Finset.sum_pos (fun j _ => Real.exp_pos _) ⟨⟨0, hk⟩, Finset.mem_univ _⟩
  · simp only [he, coe_sum']

/-- A nonnegative real factor goes into a sum of extended reals. -/
theorem coe_mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-- The two forms of the scores' gradient agree on finite scores. -/
theorem dsK_eq_dsR (c : EReal) (s dp : Fin k → EReal) (hs : ∀ j, Fin' (s j)) (j : Fin k) : dsK c s dp j = dsR c s dp j := by
  obtain ⟨e, t, he0, ht, he, hsum⟩ := expo_real (j.pos) s hs
  have ht' : t ≠ 0 := ht.ne'
  have hp : ∀ j, prob s j = ((e j * (1 / t) : ℝ) : EReal) := fun j => by
    rw [prob, hsum, he, Ideal.div_coe ht', ← EReal.coe_mul]
  have hu : 0 ≤ 1 / t := by positivity
  unfold dsK dsR
  rw [hsum, he, hp, Ideal.div_coe ht', ← EReal.coe_mul, Ideal.div_coe (mul_ne_zero ht' ht'), one_mul]
  have hX : (∑ j', dp j' * ((1 / (t * t) : ℝ) : EReal) * expo s j') = ((1 / t : ℝ) : EReal) * ∑ j', prob s j' * dp j' := by
    rw [coe_mul_sum _ hu]
    refine Finset.sum_congr rfl fun j' _ => ?_
    rw [he, hp, ← mul_assoc, ← EReal.coe_mul, mul_assoc, ← EReal.coe_mul, mul_comm (dp j')]
    congr 2
    field_simp
  rw [hX]
  generalize (∑ j', prob s j' * dp j') = X
  rw [mul_comm (dp j), ← mul_neg, ← EReal.left_distrib_of_nonneg_of_ne_top (EReal.coe_nonneg.2 hu) (EReal.coe_ne_top _),
    mul_comm _ ((e j : ℝ) : EReal), ← mul_assoc, ← EReal.coe_mul, sub_eq_add_neg]

/-- The scores of one query against the keys. -/
def score (c : EReal) (q : Fin n → Fin d → EReal) (k' : Fin k → Fin d → EReal) (i : Fin n) (j : Fin k) : EReal :=
  dotRow (q i) (k' j) * c

theorem score_fin {c : EReal} (hc : Fin' c) {q : Fin n → Fin d → EReal} {k' : Fin k → Fin d → EReal} (hq : ∀ i x, Fin' (q i x))
    (hk : ∀ j x, Fin' (k' j x)) (i : Fin n) (j : Fin k) : Fin' (score c q k' i j) :=
  (Fin'.sum _ _ fun x => (hq i x).mul (hk j x)).mul hc

variable (c : EReal) (q g : Fin n → Fin d → EReal) (k' v : Fin k → Fin d → EReal)

/-- The gradient of the scores of one head. -/
def ds (i : Fin n) (j : Fin k) : EReal := dsK c (score c q k' i) (fun j' => dotRow (g i) (v j')) j
/-- The gradients of the queries, the keys and the values of one head. -/
def dq (i : Fin n) (x : Fin d) : EReal := ∑ j, ds c q g k' v i j * k' j x
def dk (j : Fin k) (x : Fin d) : EReal := ∑ i, ds c q g k' v i j * q i x
def dv (j : Fin k) (x : Fin d) : EReal := ∑ i, prob (score c q k' i) j * g i x

/-- The rows of batch `b` and the columns of head `h`. -/
def head {t n : ℕ} (ht : 2 * n = t) (x : (Shape.mk 2 ![t, 1024]).Idx → EReal) (b : Fin 2) (h : Fin 4) : Fin n → Fin 256 → EReal :=
  fun i y => x (ix2 ⟨b * n + i, by have := b.isLt; have := i.isLt; nlinarith⟩ ⟨h * 256 + y, by omega⟩)

/-- The scale of the scores. -/
def cst : EReal := Ideal.ofBits .f32 0x3D800000#32

theorem cst_fin : Fin' cst := by
  have : cst = ((1 / 16 : ℝ) : EReal) := by
    simp [cst, Ideal.ofBits, Ideal.ieee]
    rw [← EReal.coe_mul]
    norm_num
  rw [this]; exact fin_coe _

/-- Every place of the array lies in one batch's rows and one head's columns. -/
theorem idx_split {t n : ℕ} (ht : 2 * n = t) (j : (Shape.mk 2 ![t, 1024]).Idx) :
    ∃ (b : Fin 2) (h : Fin 4) (i : Fin n) (x : Fin 256), j = ix2 (⟨b * n + i, by have := b.isLt; have := i.isLt; nlinarith⟩ : Fin t) (⟨h * 256 + x, by omega⟩ : Fin 1024) := by
  have h0 : (j 0).val < t := (j 0).isLt
  have h1 : (j 1).val < 1024 := (j 1).isLt
  have hn : 0 < n := by omega
  refine ⟨⟨(j 0).val / n, Nat.div_lt_of_lt_mul (by omega)⟩, ⟨(j 1).val / 256, by omega⟩, ⟨(j 0).val % n, Nat.mod_lt _ hn⟩, ⟨(j 1).val % 256, by omega⟩, ?_⟩
  funext a
  apply Fin.ext
  match a with
  | ⟨0, _⟩ => exact (Nat.div_add_mod' (j 0).val n).symm
  | ⟨1, _⟩ => exact (Nat.div_add_mod' (j 1).val 256).symm

end Cert.AttnGrad

end
-- ==== Proof.Ffn.GateMath.lean ====
/-
  The gate of the feed-forward layer: the kernel takes the logistic function from a hyperbolic tangent, and the derivative of
  t ↦ t · σ(t) as σ(t) · (1 + t · (1 − σ(t))); the reference adds the two terms of the product rule.
-/
module

public import proofs.«01_k».proof.Proof.Xa.Math

@[expose] public section

noncomputable section

namespace Cert.Gate

open Idealize.ShloMosaic Cert.AttnGrad

def half : EReal := Ideal.ofBits .f32 0x3F000000#32
def one : EReal := Ideal.ofBits .f32 0x3F800000#32

theorem half_eq : half = ((1 / 2 : ℝ) : EReal) := by
  simp [half, Ideal.ofBits, Ideal.ieee]
  rw [← EReal.coe_mul]
  norm_num

theorem one_eq : one = 1 := by
  simp [one, Ideal.ofBits, Ideal.ieee]
  rw [← EReal.coe_mul]
  norm_num

/-- The kernel's logistic function, and the reference's. -/
def sigK (t : EReal) : EReal := half * Ideal.tanh (half * t) + half
def sigR (t : EReal) : EReal := Ideal.div one (one + Ideal.exp (-t))

theorem tanh_half (r : ℝ) : 1 / 2 * Real.tanh (1 / 2 * r) + 1 / 2 = (1 + Real.exp (-r))⁻¹ := by
  have h : Real.exp (-r) = (Real.exp (1 / 2 * r))⁻¹ * (Real.exp (1 / 2 * r))⁻¹ := by
    rw [← Real.exp_neg, ← Real.exp_add]
    congr 1
    ring
  rw [Real.tanh_eq_sinh_div_cosh, Real.sinh_eq, Real.cosh_eq, h, Real.exp_neg]
  have hp := Real.exp_pos (1 / 2 * r)
  generalize Real.exp (1 / 2 * r) = e at hp
  field_simp
  ring

theorem sigR_eq (t : EReal) : sigR t = Ideal.logistic t := by
  unfold sigR
  rw [one_eq]
  rfl

/-- The two logistic functions agree on all extended reals. -/
theorem sigK_eq (t : EReal) : sigK t = sigR t := by
  rw [sigR_eq]
  unfold sigK
  rw [half_eq]
  induction t with
  | bot =>
    rw [EReal.coe_mul_bot_of_pos (by norm_num), Ideal.tanh_bot, Ideal.logistic_bot, ← EReal.coe_one, ← EReal.coe_neg, ← EReal.coe_mul, ← EReal.coe_add]
    norm_num
  | coe r => rw [← EReal.coe_mul, Ideal.tanh_coe, Ideal.logistic_coe, ← EReal.coe_mul, ← EReal.coe_add, tanh_half]
  | top =>
    rw [EReal.coe_mul_top_of_pos (by norm_num), Ideal.tanh_top, Ideal.logistic_top, mul_one, ← EReal.coe_add, ← EReal.coe_one]
    norm_num

/-- The gradient of the gate's argument and of the other factor, from the gradient `d` of the hidden product: the kernel's. -/
def gateK (d t u : EReal) : EReal := d * u * (sigK t * (one + t * (one - sigK t)))
def upK (d t : EReal) : EReal := d * (t * sigK t)
/-- The reference's. -/
def gateR (d t u : EReal) : EReal := d * u * sigR t + t * (d * u) * (sigR t * (one - sigR t))
def upR (d t : EReal) : EReal := t * sigR t * d

theorem upK_eq (d t : EReal) : upK d t = upR d t := by
  unfold upK upR
  rw [sigK_eq, mul_comm]

theorem gateK_eq {d u : EReal} (hd : Fin' d) (hu : Fin' u) (t : EReal) : gateK d t u = gateR d t u := by
  unfold gateK gateR
  obtain ⟨c, hc⟩ := (hd.mul hu).coe
  rw [sigK_eq, one_eq, hc, sigR_eq]
  have h11 : (1 : EReal) - 1 = 0 := by rw [← EReal.coe_one, ← EReal.coe_sub, sub_self, EReal.coe_zero]
  induction t with
  | bot => simp
  | coe r =>
    rw [Ideal.logistic_coe]
    generalize (1 + Real.exp (-r))⁻¹ = a
    rw [← EReal.coe_one]
    simp only [← EReal.coe_sub, ← EReal.coe_mul, ← EReal.coe_add]
    congr 1
    ring
  | top => simp [h11]

end Cert.Gate

end
-- ==== Proof.Ffn.HiddenBlock.lean ====
/-
  The hidden layer's forward product, one block of 512 rows and 1408 columns: the gate's argument, the other factor and the
  gated product. The kernel forms them in three pieces of 384, 512 and 512 columns, and each piece holds the same function of
  the block's inputs.
-/
module

public import proofs.«01_k».proof.Proof.Gen.Kernel5Ideal.Value
public import proofs.«01_k».proof.Proof.Ffn.GateMath
public import Idealize.ShloMosaic.Lib.Pointwise
public import Idealize.ShloMosaic.Lib.Pipeline.ValueKit
public import Idealize.ShloMosaic.Lib.Tactic

@[expose] public section

set_option maxRecDepth 16384

noncomputable section

namespace Cert.Kernel5Ideal.Ffn

open Cert.Kernel5Ideal Cert.Kernel5Ideal.Gen Cert.Kernel5Ideal.Value Idealize.ShloMosaic Idealize.ShloMosaic.TcCoe Idealize.SL.Sem Idealize.ShloMosaic.Pointwise Cert.Gate
open Idealize.ShloMosaic.Pipeline (Dat)

/-- The gated product of the gate's argument and the other factor, as the kernel forms it. -/
def gated (t u : EReal) : EReal := t * sigK t * u

/-! The payloads of the three pieces, read at an index. -/

section
variable (x x' : Vec Ideal S512x1024 .bf16) (w v : Vec Ideal S384x1024 .bf16) (r : Fin 512) (s : Fin 384)

theorem pay5_apply : k0_pay5 x w (ix2 r s) = ∑ k : Fin 1024, x (ix2 r k) * w (ix2 s k) := by
  pointwise [k0_pay5, k0_pay3]

theorem pay6_apply : k0_pay6 x v (ix2 r s) = ∑ k : Fin 1024, x (ix2 r k) * v (ix2 s k) := by
  pointwise [k0_pay6, k0_pay4]

theorem pay7_apply : k0_pay7 x w x' v (ix2 r s)
    = gated (∑ k : Fin 1024, x (ix2 r k) * w (ix2 s k)) (∑ k : Fin 1024, x' (ix2 r k) * v (ix2 s k)) := by
  pointwise [k0_pay7, k0_pay3, k0_pay4]
  rfl
end

section
variable (x x' : Vec Ideal S512x1024 .bf16) (w v : Vec Ideal S512x1024 .bf16) (r s : Fin 512)

theorem pay10_apply : k0_pay10 (k0_pay8 x w) (ix2 r s) = ∑ k : Fin 1024, x (ix2 r k) * w (ix2 s k) := by
  pointwise [k0_pay10, k0_pay8]

theorem pay11_apply : k0_pay11 x v (ix2 r s) = ∑ k : Fin 1024, x (ix2 r k) * v (ix2 s k) := by
  pointwise [k0_pay11, k0_pay9]

theorem pay12_apply : k0_pay12 (k0_pay8 x w) x' v (ix2 r s)
    = gated (∑ k : Fin 1024, x (ix2 r k) * w (ix2 s k)) (∑ k : Fin 1024, x' (ix2 r k) * v (ix2 s k)) := by
  pointwise [k0_pay12, k0_pay8, k0_pay9]
  rfl

theorem pay16_apply : k0_pay16 x w (ix2 r s) = ∑ k : Fin 1024, x (ix2 r k) * w (ix2 s k) := by
  pointwise [k0_pay16, k0_pay13]

theorem pay1_apply : k0_pay1 (k0_pay14 x v) (ix2 r s) = ∑ k : Fin 1024, x (ix2 r k) * v (ix2 s k) := by
  pointwise [k0_pay1, k0_pay14]

theorem pay2_apply : k0_pay2 (k0_pay15 x w x' v) (ix2 r s)
    = gated (∑ k : Fin 1024, x (ix2 r k) * w (ix2 s k)) (∑ k : Fin 1024, x' (ix2 r k) * v (ix2 s k)) := by
  pointwise [k0_pay2, k0_pay15, k0_pay13, k0_pay14]
  rfl
end

/-- A product of the rows of `x` with the rows of `w`, in a block. -/
def hid (x : Vec Ideal S512x1024 .bf16) (w : Vec Ideal S1408x1024 .bf16) : Vec Ideal S512x1408 .bf16 :=
  fun y => ∑ k : Fin 1024, x (ix2 (y 0 : Fin 512) k) * w (ix2 (y 1 : Fin 1408) k)

/-- The block of the gated product, as a function of the block's inputs. -/
def actB (x : Vec Ideal S512x1024 .bf16) (w v : Vec Ideal S1408x1024 .bf16) : Vec Ideal S512x1408 .bf16 :=
  fun y => gated (hid x w y) (hid x v y)

/-- The three pieces cover the block. -/
theorem covered (y : S512x1408.Idx) : y ∈ (Rect.unit (s := S512x1408) ![0, 896] ![512, 512] inb_S512x1408_S512x512_0_896).set
    ∨ y ∈ (Rect.unit (s := S512x1408) ![0, 384] ![512, 512] inb_S512x1408_S512x512_0_384).set
    ∨ y ∈ (Rect.unit (s := S512x1408) ![0, 0] ![512, 384] inb_S512x1408_S512x384_0_0).set := by
  have h0 : (y 0).val < 512 := (y 0).isLt
  have h1 : (y 1).val < 1408 := (y 1).isLt
  by_cases c1 : 896 ≤ (y 1).val
  · exact .inl (Rect.mem_set_unit.2 fun a => match a with
      | ⟨0, _⟩ => show 0 ≤ (y 0).val ∧ (y 0).val < 0 + 512 by omega
      | ⟨1, _⟩ => show 896 ≤ (y 1).val ∧ (y 1).val < 896 + 512 by omega)
  · by_cases c2 : 384 ≤ (y 1).val
    · exact .inr (.inl (Rect.mem_set_unit.2 fun a => match a with
        | ⟨0, _⟩ => show 0 ≤ (y 0).val ∧ (y 0).val < 0 + 512 by omega
        | ⟨1, _⟩ => show 384 ≤ (y 1).val ∧ (y 1).val < 384 + 512 by omega))
    · exact .inr (.inr (Rect.mem_set_unit.2 fun a => match a with
        | ⟨0, _⟩ => show 0 ≤ (y 0).val ∧ (y 0).val < 0 + 512 by omega
        | ⟨1, _⟩ => show 0 ≤ (y 1).val ∧ (y 1).val < 0 + 384 by omega))

section
variable (x : Vec Ideal S512x1024 .bf16) (w : Vec Ideal S1408x1024 .bf16)

/-- The hidden product at an index of a piece: the piece's own product of the rows of `w` it loads. -/
theorem hid_piece {n o : ℕ} (inb : ∀ a, (![0, o] : Fin 2 → ℕ) a + (![512, n] : Fin 2 → ℕ) a ≤ S512x1408.size a)
    (inw : ∀ a, (![o, 0] : Fin 2 → ℕ) a + (![n, 1024] : Fin 2 → ℕ) a ≤ S1408x1024.size a) (r : Fin 512) (s : Fin n) :
    (∑ k : Fin 1024, x (ix2 r k) * View.ld w (Rect.unit ![o, 0] ![n, 1024] inw) (ix2 s k))
      = hid x w ((Rect.unit (s := S512x1408) ![0, o] ![512, n] inb).emb (ix2 r s)) := by
  unfold hid
  refine Finset.sum_congr rfl fun k _ => congrArg₂ (· * ·) (congrArg x ?_) (congrArg w ?_)
  · funext a
    apply Fin.ext
    match a with
    | ⟨0, _⟩ => show r.val = 0 + 1 * r.val; omega
    | ⟨1, _⟩ => rfl
  · funext a
    apply Fin.ext
    match a with
    | ⟨0, _⟩ => rfl
    | ⟨1, _⟩ => show 0 + 1 * k.val = k.val; omega
end

section
variable (c : Dev nD) (i : grid0.Coords)
  (a3 : Memref sig .tc .vmem S512x1024 .bf16) (h3 : a3.IsWhole) (a4 : Memref sig .tc .vmem S1408x1024 .bf16) (h4 : a4.IsWhole)
  (a5 : Memref sig .tc .vmem S1408x1024 .bf16) (h5 : a5.IsWhole) (a6 : Memref sig .tc .vmem S512x1408 .bf16) (h6 : a6.IsWhole)
  (a7 : Memref sig .tc .vmem S512x1408 .bf16) (h7 : a7.IsWhole) (a8 : Memref sig .tc .vmem S512x1408 .bf16) (h8 : a8.IsWhole)
  (x : Vec Ideal S512x1024 .bf16) (w v : Vec Ideal S1408x1024 .bf16) (y : S512x1408.Idx)

/-- The block of the gate's argument. -/
theorem out_gate : out0_A_3 (F := Ideal) c i a3 h3 a4 h4 a5 h5 a6 h6 a7 h7 a8 h8 x w v y = hid x w y := by
  frame_out
  refine View.canon_apply_of_pieces (hid x w) _ (fun p hp z => ?_) y ?_
  · simp only [List.mem_cons, List.not_mem_nil, or_false] at hp
    rcases hp with rfl | rfl | rfl
    · obtain ⟨r, s, rfl⟩ : ∃ (r : Fin 512) (s : Fin 512), z = ix2 r s := ⟨z 0, z 1, by funext a; match a with | ⟨0, _⟩ => rfl | ⟨1, _⟩ => rfl⟩
      refine (pay16_apply _ _ r s).trans ?_
      rw [hid_piece (n := 512) (o := 896) x w inb_S512x1408_S512x512_0_896]
    · obtain ⟨r, s, rfl⟩ : ∃ (r : Fin 512) (s : Fin 512), z = ix2 r s := ⟨z 0, z 1, by funext a; match a with | ⟨0, _⟩ => rfl | ⟨1, _⟩ => rfl⟩
      refine (pay10_apply _ _ r s).trans ?_
      rw [hid_piece (n := 512) (o := 384) x w inb_S512x1408_S512x512_0_384]
    · obtain ⟨r, s, rfl⟩ : ∃ (r : Fin 512) (s : Fin 384), z = ix2 r s := ⟨z 0, z 1, by funext a; match a with | ⟨0, _⟩ => rfl | ⟨1, _⟩ => rfl⟩
      refine (pay5_apply _ _ r s).trans ?_
      rw [hid_piece (n := 384) (o := 0) x w inb_S512x1408_S512x384_0_0]
  · rcases covered y with h | h | h
    · exact ⟨_, .head _, h⟩
    · exact ⟨_, .tail _ (.head _), h⟩
    · exact ⟨_, .tail _ (.tail _ (.head _)), h⟩

/-- The block of the other factor. -/
theorem out_up : out0_A_4 (F := Ideal) c i a3 h3 a4 h4 a5 h5 a6 h6 a7 h7 a8 h8 x w v y = hid x v y := by
  frame_out
  refine View.canon_apply_of_pieces (hid x v) _ (fun p hp z => ?_) y ?_
  · simp only [List.mem_cons, List.not_mem_nil, or_false] at hp
    rcases hp with rfl | rfl | rfl
    · obtain ⟨r, s, rfl⟩ : ∃ (r : Fin 512) (s : Fin 512), z = ix2 r s := ⟨z 0, z 1, by funext a; match a with | ⟨0, _⟩ => rfl | ⟨1, _⟩ => rfl⟩
      refine (pay1_apply _ _ r s).trans ?_
      rw [hid_piece (n := 512) (o := 896) x v inb_S512x1408_S512x512_0_896]
    · obtain ⟨r, s, rfl⟩ : ∃ (r : Fin 512) (s : Fin 512), z = ix2 r s := ⟨z 0, z 1, by funext a; match a with | ⟨0, _⟩ => rfl | ⟨1, _⟩ => rfl⟩
      refine (pay11_apply _ _ r s).trans ?_
      rw [hid_piece (n := 512) (o := 384) x v inb_S512x1408_S512x512_0_384]
    · obtain ⟨r, s, rfl⟩ : ∃ (r : Fin 512) (s : Fin 384), z = ix2 r s := ⟨z 0, z 1, by funext a; match a with | ⟨0, _⟩ => rfl | ⟨1, _⟩ => rfl⟩
      refine (pay6_apply _ _ r s).trans ?_
      rw [hid_piece (n := 384) (o := 0) x v inb_S512x1408_S512x384_0_0]
  · rcases covered y with h | h | h
    · exact ⟨_, .head _, h⟩
    · exact ⟨_, .tail _ (.head _), h⟩
    · exact ⟨_, .tail _ (.tail _ (.head _)), h⟩

/-- The block of the gated product. -/
theorem out_act : out0_A_5 (F := Ideal) c i a3 h3 a4 h4 a5 h5 a6 h6 a7 h7 a8 h8 x w v y = gated (hid x w y) (hid x v y) := by
  frame_out
  refine View.canon_apply_of_pieces (actB x w v) _ (fun p hp z => ?_) y ?_
  · simp only [List.mem_cons, List.not_mem_nil, or_false] at hp
    rcases hp with rfl | rfl | rfl
    · obtain ⟨r, s, rfl⟩ : ∃ (r : Fin 512) (s : Fin 512), z = ix2 r s := ⟨z 0, z 1, by funext a; match a with | ⟨0, _⟩ => rfl | ⟨1, _⟩ => rfl⟩
      refine (pay2_apply _ _ _ _ r s).trans ?_
      rw [hid_piece (n := 512) (o := 896) x w inb_S512x1408_S512x512_0_896]
      rw [hid_piece (n := 512) (o := 896) x v inb_S512x1408_S512x512_0_896]
      rfl
    · obtain ⟨r, s, rfl⟩ : ∃ (r : Fin 512) (s : Fin 512), z = ix2 r s := ⟨z 0, z 1, by funext a; match a with | ⟨0, _⟩ => rfl | ⟨1, _⟩ => rfl⟩
      refine (pay12_apply _ _ _ _ r s).trans ?_
      rw [hid_piece (n := 512) (o := 384) x w inb_S512x1408_S512x512_0_384]
      rw [hid_piece (n := 512) (o := 384) x v inb_S512x1408_S512x512_0_384]
      rfl
    · obtain ⟨r, s, rfl⟩ : ∃ (r : Fin 512) (s : Fin 384), z = ix2 r s := ⟨z 0, z 1, by funext a; match a with | ⟨0, _⟩ => rfl | ⟨1, _⟩ => rfl⟩
      refine (pay7_apply _ _ _ _ r s).trans ?_
      rw [hid_piece (n := 384) (o := 0) x w inb_S512x1408_S512x384_0_0]
      rw [hid_piece (n := 384) (o := 0) x v inb_S512x1408_S512x384_0_0]
      rfl
  · rcases covered y with h | h | h
    · exact ⟨_, .head _, h⟩
    · exact ⟨_, .tail _ (.head _), h⟩
    · exact ⟨_, .tail _ (.tail _ (.head _)), h⟩

end

end Cert.Kernel5Ideal.Ffn

end
-- ==== Proof.Ffn.Hidden.lean ====
/-
  The hidden layer's forward product: the three arrays that the kernel leaves, the reference's three results, and that they
  agree on all extended reals.
-/
module

public import proofs.«01_k».proof.Defs
public import proofs.«01_k».proof.Proof.Ffn.HiddenBlock
public import proofs.«01_k».proof.Proof.Gen.Reference5Ideal.Run
public import proofs.«01_k».proof.Proof.Gen.Reference5Ideal.Read

@[expose] public section

set_option maxRecDepth 16384

noncomputable section

namespace Cert.Kernel5Ideal.Ffn

open Cert.Kernel5Ideal Cert.Kernel5Ideal.Gen Cert.Kernel5Ideal.Value Idealize.ShloMosaic Idealize.ShloMosaic.TcCoe Idealize.SL.Sem Idealize.ShloMosaic.Pointwise Cert.Gate
open Idealize.ShloMosaic.Pipeline (Dat)

variable (m : (ℓ : Loc nD τ sig) → Buf (Elt Ideal) ℓ) (c : Dev nD)

theorem ind : ∀ t : Fin cfg0.N,
    (win0_0.index t 0 = t.val % 8 ∧ win0_0.index t 1 = 0) ∧ (win0_1.index t 0 = t.val / 8 ∧ win0_1.index t 1 = 0) ∧ (win0_2.index t 0 = t.val / 8 ∧ win0_2.index t 1 = 0)
    ∧ (win0_3.index t 0 = t.val % 8 ∧ win0_3.index t 1 = t.val / 8) ∧ (win0_4.index t 0 = t.val % 8 ∧ win0_4.index t 1 = t.val / 8) ∧ (win0_5.index t 0 = t.val % 8 ∧ win0_5.index t 1 = t.val / 8) :=
  (by decide +kernel : ∀ t : Fin grid0.N,
    (win0_0.index t 0 = t.val % 8 ∧ win0_0.index t 1 = 0) ∧ (win0_1.index t 0 = t.val / 8 ∧ win0_1.index t 1 = 0) ∧ (win0_2.index t 0 = t.val / 8 ∧ win0_2.index t 1 = 0)
    ∧ (win0_3.index t 0 = t.val % 8 ∧ win0_3.index t 1 = t.val / 8) ∧ (win0_4.index t 0 = t.val % 8 ∧ win0_4.index t 1 = t.val / 8) ∧ (win0_5.index t 0 = t.val % 8 ∧ win0_5.index t 1 = t.val / 8))

/-- The array's index at an index of a grid point's block. -/
def at' (t : Fin cfg0.N) (r : Fin 512) (s : Fin 1408) : S4096x2816.Idx :=
  ix2 (⟨t.val % 8 * 512 + r, by omega⟩ : Fin 4096) (⟨t.val / 8 * 1408 + s, by have : t.val < 16 := t.isLt; omega⟩ : Fin 2816)

/-- A product of the rows of `x` with the rows of `w`, at an index of the array. -/
def hidden (x : S4096x1024.Idx → EReal) (w : S2816x1024.Idx → EReal) (p : Fin 4096) (q : Fin 2816) : EReal :=
  ∑ k : Fin 1024, x (ix2 p k) * w (ix2 q k)

theorem iblk0 (t : Fin cfg0.N) (r : Fin 512) (k : Fin 1024) :
    iblk m c 0 t (ix2 r k) = m ((c : Thread nD τ).loc main_arg0) (ix2 (⟨t.val % 8 * 512 + r, by omega⟩ : Fin 4096) k) := by
  have e := (ind t).1
  unfold iblk
  rw [View.read_apply]
  show V m c main_arg0 _ = _
  unfold V
  congr 1
  funext a
  apply Fin.ext
  match a with
  | ⟨0, _⟩ => show win0_0.index t 0 * 512 + 1 * r.val = t.val % 8 * 512 + r.val; rw [e.1]; omega
  | ⟨1, _⟩ => show win0_0.index t 1 * 1024 + 1 * k.val = k.val; rw [e.2]; omega

theorem iblk1 (t : Fin cfg0.N) (s : Fin 1408) (k : Fin 1024) :
    iblk m c 1 t (ix2 s k) = m ((c : Thread nD τ).loc main_arg1) (ix2 (⟨t.val / 8 * 1408 + s, by have : t.val < 16 := t.isLt; omega⟩ : Fin 2816) k) := by
  have e := (ind t).2.1
  unfold iblk
  rw [View.read_apply]
  show V m c main_arg1 _ = _
  unfold V
  congr 1
  funext a
  apply Fin.ext
  match a with
  | ⟨0, _⟩ => show win0_1.index t 0 * 1408 + 1 * s.val = t.val / 8 * 1408 + s.val; rw [e.1]; omega
  | ⟨1, _⟩ => show win0_1.index t 1 * 1024 + 1 * k.val = k.val; rw [e.2]; omega

theorem iblk2 (t : Fin cfg0.N) (s : Fin 1408) (k : Fin 1024) :
    iblk m c 2 t (ix2 s k) = m ((c : Thread nD τ).loc main_arg2) (ix2 (⟨t.val / 8 * 1408 + s, by have : t.val < 16 := t.isLt; omega⟩ : Fin 2816) k) := by
  have e := (ind t).2.2.1
  unfold iblk
  rw [View.read_apply]
  show V m c main_arg2 _ = _
  unfold V
  congr 1
  funext a
  apply Fin.ext
  match a with
  | ⟨0, _⟩ => show win0_2.index t 0 * 1408 + 1 * s.val = t.val / 8 * 1408 + s.val; rw [e.1]; omega
  | ⟨1, _⟩ => show win0_2.index t 1 * 1024 + 1 * k.val = k.val; rw [e.2]; omega

/-- The product of a point's blocks is the arrays' at the block's place. -/
theorem hid_iblk1 (t : Fin cfg0.N) (r : Fin 512) (s : Fin 1408) :
    hid (iblk m c 0 t) (iblk m c 1 t) (ix2 r s)
      = hidden (m ((c : Thread nD τ).loc main_arg0)) (m ((c : Thread nD τ).loc main_arg1)) ⟨t.val % 8 * 512 + r, by omega⟩
          ⟨t.val / 8 * 1408 + s, by have : t.val < 16 := t.isLt; omega⟩ :=
  Finset.sum_congr rfl fun k _ => congrArg₂ (· * ·) (iblk0 m c t r k) (iblk1 m c t s k)

/-- The product of a point's blocks is the arrays' at the block's place. -/
theorem hid_iblk2 (t : Fin cfg0.N) (r : Fin 512) (s : Fin 1408) :
    hid (iblk m c 0 t) (iblk m c 2 t) (ix2 r s)
      = hidden (m ((c : Thread nD τ).loc main_arg0)) (m ((c : Thread nD τ).loc main_arg2)) ⟨t.val % 8 * 512 + r, by omega⟩
          ⟨t.val / 8 * 1408 + s, by have : t.val < 16 := t.isLt; omega⟩ :=
  Finset.sum_congr rfl fun k _ => congrArg₂ (· * ·) (iblk0 m c t r k) (iblk2 m c t s k)

/-- Every index of the array lies in a grid point's block. -/
theorem exists_at (p : Fin 4096) (q : Fin 2816) : ∃ (t : Fin cfg0.N) (r : Fin 512) (s : Fin 1408),
    p = ⟨t.val % 8 * 512 + r, by omega⟩ ∧ q = ⟨t.val / 8 * 1408 + s, by have : t.val < 16 := t.isLt; omega⟩ :=
  ⟨⟨q.val / 1408 * 8 + p.val / 512, show _ < 16 by omega⟩, ⟨p.val % 512, by omega⟩, ⟨q.val % 1408, by omega⟩,
    Fin.ext (show p.val = (q.val / 1408 * 8 + p.val / 512) % 8 * 512 + p.val % 512 by omega),
    Fin.ext (show q.val = (q.val / 1408 * 8 + p.val / 512) / 8 * 1408 + q.val % 1408 by omega)⟩

/-- The array of the gate's argument. -/
theorem arr3 (p : Fin 4096) (q : Fin 2816) : (dats m 0 c).arrAt 3 cfg0.N (ix2 p q) = hidden (m ((c : Thread nD τ).loc main_arg0)) (m ((c : Thread nD τ).loc main_arg1)) p q := by
  obtain ⟨t, r, s, hp, hq⟩ := exists_at p q
  have hb := congrFun (blocks3 m c t (flush0_3 _)) (ix2 r s)
  rw [View.read_apply, flushed3_A] at hb
  have e := (ind t).2.2.2.1
  have hi : ((cfg0.win 3).blk t).view.emb (ix2 r s) = at' t r s := by
    funext a
    apply Fin.ext
    match a with
    | ⟨0, _⟩ => show win0_3.index t 0 * 512 + 1 * r.val = t.val % 8 * 512 + r.val; rw [e.1]; omega
    | ⟨1, _⟩ => show win0_3.index t 1 * 1408 + 1 * s.val = t.val / 8 * 1408 + s.val; rw [e.2]; omega
  rw [hi] at hb
  rw [hp, hq]
  refine hb.trans ((out_gate c _ _ _ _ _ _ _ _ _ _ _ _ _ _ _ _ (ix2 r s)).trans ?_)
  rw [hid_iblk1]

/-- The array of the other factor. -/
theorem arr4 (p : Fin 4096) (q : Fin 2816) : (dats m 0 c).arrAt 4 cfg0.N (ix2 p q) = hidden (m ((c : Thread nD τ).loc main_arg0)) (m ((c : Thread nD τ).loc main_arg2)) p q := by
  obtain ⟨t, r, s, hp, hq⟩ := exists_at p q
  have hb := congrFun (blocks4 m c t (flush0_4 _)) (ix2 r s)
  rw [View.read_apply, flushed4_A] at hb
  have e := (ind t).2.2.2.2.1
  have hi : ((cfg0.win 4).blk t).view.emb (ix2 r s) = at' t r s := by
    funext a
    apply Fin.ext
    match a with
    | ⟨0, _⟩ => show win0_4.index t 0 * 512 + 1 * r.val = t.val % 8 * 512 + r.val; rw [e.1]; omega
    | ⟨1, _⟩ => show win0_4.index t 1 * 1408 + 1 * s.val = t.val / 8 * 1408 + s.val; rw [e.2]; omega
  rw [hi] at hb
  rw [hp, hq]
  refine hb.trans ((out_up c _ _ _ _ _ _ _ _ _ _ _ _ _ _ _ _ (ix2 r s)).trans ?_)
  rw [hid_iblk2]

/-- The array of the gated product. -/
theorem arr5 (p : Fin 4096) (q : Fin 2816) : (dats m 0 c).arrAt 5 cfg0.N (ix2 p q) = gated (hidden (m ((c : Thread nD τ).loc main_arg0)) (m ((c : Thread nD τ).loc main_arg1)) p q)
    (hidden (m ((c : Thread nD τ).loc main_arg0)) (m ((c : Thread nD τ).loc main_arg2)) p q) := by
  obtain ⟨t, r, s, hp, hq⟩ := exists_at p q
  have hb := congrFun (blocks5 m c t (flush0_5 _)) (ix2 r s)
  rw [View.read_apply, flushed5_A] at hb
  have e := (ind t).2.2.2.2.2
  have hi : ((cfg0.win 5).blk t).view.emb (ix2 r s) = at' t r s := by
    funext a
    apply Fin.ext
    match a with
    | ⟨0, _⟩ => show win0_5.index t 0 * 512 + 1 * r.val = t.val % 8 * 512 + r.val; rw [e.1]; omega
    | ⟨1, _⟩ => show win0_5.index t 1 * 1408 + 1 * s.val = t.val / 8 * 1408 + s.val; rw [e.2]; omega
  rw [hi] at hb
  rw [hp, hq]
  refine hb.trans ((out_act c _ _ _ _ _ _ _ _ _ _ _ _ _ _ _ _ (ix2 r s)).trans ?_)
  rw [hid_iblk1, hid_iblk2]

end Cert.Kernel5Ideal.Ffn

namespace Cert.HiddenClaim

open Idealize.ShloMosaic Idealize.SL.Sem Idealize.ShloMosaic.Pointwise Cert.Reference5Ideal Cert.Reference5Ideal.Read Cert.Gate
open Cert.Kernel5Ideal.Ffn (hidden gated)

section
variable (x0 : (⟨S4096x1024, .bf16⟩ : BufTy).Contents (Elt Ideal)) (x1 x2 : (⟨S2816x1024, .bf16⟩ : BufTy).Contents (Elt Ideal))
  (p : Fin 4096) (q : Fin 2816)

theorem v3_apply : val_main_v3 x0 x1 (ix2 p q) = hidden x0 x1 p q := by
  pointwise [val_main_v3, val_main_v2, val_main_v1, val_main_v0]
  rfl

theorem v7_apply : val_main_v7 x0 x2 (ix2 p q) = hidden x0 x2 p q := by
  pointwise [val_main_v7, val_main_v6, val_main_v5, val_main_v4]
  rfl

theorem v4_apply : val_main_call0_v5 x0 x1 (ix2 p q) = sigR (hidden x0 x1 p q) := by
  rw [← v3_apply]
  pointwise [val_main_call0_v5, val_main_call0_v4, val_main_call0_v3, val_main_call0_v2, val_main_call0_v1, val_main_call0_v0, val_main_call0_cst, val_main_call0_cst_0]
  rw [show (1 : EReal) = one from one_eq.symm]
  rfl

theorem v12_apply : val_main_v12 x0 x1 x2 (ix2 p q) = gated (hidden x0 x1 p q) (hidden x0 x2 p q) := by
  unfold gated
  rw [sigK_eq, ← v4_apply, ← v3_apply, ← v7_apply]
  rfl
end

/-- Kernel and reference compute the same three arrays. -/
theorem algebraic :
    Cert.algebraic_Kernel5Ideal_Reference5Ideal (hKernel5Ideal := Cert.Kernel5Ideal.Gen.facts)
      (hReference5Ideal := Cert.Reference5Ideal.Gen.facts) := by
  intro m g m' g' _ harg
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks m g, (θ_run _ _ _).mono (fun r h c => ?_) (Cert.Reference5Ideal.Value.run m' g')⟩
  obtain ⟨h0, h1, h2, hr⟩ := h c
  obtain ⟨e0, e1, e2⟩ := harg c
  refine ⟨h0.trans ?_, h1.trans ?_, h2.trans ?_, hr⟩
  · rw [Cert.Reference5Ideal.Read.val_main_v8_eq, e0, e1]
    funext j
    obtain ⟨p, q, rfl⟩ : ∃ (p : Fin 4096) (q : Fin 2816), j = ix2 p q := ⟨j 0, j 1, by funext a; match a with | ⟨0, _⟩ => rfl | ⟨1, _⟩ => rfl⟩
    exact (v3_apply _ _ p q).trans (Cert.Kernel5Ideal.Ffn.arr3 m c p q).symm
  · rw [Cert.Reference5Ideal.Read.val_main_v9_eq, e0, e2]
    funext j
    obtain ⟨p, q, rfl⟩ : ∃ (p : Fin 4096) (q : Fin 2816), j = ix2 p q := ⟨j 0, j 1, by funext a; match a with | ⟨0, _⟩ => rfl | ⟨1, _⟩ => rfl⟩
    exact (v7_apply _ _ p q).trans (Cert.Kernel5Ideal.Ffn.arr4 m c p q).symm
  · rw [Cert.Reference5Ideal.Read.val_main_v12_eq, e0, e1, e2]
    funext j
    obtain ⟨p, q, rfl⟩ : ∃ (p : Fin 4096) (q : Fin 2816), j = ix2 p q := ⟨j 0, j 1, by funext a; match a with | ⟨0, _⟩ => rfl | ⟨1, _⟩ => rfl⟩
    exact (v12_apply _ _ _ p q).trans (Cert.Kernel5Ideal.Ffn.arr5 m c p q).symm

end Cert.HiddenClaim

end
-- ==== Proof.Ffn.NormMath.lean ====
/-
  The gradient of a row's root-mean-square norm, in two forms: the kernel's, with the normalised row formed first, and the
  reference's, through the reciprocal root, the mean and the square one by one. They agree on all extended reals: a row that
  holds an infinite entry has the reciprocal root 0, and then both are the gradient that came through the residual.
-/
module

public import proofs.«01_k».proof.Proof.Xa.Math

@[expose] public section

noncomputable section

namespace Cert.Norm

open Idealize.ShloMosaic Cert.AttnGrad

def width : EReal := Ideal.ofBits .f32 0x44800000#32
def eps : EReal := Ideal.ofBits .f32 0x358637BD#32
def mhalf : EReal := Ideal.ofBits .f32 0xBF000000#32

theorem width_eq : width = ((1024 : ℝ) : EReal) := by
  simp [width, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_eq : ∃ e : ℝ, 0 < e ∧ eps = e := by
  refine ⟨8796093 * (2 ^ 43)⁻¹, by positivity, ?_⟩
  simp [eps, Ideal.ofBits, Ideal.ieee]

variable {n : ℕ}

/-- The mean of the squares, `w` the number of entries, plus the small constant; and its reciprocal root. -/
def var (w : EReal) (x : Fin n → EReal) : EReal := Ideal.div (∑ k, x k * x k) w + eps
def root (w : EReal) (x : Fin n → EReal) : EReal := Ideal.rsqrt (var w x)

/-- The gradient of the row, `a` the gradient of the normalised row and `y` the one that came through the residual. -/
def dxK (w : EReal) (a x : Fin n → EReal) (y : EReal) (j : Fin n) : EReal :=
  root w x * (a j - x j * root w x * Ideal.div (∑ k, a k * (x k * root w x)) w) + y

def coef (w : EReal) (a x : Fin n → EReal) : EReal := Ideal.div ((∑ k, x k * a k) * (mhalf * Ideal.div (root w x) (var w x))) w

def dxR (w : EReal) (a x : Fin n → EReal) (y : EReal) (j : Fin n) : EReal :=
  y + a j * root w x + x j * coef w a x + coef w a x * x j

variable {w : EReal} {b : ℝ}

/-- A row with an infinite entry has the variance `⊤`. -/
theorem var_top (hw : w = (b : EReal)) (hb : 0 < b) (x : Fin n → EReal) (h : ¬ ∀ k, Fin' (x k)) : var w x = ⊤ := by
  obtain ⟨k, hk⟩ := not_forall.1 h
  have hk' : x k = ⊥ ∨ x k = ⊤ := by
    unfold Fin' at hk
    by_contra hc
    exact hk (not_or.1 hc)
  have hs : (∑ k, x k * x k) = ⊤ := by
    have h0 : ∀ i, 0 ≤ x i * x i := fun i => by
      rcases le_total 0 (x i) with h | h
      · exact EReal.mul_nonneg h h
      · exact EReal.mul_nonneg_iff.2 (.inr ⟨h, h⟩)
    have h1 : x k * x k = ⊤ := by rcases hk' with h | h <;> rw [h] <;> simp
    have h2 := Finset.single_le_sum (f := fun i => x i * x i) (fun i _ => h0 i) (Finset.mem_univ k)
    simp only [h1] at h2
    exact top_le_iff.1 h2
  obtain ⟨e, he, hee⟩ := eps_eq
  rw [var, hs, hee, hw, Ideal.div]
  have : (b : EReal) ≠ 0 := by exact_mod_cast hb.ne'
  rw [if_neg this, ← EReal.coe_inv, EReal.top_mul_coe_of_pos (inv_pos.2 hb)]
  rfl

/-- A finite row has a positive real variance. -/
theorem var_coe (hw : w = (b : EReal)) (hb : 0 < b) (x : Fin n → EReal) (h : ∀ k, Fin' (x k)) : ∃ v : ℝ, 0 < v ∧ var w x = v := by
  choose g hg using fun k => (h k).coe
  obtain ⟨e, he, hee⟩ := eps_eq
  refine ⟨(∑ k, g k * g k) / b + e, ?_, ?_⟩
  · have : 0 ≤ ∑ k, g k * g k := Finset.sum_nonneg fun k _ => mul_self_nonneg _
    positivity
  · have : (b : EReal) ≠ 0 := by exact_mod_cast hb.ne'
    rw [var, hee, hw, Ideal.div, if_neg this]
    simp only [hg, ← EReal.coe_mul, coe_sum', ← EReal.coe_inv, ← EReal.coe_add, div_eq_mul_inv]

theorem add_self_mul (p : ℝ) (s : EReal) : (p : EReal) * s + (p : EReal) * s = ((2 * p : ℝ) : EReal) * s := by
  induction s with
  | coe s => rw [← EReal.coe_mul, ← EReal.coe_add, ← EReal.coe_mul]; congr 1; ring
  | top =>
    rcases lt_trichotomy p 0 with h | h | h
    · rw [EReal.coe_mul_top_of_neg h, EReal.coe_mul_top_of_neg (by linarith)]; rfl
    · simp [h]
    · rw [EReal.coe_mul_top_of_pos h, EReal.coe_mul_top_of_pos (by linarith)]; rfl
  | bot =>
    rcases lt_trichotomy p 0 with h | h | h
    · rw [EReal.coe_mul_bot_of_neg h, EReal.coe_mul_bot_of_neg (by linarith)]; rfl
    · simp [h]
    · rw [EReal.coe_mul_bot_of_pos h, EReal.coe_mul_bot_of_pos (by linarith)]; rfl

theorem div_coe (s : EReal) {b : ℝ} (hb : b ≠ 0) : Ideal.div s (b : EReal) = ((b⁻¹ : ℝ) : EReal) * s := by
  have : (b : EReal) ≠ 0 := by exact_mod_cast hb
  rw [Ideal.div, if_neg this, ← EReal.coe_inv, mul_comm]

theorem dxK_eq (hw : w = (b : EReal)) (hb : 0 < b) (a x : Fin n → EReal) (y : EReal) (j : Fin n) : dxK w a x y j = dxR w a x y j := by
  by_cases h : ∀ k, Fin' (x k)
  · obtain ⟨v, hv, hvar⟩ := var_coe hw hb x h
    obtain ⟨u, hu⟩ := (h j).coe
    have hq : 0 < Real.sqrt v := Real.sqrt_pos.2 hv
    obtain ⟨r, hr⟩ : ∃ r : ℝ, r = (Real.sqrt v)⁻¹ := ⟨_, rfl⟩
    have hr0 : 0 ≤ r := by rw [hr]; positivity
    have hroot : root w x = (r : EReal) := by
      rw [root, hvar, Ideal.rsqrt_coe, if_neg (not_lt.2 hv.le), if_neg hv.ne', hr]
    have hrr : v⁻¹ = r * r := by rw [hr, ← mul_inv, Real.mul_self_sqrt hv.le]
    have hsum : (∑ k, a k * (x k * (r : EReal))) = (r : EReal) * ∑ k, x k * a k := by
      rw [coe_mul_sum _ hr0]
      exact Finset.sum_congr rfl fun k _ => by rw [mul_comm (a k), mul_comm (x k), mul_assoc]
    have hb0 : b ≠ 0 := hb.ne'
    unfold dxK dxR coef
    rw [hroot, hsum, hvar, hu, hw, mhalf_eq, div_coe _ hv.ne', div_coe _ hb0, div_coe _ hb0]
    generalize (∑ k, x k * a k) = s
    generalize a j = d
    have e1 : ((u : EReal) * r * (((b : ℝ)⁻¹ : ℝ) * ((r : EReal) * s))) = ((u * r * ((b : ℝ)⁻¹ * r) : ℝ) : EReal) * s := by
      simp only [EReal.coe_mul, mul_assoc]
    have e2 : (((b : ℝ)⁻¹ : ℝ) : EReal) * (s * (((-(1 / 2) : ℝ) : EReal) * (((v⁻¹ : ℝ) : EReal) * r)))
        = (((b : ℝ)⁻¹ * (-(1 / 2) * (v⁻¹ * r)) : ℝ) : EReal) * s := by
      rw [mul_comm s]
      simp only [EReal.coe_mul, mul_assoc]
    rw [e1, e2, mul_comm (_ * s) (u : EReal), ← mul_assoc (u : EReal), ← EReal.coe_mul, add_assoc, add_self_mul, sub_eq_add_neg,
      EReal.left_distrib_of_nonneg_of_ne_top (EReal.coe_nonneg.2 hr0) (EReal.coe_ne_top r), ← EReal.neg_mul, ← EReal.coe_neg, ← mul_assoc, ← EReal.coe_mul,
      mul_comm d, add_comm y, add_right_comm]
    rw [show r * -(u * r * ((b : ℝ)⁻¹ * r)) = 2 * (u * ((b : ℝ)⁻¹ * (-(1 / 2) * (v⁻¹ * r)))) by rw [hrr]; ring]
  · have hr : root w x = 0 := by rw [root, var_top hw hb x h]; exact Ideal.rsqrt_top
    have hc : coef w a x = 0 := by
      rw [coef, hr, var_top hw hb x h, hw]
      have : Ideal.div 0 (⊤ : EReal) = 0 := by simp [Ideal.div]
      rw [this, mul_zero, mul_zero, div_coe _ hb.ne', mul_zero]
    rw [dxK, dxR, hr, hc]
    simp

end Cert.Norm

end
-- ==== Proof.Ffn.DownBlock.lean ====
/-
  The feed-forward layer's second product with the norm and the residual that follow it, one block of 512 rows: the kernel
  forms it in two pieces of 256 rows, and each piece holds the same function of the block's inputs.
-/
module

public import proofs.«01_k».proof.Proof.Gen.Kernel6Ideal.Value
public import proofs.«01_k».proof.Proof.Ffn.GateMath
public import proofs.«01_k».proof.Proof.Ffn.NormMath
public import Idealize.ShloMosaic.Lib.Pointwise
public import Idealize.ShloMosaic.Lib.Pipeline.ValueKit
public import Idealize.ShloMosaic.Lib.Tactic

@[expose] public section

set_option maxRecDepth 16384

noncomputable section

namespace Cert.Kernel6Ideal.Ffn

open Cert.Kernel6Ideal Cert.Kernel6Ideal.Gen Cert.Kernel6Ideal.Value Idealize.ShloMosaic Idealize.ShloMosaic.TcCoe Idealize.SL.Sem Idealize.ShloMosaic.Pointwise Cert.Gate Cert.Norm
open Idealize.ShloMosaic.Pipeline (Dat)

/-- The residual plus half of the normalised row `h`, weighted, at entry `j`. -/
def down (h : Fin 1024 → EReal) (x g : EReal) (j : Fin 1024) : EReal := x + half * (h j * root width h * g)

/-! The payloads of the two pieces, read at an index. -/

section
variable (a : Vec Ideal S256x2816 .bf16) (w : Vec Ideal S2816x1024 .bf16) (x : Vec Ideal S256x1024 .f32) (g : Vec Ideal S1x1024 .f32)
  (r : Fin 256) (j : Fin 1024)

theorem pay2_apply : k0_pay2 a w (ix2 r j) = ∑ k : Fin 2816, a (ix2 r k) * w (ix2 k j) := by
  pointwise [k0_pay2]

theorem pay4_apply : k0_pay4 a w (ix2 r j) = ∑ k : Fin 2816, a (ix2 r k) * w (ix2 k j) := by
  pointwise [k0_pay4]

theorem pay3_apply : k0_pay3 a w x g (ix2 r j)
    = down (fun j => ∑ k : Fin 2816, a (ix2 r k) * w (ix2 k j)) (x (ix2 r j)) (g (ix2 0 j)) j := by
  unfold k0_pay3 down
  pointwise
  simp only [pay2_apply]
  rfl

theorem pay1_apply : k0_pay1 (k0_pay4 a w) x (k0_pay5 g) (ix2 r j)
    = down (fun j => ∑ k : Fin 2816, a (ix2 r k) * w (ix2 k j)) (x (ix2 r j)) (g (ix2 0 j)) j := by
  unfold k0_pay1 k0_pay5 down
  pointwise
  simp only [pay4_apply]
  rfl
end

/-- The product in a block. -/
def prodB (a : Vec Ideal S512x2816 .bf16) (w : Vec Ideal S2816x1024 .bf16) : Vec Ideal S512x1024 .f32 :=
  fun y => ∑ k : Fin 2816, a (ix2 (y 0 : Fin 512) k) * w (ix2 k (y 1 : Fin 1024))

/-- The layer's result in a block. -/
def downB (a : Vec Ideal S512x2816 .bf16) (w : Vec Ideal S2816x1024 .bf16) (x : Vec Ideal S512x1024 .f32) (g : Vec Ideal S1x1024 .f32) :
    Vec Ideal S512x1024 .f32 :=
  fun y => down (fun j => prodB a w (ix2 (y 0 : Fin 512) j)) (x y) (g (ix2 0 (y 1 : Fin 1024))) (y 1)

/-- The two pieces cover the block. -/
theorem covered (y : S512x1024.Idx) : y ∈ r0_5.set ∨ y ∈ r0_2.set := by
  have h0 : (y 0).val < 512 := (y 0).isLt
  have h1 : (y 1).val < 1024 := (y 1).isLt
  by_cases c1 : 256 ≤ (y 0).val
  · exact .inl (Rect.mem_set_unit.2 fun a => match a with
      | ⟨0, _⟩ => show 256 ≤ (y 0).val ∧ (y 0).val < 256 + 256 by omega
      | ⟨1, _⟩ => show 0 ≤ (y 1).val ∧ (y 1).val < 0 + 1024 by omega)
  · exact .inr (Rect.mem_set_unit.2 fun a => match a with
      | ⟨0, _⟩ => show 0 ≤ (y 0).val ∧ (y 0).val < 0 + 256 by omega
      | ⟨1, _⟩ => show 0 ≤ (y 1).val ∧ (y 1).val < 0 + 1024 by omega)

section
variable (a : Vec Ideal S512x2816 .bf16) (w : Vec Ideal S2816x1024 .bf16) (x : Vec Ideal S512x1024 .f32) (g : Vec Ideal S1x1024 .f32)

/-- The product at an index of a piece: the product of the rows of `a` that the piece loads. -/
theorem prod_piece {o : ℕ} (inb : ∀ a, (![o, 0] : Fin 2 → ℕ) a + (![256, 1024] : Fin 2 → ℕ) a ≤ S512x1024.size a)
    (ina : ∀ a, (![o, 0] : Fin 2 → ℕ) a + (![256, 2816] : Fin 2 → ℕ) a ≤ S512x2816.size a) (r : Fin 256) (i j : Fin 1024) :
    (∑ k : Fin 2816, View.ld a (Rect.unit ![o, 0] ![256, 2816] ina) (ix2 r k) * View.ld w r0_1 (ix2 k j))
      = prodB a w (ix2 ((Rect.unit (s := S512x1024) ![o, 0] ![256, 1024] inb).emb (ix2 r i) 0 : Fin 512) j) := by
  unfold prodB
  refine Finset.sum_congr rfl fun k _ => congrArg₂ (· * ·) (congrArg a ?_) (congrArg w ?_)
  · funext b
    apply Fin.ext
    match b with
    | ⟨0, _⟩ => rfl
    | ⟨1, _⟩ => show 0 + 1 * k.val = k.val; omega
  · funext b
    apply Fin.ext
    match b with
    | ⟨0, _⟩ => show 0 + 1 * k.val = k.val; omega
    | ⟨1, _⟩ => show 0 + 1 * j.val = j.val; omega

theorem g_piece (j : Fin 1024) : View.ld g r0_3 (ix2 0 j) = g (ix2 0 j) :=
  congrArg g (by
    funext b
    apply Fin.ext
    match b with
    | ⟨0, _⟩ => rfl
    | ⟨1, _⟩ => show 0 + 1 * j.val = j.val; omega)

theorem emb1 {o : ℕ} (inb : ∀ a, (![o, 0] : Fin 2 → ℕ) a + (![256, 1024] : Fin 2 → ℕ) a ≤ S512x1024.size a) (r : Fin 256) (j : Fin 1024) :
    ((Rect.unit (s := S512x1024) ![o, 0] ![256, 1024] inb).emb (ix2 r j) 1 : Fin 1024) = j :=
  Fin.ext (show 0 + 1 * j.val = j.val by omega)

theorem out_y (y : S512x1024.Idx) : out0_4 (F := Ideal) a w x g y = downB a w x g y := by
  unfold out0_4 k0_pay6
  refine View.canon_apply_of_pieces (downB a w x g) _ (fun p hp z => ?_) y ?_
  · simp only [List.mem_cons, List.not_mem_nil, or_false] at hp
    rcases hp with rfl | rfl
    · obtain ⟨r, j, rfl⟩ : ∃ (r : Fin 256) (j : Fin 1024), z = ix2 r j := ⟨z 0, z 1, by funext a; match a with | ⟨0, _⟩ => rfl | ⟨1, _⟩ => rfl⟩
      refine (pay1_apply _ _ _ _ r j).trans ?_
      rw [g_piece]
      simp only [prod_piece (o := 256) a w inb_S512x1024_S256x1024_256_0 inb_S512x2816_S256x2816_256_0 r j]
      unfold downB
      rw [emb1]
      rfl
    · obtain ⟨r, j, rfl⟩ : ∃ (r : Fin 256) (j : Fin 1024), z = ix2 r j := ⟨z 0, z 1, by funext a; match a with | ⟨0, _⟩ => rfl | ⟨1, _⟩ => rfl⟩
      refine (pay3_apply _ _ _ _ r j).trans ?_
      rw [g_piece]
      simp only [prod_piece (o := 0) a w inb_S512x1024_S256x1024_0_0 inb_S512x2816_S256x2816_0_0 r j]
      unfold downB
      rw [emb1]
      rfl
  · rcases covered y with h | h
    · exact ⟨_, .head _, h⟩
    · exact ⟨_, .tail _ (.head _), h⟩

theorem out_h (y : S512x1024.Idx) : out0_5 (F := Ideal) a w x g y = prodB a w y := by
  unfold out0_5 k0_pay6
  refine View.canon_apply_of_pieces (prodB a w) _ (fun p hp z => ?_) y ?_
  · simp only [List.mem_cons, List.not_mem_nil, or_false] at hp
    rcases hp with rfl | rfl
    · obtain ⟨r, j, rfl⟩ : ∃ (r : Fin 256) (j : Fin 1024), z = ix2 r j := ⟨z 0, z 1, by funext a; match a with | ⟨0, _⟩ => rfl | ⟨1, _⟩ => rfl⟩
      refine (pay4_apply _ _ r j).trans ?_
      rw [prod_piece (o := 256) a w inb_S512x1024_S256x1024_256_0 inb_S512x2816_S256x2816_256_0 r j]
      exact congrArg (prodB a w) (by
        funext b
        apply Fin.ext
        match b with
        | ⟨0, _⟩ => rfl
        | ⟨1, _⟩ => show j.val = 0 + 1 * j.val; omega)
    · obtain ⟨r, j, rfl⟩ : ∃ (r : Fin 256) (j : Fin 1024), z = ix2 r j := ⟨z 0, z 1, by funext a; match a with | ⟨0, _⟩ => rfl | ⟨1, _⟩ => rfl⟩
      refine (pay2_apply _ _ r j).trans ?_
      rw [prod_piece (o := 0) a w inb_S512x1024_S256x1024_0_0 inb_S512x2816_S256x2816_0_0 r j]
      exact congrArg (prodB a w) (by
        funext b
        apply Fin.ext
        match b with
        | ⟨0, _⟩ => rfl
        | ⟨1, _⟩ => show j.val = 0 + 1 * j.val; omega)
  · rcases covered y with h | h
    · exact ⟨_, .head _, h⟩
    · exact ⟨_, .tail _ (.head _), h⟩

end

end Cert.Kernel6Ideal.Ffn

end
-- ==== Proof.Ffn.Down.lean ====
/-
  The feed-forward layer's second product with the norm and the residual: the two arrays that the kernel leaves, the
  reference's two results, and that they agree on all extended reals.
-/
module

public import proofs.«01_k».proof.Defs
public import proofs.«01_k».proof.Proof.Ffn.DownBlock
public import proofs.«01_k».proof.Proof.Gen.Reference6Ideal.Run
public import proofs.«01_k».proof.Proof.Gen.Reference6Ideal.Read

@[expose] public section

set_option maxRecDepth 16384

noncomputable section

namespace Cert.Kernel6Ideal.Ffn

open Cert.Kernel6Ideal Cert.Kernel6Ideal.Gen Cert.Kernel6Ideal.Value Idealize.ShloMosaic Idealize.ShloMosaic.TcCoe Idealize.SL.Sem Idealize.ShloMosaic.Pointwise Cert.Gate Cert.Norm
open Idealize.ShloMosaic.Pipeline (Dat)

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0))

/-- The array's row at a row of a grid point's block. -/
def row (t : Fin cfg0.N) (r : Fin 512) : Fin 4096 := ⟨t.val * 512 + r, by have : t.val < 8 := t.isLt; omega⟩

theorem iblk0 (t : Fin cfg0.N) (r : Fin 512) (k : Fin 2816) : iblk m c 0 t (ix2 r k) = m ((c : Thread nD τ).loc main_arg0) (ix2 (row t r) k) := by
  have e := (ind t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e.1]; omega
  | ⟨1, _⟩ => show win0_0.index t 1 * 2816 + 1 * k.val = k.val; rw [e.2]; omega

theorem iblk1 (t : Fin cfg0.N) (r : Fin 2816) (k : Fin 1024) : iblk m c 1 t (ix2 r k) = m ((c : Thread nD τ).loc main_arg1) (ix2 r k) := by
  have e := (ind t).2.1
  unfold iblk
  rw [View.read_apply]
  show V m c main_arg1 _ = _
  rw [V_main_arg1]
  congr 1
  funext a
  apply Fin.ext
  match a with
  | ⟨0, _⟩ => show win0_1.index t 0 * 2816 + 1 * r.val = r.val; rw [e.1]; omega
  | ⟨1, _⟩ => show win0_1.index t 1 * 1024 + 1 * k.val = k.val; rw [e.2]; omega

theorem iblk2 (t : Fin cfg0.N) (r : Fin 512) (k : Fin 1024) : iblk m c 2 t (ix2 r k) = m ((c : Thread nD τ).loc main_arg2) (ix2 (row t r) k) := by
  have e := (ind t).2.2.1
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [e.1]; omega
  | ⟨1, _⟩ => show win0_2.index t 1 * 1024 + 1 * k.val = k.val; rw [e.2]; omega

/-- The norm's weight, laid out as one row by the host. -/
theorem iblk3 (t : Fin cfg0.N) (j : Fin 1024) : iblk m c 3 t (ix2 0 j) = m ((c : Thread nD τ).loc main_arg3) (ix1 j) := by
  have e := (ind t).2.2.2.1
  unfold iblk
  rw [View.read_apply]
  have hi : ((cfg0.win 3).blk t).view.emb (ix2 0 j) = ix2 (0 : Fin 1) j := by
    funext a
    apply Fin.ext
    match a with
    | ⟨0, _⟩ => show win0_3.index t 0 * 1 + 1 * 0 = 0; rw [e.1]
    | ⟨1, _⟩ => show win0_3.index t 1 * 1024 + 1 * j.val = j.val; rw [e.2]; omega
  rw [hi]
  show V m c main_v0 _ = _
  have hv : V m c main_v0 = shapeCast S1x1024 (m ((c : Thread nD τ).loc main_arg3)) shapeCasts_S1024_S1x1024 := by
    unfold V hostOps0
    simp only [StableHlo.after_cons, StableHlo.after_nil]
    rfl
  refine (congrFun hv _).trans ?_
  pointwise

/-- The product at an index of the array; and the layer's result. -/
def prod (a : S4096x2816.Idx → EReal) (w : S2816x1024.Idx → EReal) (p : Fin 4096) (j : Fin 1024) : EReal :=
  ∑ k : Fin 2816, a (ix2 p k) * w (ix2 k j)

def res (a : S4096x2816.Idx → EReal) (w : S2816x1024.Idx → EReal) (x : S4096x1024.Idx → EReal) (g : S1024.Idx → EReal)
    (p : Fin 4096) (j : Fin 1024) : EReal :=
  down (prod a w p) (x (ix2 p j)) (g (ix1 j)) j

theorem prod_iblk (t : Fin cfg0.N) (r : Fin 512) (j : Fin 1024) : prodB (iblk m c 0 t) (iblk m c 1 t) (ix2 r j)
    = prod (m ((c : Thread nD τ).loc main_arg0)) (m ((c : Thread nD τ).loc main_arg1)) (row t r) j :=
  Finset.sum_congr rfl fun k _ => congrArg₂ (· * ·) (iblk0 m c t r k) (iblk1 m c t k j)

theorem exists_row (p : Fin 4096) : ∃ (t : Fin cfg0.N) (r : Fin 512), p = row t r :=
  ⟨⟨p.val / 512, show _ < 8 by omega⟩, ⟨p.val % 512, by omega⟩, Fin.ext (show p.val = p.val / 512 * 512 + p.val % 512 by omega)⟩

/-- The array of the layer's result. -/
theorem arr4 (p : Fin 4096) (j : Fin 1024) : (dats m 0 c).arrAt 4 cfg0.N (ix2 p j) = res (m ((c : Thread nD τ).loc main_arg0)) (m ((c : Thread nD τ).loc main_arg1)) (m ((c : Thread nD τ).loc main_arg2)) (m ((c : Thread nD τ).loc main_arg3)) p j := by
  obtain ⟨t, r, hp⟩ := exists_row p
  have hb := congrFun (blocks4 m c t (flush0_4 _)) (ix2 r j)
  rw [View.read_apply, flushed4] at hb
  have e := (ind t).2.2.2.2.1
  have hi : ((cfg0.win 4).blk t).view.emb (ix2 r j) = ix2 (row t r) j := by
    funext a
    apply Fin.ext
    match a with
    | ⟨0, _⟩ => show win0_4.index t 0 * 512 + 1 * r.val = t.val * 512 + r.val; rw [e.1]; omega
    | ⟨1, _⟩ => show win0_4.index t 1 * 1024 + 1 * j.val = j.val; rw [e.2]; omega
  rw [hi] at hb
  rw [hp]
  refine hb.trans ((out_y _ _ _ _ (ix2 r j)).trans ?_)
  show down (fun k => prodB _ _ (ix2 r k)) (iblk m c 2 t (ix2 r j)) (iblk m c 3 t (ix2 0 j)) j = _
  simp only [prod_iblk]
  rw [iblk2, iblk3]
  rfl

/-- The array of the product. -/
theorem arr5 (p : Fin 4096) (j : Fin 1024) : (dats m 0 c).arrAt 5 cfg0.N (ix2 p j) = prod (m ((c : Thread nD τ).loc main_arg0)) (m ((c : Thread nD τ).loc main_arg1)) p j := by
  obtain ⟨t, r, hp⟩ := exists_row p
  have hb := congrFun (blocks5 m c t (flush0_5 _)) (ix2 r j)
  rw [View.read_apply, flushed5] at hb
  have e := (ind t).2.2.2.2.2
  have hi : ((cfg0.win 5).blk t).view.emb (ix2 r j) = ix2 (row t r) j := by
    funext a
    apply Fin.ext
    match a with
    | ⟨0, _⟩ => show win0_5.index t 0 * 512 + 1 * r.val = t.val * 512 + r.val; rw [e.1]; omega
    | ⟨1, _⟩ => show win0_5.index t 1 * 1024 + 1 * j.val = j.val; rw [e.2]; omega
  rw [hi] at hb
  rw [hp]
  refine hb.trans ((out_h _ _ _ _ (ix2 r j)).trans ?_)
  rw [prod_iblk]

end Cert.Kernel6Ideal.Ffn

namespace Cert.DownClaim

open Idealize.ShloMosaic Idealize.SL.Sem Idealize.ShloMosaic.Pointwise Cert.Reference6Ideal Cert.Reference6Ideal.Read Cert.Gate Cert.Norm
open Cert.Kernel6Ideal.Ffn (prod res down)

section
variable (x0 : (⟨S4096x2816, .bf16⟩ : BufTy).Contents (Elt Ideal)) (x1 : (⟨S2816x1024, .bf16⟩ : BufTy).Contents (Elt Ideal))
  (x2 : (⟨S4096x1024, .f32⟩ : BufTy).Contents (Elt Ideal)) (x3 : (⟨S1024, .f32⟩ : BufTy).Contents (Elt Ideal)) (p : Fin 4096) (j : Fin 1024)

theorem v2_apply : val_main_v2 x0 x1 (ix2 p j) = prod x0 x1 p j := by
  pointwise [val_main_v2, val_main_v1, val_main_v0]
  rfl

theorem v10_apply : val_main_v10 x0 x1 (ix2 p 0) = root width (prod x0 x1 p) := by
  unfold val_main_v10 val_main_v9 val_main_v8 val_main_v7 val_main_v6 val_main_v5 val_main_v4 val_main_v3 val_main_cst val_main_cst_0 val_main_cst_1
  pointwise
  simp only [v2_apply]
  rfl

theorem v18_apply : val_main_v18 x0 x1 x2 x3 (ix2 p j) = res x0 x1 x2 x3 p j := by
  unfold val_main_v18 val_main_v17 val_main_v16 val_main_v15 val_main_v14 val_main_v13 val_main_v12 val_main_v11 val_main_cst_2
  pointwise
  simp only [v2_apply, v10_apply]
  rfl
end

/-- Kernel and reference compute the same two arrays. -/
theorem algebraic :
    Cert.algebraic_Kernel6Ideal_Reference6Ideal (hKernel6Ideal := Cert.Kernel6Ideal.Gen.facts)
      (hReference6Ideal := Cert.Reference6Ideal.Gen.facts) := by
  intro m g m' g' _ harg
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N,
    Cert.Kernel6Ideal.Value.run_blocks m g, (θ_run _ _ _).mono (fun r h c => ?_) (Cert.Reference6Ideal.Value.run m' g')⟩
  obtain ⟨h0, h1, hr⟩ := h c
  obtain ⟨e0, e1, e2, e3⟩ := harg c
  refine ⟨h0.trans ?_, h1.trans ?_, hr⟩
  · rw [Cert.Reference6Ideal.Read.val_main_v18_eq, e0, e1, e2, e3]
    funext i
    obtain ⟨p, j, rfl⟩ : ∃ (p : Fin 4096) (j : Fin 1024), i = ix2 p j := ⟨i 0, i 1, by funext a; match a with | ⟨0, _⟩ => rfl | ⟨1, _⟩ => rfl⟩
    exact (v18_apply _ _ _ _ p j).trans (Cert.Kernel6Ideal.Ffn.arr4 m c p j).symm
  · rw [Cert.Reference6Ideal.Read.val_main_v2_eq, e0, e1]
    funext i
    obtain ⟨p, j, rfl⟩ : ∃ (p : Fin 4096) (j : Fin 1024), i = ix2 p j := ⟨i 0, i 1, by funext a; match a with | ⟨0, _⟩ => rfl | ⟨1, _⟩ => rfl⟩
    exact (v2_apply _ _ p j).trans (Cert.Kernel6Ideal.Ffn.arr5 m c p j).symm

end Cert.DownClaim

end
-- ==== Proof.Merge.Block.lean ====
/-
  The gradient of the gated merge of the two branches, one block of 256 rows: the product's gradient goes through the two
  gates, and each gate's bias collects one row of sums.
-/
module

public import proofs.«01_k».proof.Proof.Gen.Kernel7Ideal.Value
public import proofs.«01_k».proof.Proof.Ffn.GateMath
public import Idealize.ShloMosaic.Lib.Pointwise
public import Idealize.ShloMosaic.Lib.Pipeline.ValueKit
public import Idealize.ShloMosaic.Lib.Tactic

@[expose] public section

set_option maxRecDepth 16384

noncomputable section

namespace Cert.Kernel7Ideal.Merge

open Cert.Kernel7Ideal Cert.Kernel7Ideal.Gen Cert.Kernel7Ideal.Value Idealize.ShloMosaic Idealize.ShloMosaic.TcCoe Idealize.SL.Sem Idealize.ShloMosaic.Pointwise Cert.Gate
open Idealize.ShloMosaic.Pipeline (Dat)

/-- The gradient of a gate's argument, of the product's gradient `d`, the branch's value `y` and the gate `s`. -/
def gate' (d y s : EReal) : EReal := d * y * s * (1 - s)

section
variable (d : Vec Ideal S256x1024 .bf16) (w : Vec Ideal S1024x1024 .bf16) (gs gm ys ym : Vec Ideal S256x1024 .f32) (bs bm v : Vec Ideal S1x1024 .f32)
  (r : Fin 256) (j : Fin 1024)

/-- The product's gradient in a block. -/
def dprod (r : Fin 256) (j : Fin 1024) : EReal := ∑ k : Fin 1024, d (ix2 r k) * w (ix2 j k)

theorem pay9_apply : k0_pay9 d w (ix2 r j) = dprod d w r j := by
  pointwise [k0_pay9]
  rfl

theorem pay10_apply : k0_pay10 gs bs (ix2 r j) = sigK (gs (ix2 r j) + bs (ix2 0 j)) := by
  pointwise [k0_pay10]
  rfl

theorem pay11_apply : k0_pay11 gm bm (ix2 r j) = sigK (gm (ix2 r j) + bm (ix2 0 j)) := by
  pointwise [k0_pay11]
  rfl

theorem pay1_apply : k0_pay1 (k0_pay10 gs bs) (k0_pay12 d w gs ys bs) (FloatOps.ofBits FTy.f32 1065353216#32) (ix2 r j)
    = gate' (dprod d w r j) (ys (ix2 r j)) (sigK (gs (ix2 r j) + bs (ix2 0 j))) := by
  rw [← pay9_apply, ← pay10_apply]
  unfold k0_pay1 k0_pay12
  generalize k0_pay10 gs bs = s
  generalize k0_pay9 d w = t
  pointwise
  rfl

theorem pay2_apply : k0_pay2 (k0_pay9 d w) ym (k0_pay11 gm bm) (ix2 r j)
    = gate' (dprod d w r j) (ym (ix2 r j)) (sigK (gm (ix2 r j) + bm (ix2 0 j))) := by
  rw [← pay9_apply, ← pay11_apply]
  generalize k0_pay11 gm bm = s
  generalize k0_pay9 d w = t
  pointwise [k0_pay2]
  rfl

theorem pay3_apply : k0_pay3 (k0_pay9 d w) (k0_pay10 gs bs) (ix2 r j) = dprod d w r j * sigK (gs (ix2 r j) + bs (ix2 0 j)) := by
  rw [← pay9_apply, ← pay10_apply]
  rfl

theorem pay4_apply : k0_pay4 (k0_pay9 d w) (k0_pay11 gm bm) (ix2 r j) = dprod d w r j * sigK (gm (ix2 r j) + bm (ix2 0 j)) := by
  rw [← pay9_apply, ← pay11_apply]
  rfl

theorem pay7_apply : k0_pay7 (k0_pay10 gs bs) (k0_pay12 d w gs ys bs) (FloatOps.ofBits FTy.f32 1065353216#32) v (ix2 0 j)
    = v (ix2 0 j) + ∑ r : Fin 256, gate' (dprod d w r j) (ys (ix2 r j)) (sigK (gs (ix2 r j) + bs (ix2 0 j))) := by
  have e := pay1_apply d w gs ys bs
  unfold k0_pay7
  generalize k0_pay1 (k0_pay10 gs bs) (k0_pay12 d w gs ys bs) (FloatOps.ofBits FTy.f32 1065353216#32) = s at e ⊢
  pointwise
  exact congrArg (_ + ·) (Finset.sum_congr rfl fun r _ => e r j)

theorem pay8_apply : k0_pay8 (k0_pay9 d w) ym (k0_pay11 gm bm) v (ix2 0 j)
    = v (ix2 0 j) + ∑ r : Fin 256, gate' (dprod d w r j) (ym (ix2 r j)) (sigK (gm (ix2 r j) + bm (ix2 0 j))) := by
  have e := pay2_apply d w gm ym bm
  unfold k0_pay8
  generalize k0_pay2 (k0_pay9 d w) ym (k0_pay11 gm bm) = s at e ⊢
  pointwise
  exact congrArg (_ + ·) (Finset.sum_congr rfl fun r _ => e r j)
end

section
variable (c : Dev nD) (i : grid0.Coords)
  (a3 : Memref sig .tc .vmem S256x1024 .bf16) (h3 : a3.IsWhole)
  (a4 : Memref sig .tc .vmem S1024x1024 .bf16) (h4 : a4.IsWhole)
  (a5 : Memref sig .tc .vmem S256x1024 .f32) (h5 : a5.IsWhole)
  (a6 : Memref sig .tc .vmem S256x1024 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S256x1024 .f32) (h11 : a11.IsWhole)
  (a12 : Memref sig .tc .vmem S256x1024 .f32) (h12 : a12.IsWhole)
  (a13 : Memref sig .tc .vmem S256x1024 .f32) (h13 : a13.IsWhole)
  (a14 : Memref sig .tc .vmem S256x1024 .f32) (h14 : a14.IsWhole)
  (a15 : Memref sig .tc .vmem S1x1024 .f32) (h15 : a15.IsWhole)
  (a16 : Memref sig .tc .vmem S1x1024 .f32) (h16 : a16.IsWhole)
  (d : Vec Ideal S256x1024 .bf16) (w : Vec Ideal S1024x1024 .bf16) (gs gm ys ym : Vec Ideal S256x1024 .f32) (bs bm v v' : Vec Ideal S1x1024 .f32)

theorem outA8 (q) : out0_A_8 (F := Ideal) c i a3 h3 a4 h4 a5 h5 a6 h6 a7 h7 a8 h8 a9 h9 a10 h10 a11 h11 a12 h12 a13 h13 a14 h14 a15 h15 a16 h16 q d w gs gm ys ym bs bm
    = k0_pay1 (k0_pay10 gs bs) (k0_pay12 d w gs ys bs) (FloatOps.ofBits FTy.f32 1065353216#32) := by
  frame_out

theorem outB8 (q) : out0_B_8 (F := Ideal) c i a3 h3 a4 h4 a5 h5 a6 h6 a7 h7 a8 h8 a9 h9 a10 h10 a11 h11 a12 h12 a13 h13 a14 h14 a15 h15 a16 h16 q d w gs gm ys ym bs bm v v'
    = k0_pay1 (k0_pay10 gs bs) (k0_pay12 d w gs ys bs) (FloatOps.ofBits FTy.f32 1065353216#32) := by
  frame_out

theorem outA9 (q) : out0_A_9 (F := Ideal) c i a3 h3 a4 h4 a5 h5 a6 h6 a7 h7 a8 h8 a9 h9 a10 h10 a11 h11 a12 h12 a13 h13 a14 h14 a15 h15 a16 h16 q d w gs gm ys ym bs bm
    = k0_pay2 (k0_pay9 d w) ym (k0_pay11 gm bm) := by
  frame_out

theorem outB9 (q) : out0_B_9 (F := Ideal) c i a3 h3 a4 h4 a5 h5 a6 h6 a7 h7 a8 h8 a9 h9 a10 h10 a11 h11 a12 h12 a13 h13 a14 h14 a15 h15 a16 h16 q d w gs gm ys ym bs bm v v'
    = k0_pay2 (k0_pay9 d w) ym (k0_pay11 gm bm) := by
  frame_out

theorem outA10 (q) : out0_A_10 (F := Ideal) c i a3 h3 a4 h4 a5 h5 a6 h6 a7 h7 a8 h8 a9 h9 a10 h10 a11 h11 a12 h12 a13 h13 a14 h14 a15 h15 a16 h16 q d w gs gm ys ym bs bm
    = k0_pay3 (k0_pay9 d w) (k0_pay10 gs bs) := by
  frame_out

theorem outB10 (q) : out0_B_10 (F := Ideal) c i a3 h3 a4 h4 a5 h5 a6 h6 a7 h7 a8 h8 a9 h9 a10 h10 a11 h11 a12 h12 a13 h13 a14 h14 a15 h15 a16 h16 q d w gs gm ys ym bs bm v v'
    = k0_pay3 (k0_pay9 d w) (k0_pay10 gs bs) := by
  frame_out

theorem outA11 (q) : out0_A_11 (F := Ideal) c i a3 h3 a4 h4 a5 h5 a6 h6 a7 h7 a8 h8 a9 h9 a10 h10 a11 h11 a12 h12 a13 h13 a14 h14 a15 h15 a16 h16 q d w gs gm ys ym bs bm
    = k0_pay4 (k0_pay9 d w) (k0_pay11 gm bm) := by
  frame_out

theorem outB11 (q) : out0_B_11 (F := Ideal) c i a3 h3 a4 h4 a5 h5 a6 h6 a7 h7 a8 h8 a9 h9 a10 h10 a11 h11 a12 h12 a13 h13 a14 h14 a15 h15 a16 h16 q d w gs gm ys ym bs bm v v'
    = k0_pay4 (k0_pay9 d w) (k0_pay11 gm bm) := by
  frame_out

theorem outA12 (q) : out0_A_12 (F := Ideal) c i a3 h3 a4 h4 a5 h5 a6 h6 a7 h7 a8 h8 a9 h9 a10 h10 a11 h11 a12 h12 a13 h13 a14 h14 a15 h15 a16 h16 q d w gs gm ys ym bs bm
    = k0_pay7 (k0_pay10 gs bs) (k0_pay12 d w gs ys bs) (FloatOps.ofBits FTy.f32 1065353216#32) (k0_pay5 (F := Ideal)) := by
  frame_out

theorem outB12 (q) : out0_B_12 (F := Ideal) c i a3 h3 a4 h4 a5 h5 a6 h6 a7 h7 a8 h8 a9 h9 a10 h10 a11 h11 a12 h12 a13 h13 a14 h14 a15 h15 a16 h16 q d w gs gm ys ym bs bm v v'
    = k0_pay7 (k0_pay10 gs bs) (k0_pay12 d w gs ys bs) (FloatOps.ofBits FTy.f32 1065353216#32) v := by
  frame_out

theorem outA13 (q) : out0_A_13 (F := Ideal) c i a3 h3 a4 h4 a5 h5 a6 h6 a7 h7 a8 h8 a9 h9 a10 h10 a11 h11 a12 h12 a13 h13 a14 h14 a15 h15 a16 h16 q d w gs gm ys ym bs bm
    = k0_pay8 (k0_pay9 d w) ym (k0_pay11 gm bm) (k0_pay6 (F := Ideal)) := by
  frame_out

theorem outB13 (q) : out0_B_13 (F := Ideal) c i a3 h3 a4 h4 a5 h5 a6 h6 a7 h7 a8 h8 a9 h9 a10 h10 a11 h11 a12 h12 a13 h13 a14 h14 a15 h15 a16 h16 q d w gs gm ys ym bs bm v v'
    = k0_pay8 (k0_pay9 d w) ym (k0_pay11 gm bm) v' := by
  frame_out

end

end Cert.Kernel7Ideal.Merge

end
-- ==== Proof.Merge.Tiles.lean ====
/-
  A sum over 4096 rows, taken as the sum over sixteen tiles of 256 rows.
-/
module

public import Idealize.ShloMosaic.Init
public import Idealize.ShloMosaic.PureOps.Ideal

@[expose] public section

noncomputable section

namespace Cert.Tiles

/-- A row of a tile, counted in the array. -/
def row (t : ℕ) (ht : t < 16) (r : Fin 256) : Fin 4096 := ⟨t * 256 + r, by omega⟩

theorem exists_row (p : Fin 4096) : ∃ (t : ℕ) (ht : t < 16) (r : Fin 256), p = row t ht r :=
  ⟨p.val / 256, by omega, ⟨p.val % 256, by omega⟩, Fin.ext (show p.val = p.val / 256 * 256 + p.val % 256 by omega)⟩

/-- The sum of `f` over the rows of a tile. -/
def tile (f : Fin 4096 → EReal) (i : ℕ) : EReal := if h : i < 16 then ∑ r : Fin 256, f (row i h r) else 0

theorem tile_eq (f : Fin 4096 → EReal) {i : ℕ} (h : i < 16) : tile f i = ∑ r : Fin 256, f (row i h r) := dif_pos h

/-- The sixteen tiles are all the rows. -/
theorem sum_tiles (f : Fin 4096 → EReal) : ∑ i ∈ Finset.range 16, tile f i = ∑ p : Fin 4096, f p := by
  rw [Finset.sum_range, ← (finProdFinEquiv (m := 16) (n := 256)).sum_comp (fun p : Fin (16 * 256) => f p), Fintype.sum_prod_type]
  refine Finset.sum_congr rfl fun i _ => ?_
  rw [tile_eq f i.isLt]
  refine Finset.sum_congr rfl fun r _ => congrArg f (Fin.ext ?_)
  show i.val * 256 + r.val = r.val + 256 * i.val
  omega

end Cert.Tiles

end
-- ==== Proof.Merge.Array.lean ====
/-
  The gradient of the gated merge: the six arrays that the kernel leaves.
-/
module

public import proofs.«01_k».proof.Proof.Merge.Block
public import proofs.«01_k».proof.Proof.Merge.Tiles

@[expose] public section

set_option maxRecDepth 16384

noncomputable section

namespace Cert.Kernel7Ideal.Merge

open Cert.Kernel7Ideal Cert.Kernel7Ideal.Gen Cert.Kernel7Ideal.Value Idealize.ShloMosaic Idealize.ShloMosaic.TcCoe Idealize.SL.Sem Idealize.ShloMosaic.Pointwise Cert.Gate
open Idealize.ShloMosaic.Pipeline (Dat)
open Cert.Tiles

variable (m : (ℓ : Loc nD τ sig) → Buf (Elt Ideal) ℓ) (c : Dev nD)

theorem ind : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0)
    ∧ (win0_13.index t 0 = 0 ∧ win0_13.index t 1 = 0) :=
  (by decide +kernel : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0)
    ∧ (win0_13.index t 0 = 0 ∧ win0_13.index t 1 = 0))

theorem lt (t : Fin cfg0.N) : t.val < 16 := t.isLt

theorem iblk0 (t : Fin cfg0.N) (r : Fin 256) (k : Fin 1024) : iblk m c 0 t (ix2 r k) = m ((c : Thread nD τ).loc main_arg0) (ix2 (row t.val (lt t) r) k) := by
  have e := (ind t).1
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem iblk1 (t : Fin cfg0.N) (r : Fin 1024) (k : Fin 1024) : iblk m c 1 t (ix2 r k) = m ((c : Thread nD τ).loc main_arg1) (ix2 r k) := by
  have e := (ind t).2.1
  unfold iblk
  rw [View.read_apply]
  show V m c main_arg1 _ = _
  rw [V_main_arg1]
  congr 1
  funext a
  apply Fin.ext
  match a with
  | ⟨0, _⟩ => show win0_1.index t 0 * 1024 + 1 * r.val = r.val; rw [e.1]; omega
  | ⟨1, _⟩ => show win0_1.index t 1 * 1024 + 1 * k.val = k.val; rw [e.2]; omega

theorem iblk2 (t : Fin cfg0.N) (r : Fin 256) (k : Fin 1024) : iblk m c 2 t (ix2 r k) = m ((c : Thread nD τ).loc main_arg2) (ix2 (row t.val (lt t) r) k) := by
  have e := (ind t).2.2.1
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 1024 + 1 * k.val = k.val; rw [e.2]; omega

theorem iblk3 (t : Fin cfg0.N) (r : Fin 256) (k : Fin 1024) : iblk m c 3 t (ix2 r k) = m ((c : Thread nD τ).loc main_arg3) (ix2 (row t.val (lt t) r) k) := by
  have e := (ind t).2.2.2.1
  unfold iblk
  rw [View.read_apply]
  show V m c main_arg3 _ = _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 1024 + 1 * k.val = k.val; rw [e.2]; omega

theorem iblk4 (t : Fin cfg0.N) (r : Fin 256) (k : Fin 1024) : iblk m c 4 t (ix2 r k) = m ((c : Thread nD τ).loc main_arg6) (ix2 (row t.val (lt t) r) k) := by
  have e := (ind t).2.2.2.2.1
  unfold iblk
  rw [View.read_apply]
  show V m c main_arg6 _ = _
  rw [V_main_arg6]
  congr 1
  funext a
  apply Fin.ext
  match a with
  | ⟨0, _⟩ => show win0_4.index t 0 * 256 + 1 * r.val = t.val * 256 + r.val; rw [e.1]; omega
  | ⟨1, _⟩ => show win0_4.index t 1 * 1024 + 1 * k.val = k.val; rw [e.2]; omega

theorem iblk5 (t : Fin cfg0.N) (r : Fin 256) (k : Fin 1024) : iblk m c 5 t (ix2 r k) = m ((c : Thread nD τ).loc main_arg7) (ix2 (row t.val (lt t) r) k) := by
  have e := (ind t).2.2.2.2.2.1
  unfold iblk
  rw [View.read_apply]
  show V m c main_arg7 _ = _
  rw [V_main_arg7]
  congr 1
  funext a
  apply Fin.ext
  match a with
  | ⟨0, _⟩ => show win0_5.index t 0 * 256 + 1 * r.val = t.val * 256 + r.val; rw [e.1]; omega
  | ⟨1, _⟩ => show win0_5.index t 1 * 1024 + 1 * k.val = k.val; rw [e.2]; omega

/-- A gate's bias, laid out as one row by the host. -/
theorem iblk6 (t : Fin cfg0.N) (j : Fin 1024) : iblk m c 6 t (ix2 0 j) = m ((c : Thread nD τ).loc main_arg4) (ix1 j) := by
  have e := (ind t).2.2.2.2.2.2.1
  unfold iblk
  rw [View.read_apply]
  have hi : ((cfg0.win 6).blk t).view.emb (ix2 0 j) = ix2 (0 : Fin 1) j := by
    funext a
    apply Fin.ext
    match a with
    | ⟨0, _⟩ => show win0_6.index t 0 * 1 + 1 * 0 = 0; rw [e.1]
    | ⟨1, _⟩ => show win0_6.index t 1 * 1024 + 1 * j.val = j.val; rw [e.2]; omega
  rw [hi]
  show V m c main_v0 _ = _
  have hv : V m c main_v0 = shapeCast S1x1024 (m ((c : Thread nD τ).loc main_arg4)) shapeCasts_S1024_S1x1024 := by
    unfold V hostOps0
    simp only [StableHlo.after_cons, StableHlo.after_nil]
    rfl
  refine (congrFun hv _).trans ?_
  pointwise

/-- A gate's bias, laid out as one row by the host. -/
theorem iblk7 (t : Fin cfg0.N) (j : Fin 1024) : iblk m c 7 t (ix2 0 j) = m ((c : Thread nD τ).loc main_arg5) (ix1 j) := by
  have e := (ind t).2.2.2.2.2.2.2.1
  unfold iblk
  rw [View.read_apply]
  have hi : ((cfg0.win 7).blk t).view.emb (ix2 0 j) = ix2 (0 : Fin 1) j := by
    funext a
    apply Fin.ext
    match a with
    | ⟨0, _⟩ => show win0_7.index t 0 * 1 + 1 * 0 = 0; rw [e.1]
    | ⟨1, _⟩ => show win0_7.index t 1 * 1024 + 1 * j.val = j.val; rw [e.2]; omega
  rw [hi]
  show V m c main_v1 _ = _
  have hv : V m c main_v1 = shapeCast S1x1024 (m ((c : Thread nD τ).loc main_arg5)) shapeCasts_S1024_S1x1024 := by
    unfold V hostOps0
    simp only [StableHlo.after_cons, StableHlo.after_nil]
    rfl
  refine (congrFun hv _).trans ?_
  pointwise

section
variable (d : S4096x1024.Idx → EReal) (w : S1024x1024.Idx → EReal) (gl y : S4096x1024.Idx → EReal) (b : S1024.Idx → EReal)

/-- The product's gradient at an index of the array. -/
def dprodA (p : Fin 4096) (j : Fin 1024) : EReal := ∑ k : Fin 1024, d (ix2 p k) * w (ix2 j k)

/-- A branch's gate, the gradient of its argument, and the gradient of the branch's value. -/
def gateA (p : Fin 4096) (j : Fin 1024) : EReal := sigK (gl (ix2 p j) + b (ix1 j))
def dgateA (p : Fin 4096) (j : Fin 1024) : EReal := gate' (dprodA d w p j) (y (ix2 p j)) (gateA gl b p j)
def dvalA (p : Fin 4096) (j : Fin 1024) : EReal := dprodA d w p j * gateA gl b p j
end

theorem dprod_iblk (t : Fin cfg0.N) (r : Fin 256) (j : Fin 1024) : dprod (iblk m c 0 t) (iblk m c 1 t) r j
    = dprodA (m ((c : Thread nD τ).loc main_arg0)) (m ((c : Thread nD τ).loc main_arg1)) (row t.val (lt t) r) j :=
  Finset.sum_congr rfl fun k _ => congrArg₂ (· * ·) (iblk0 m c t r k) (iblk1 m c t j k)

/-- The array of the gradient of the first gate's argument. -/
theorem arr8 (p : Fin 4096) (j : Fin 1024) : (dats m 0 c).arrAt 8 cfg0.N (ix2 p j) = dgateA (m ((c : Thread nD τ).loc main_arg0)) (m ((c : Thread nD τ).loc main_arg1)) (m ((c : Thread nD τ).loc main_arg2)) (m ((c : Thread nD τ).loc main_arg6)) (m ((c : Thread nD τ).loc main_arg4)) p j := by
  obtain ⟨t, ht, r, hp⟩ := exists_row p
  obtain ⟨t, rfl⟩ : ∃ t' : Fin cfg0.N, t'.val = t := ⟨⟨t, ht⟩, rfl⟩
  have hb := congrFun (blocks8 m c t (flush0_8 _)) (ix2 r j)
  rw [View.read_apply] at hb
  have e := (ind t).2.2.2.2.2.2.2.2.1
  have hi : ((cfg0.win 8).blk t).view.emb (ix2 r j) = ix2 (row t.val ht r) j := by
    funext a
    apply Fin.ext
    match a with
    | ⟨0, _⟩ => show win0_8.index t 0 * 256 + 1 * r.val = t.val * 256 + r.val; rw [e.1]; omega
    | ⟨1, _⟩ => show win0_8.index t 1 * 1024 + 1 * j.val = j.val; rw [e.2]; omega
  rw [hi] at hb
  rw [hp]
  refine hb.trans ?_
  by_cases h : t.val % 16 = 0
  · rw [flushed8_A m c t h, outA8]
    refine (pay1_apply _ _ _ _ _ r j).trans ?_
    rw [dprod_iblk, iblk2, iblk4, iblk6]
    rfl
  · rw [flushed8_B m c t h, outB8]
    refine (pay1_apply _ _ _ _ _ r j).trans ?_
    rw [dprod_iblk, iblk2, iblk4, iblk6]
    rfl

/-- The array of the gradient of the second gate's argument. -/
theorem arr9 (p : Fin 4096) (j : Fin 1024) : (dats m 0 c).arrAt 9 cfg0.N (ix2 p j) = dgateA (m ((c : Thread nD τ).loc main_arg0)) (m ((c : Thread nD τ).loc main_arg1)) (m ((c : Thread nD τ).loc main_arg3)) (m ((c : Thread nD τ).loc main_arg7)) (m ((c : Thread nD τ).loc main_arg5)) p j := by
  obtain ⟨t, ht, r, hp⟩ := exists_row p
  obtain ⟨t, rfl⟩ : ∃ t' : Fin cfg0.N, t'.val = t := ⟨⟨t, ht⟩, rfl⟩
  have hb := congrFun (blocks9 m c t (flush0_9 _)) (ix2 r j)
  rw [View.read_apply] at hb
  have e := (ind t).2.2.2.2.2.2.2.2.2.1
  have hi : ((cfg0.win 9).blk t).view.emb (ix2 r j) = ix2 (row t.val ht r) j := by
    funext a
    apply Fin.ext
    match a with
    | ⟨0, _⟩ => show win0_9.index t 0 * 256 + 1 * r.val = t.val * 256 + r.val; rw [e.1]; omega
    | ⟨1, _⟩ => show win0_9.index t 1 * 1024 + 1 * j.val = j.val; rw [e.2]; omega
  rw [hi] at hb
  rw [hp]
  refine hb.trans ?_
  by_cases h : t.val % 16 = 0
  · rw [flushed9_A m c t h, outA9]
    refine (pay2_apply _ _ _ _ _ r j).trans ?_
    rw [dprod_iblk, iblk3, iblk5, iblk7]
    rfl
  · rw [flushed9_B m c t h, outB9]
    refine (pay2_apply _ _ _ _ _ r j).trans ?_
    rw [dprod_iblk, iblk3, iblk5, iblk7]
    rfl

/-- The array of the gradient of the first branch. -/
theorem arr10 (p : Fin 4096) (j : Fin 1024) : (dats m 0 c).arrAt 10 cfg0.N (ix2 p j) = dvalA (m ((c : Thread nD τ).loc main_arg0)) (m ((c : Thread nD τ).loc main_arg1)) (m ((c : Thread nD τ).loc main_arg2)) (m ((c : Thread nD τ).loc main_arg4)) p j := by
  obtain ⟨t, ht, r, hp⟩ := exists_row p
  obtain ⟨t, rfl⟩ : ∃ t' : Fin cfg0.N, t'.val = t := ⟨⟨t, ht⟩, rfl⟩
  have hb := congrFun (blocks10 m c t (flush0_10 _)) (ix2 r j)
  rw [View.read_apply] at hb
  have e := (ind t).2.2.2.2.2.2.2.2.2.2.1
  have hi : ((cfg0.win 10).blk t).view.emb (ix2 r j) = ix2 (row t.val ht r) j := by
    funext a
    apply Fin.ext
    match a with
    | ⟨0, _⟩ => show win0_10.index t 0 * 256 + 1 * r.val = t.val * 256 + r.val; rw [e.1]; omega
    | ⟨1, _⟩ => show win0_10.index t 1 * 1024 + 1 * j.val = j.val; rw [e.2]; omega
  rw [hi] at hb
  rw [hp]
  refine hb.trans ?_
  by_cases h : t.val % 16 = 0
  · rw [flushed10_A m c t h, outA10]
    refine (pay3_apply _ _ _ _ r j).trans ?_
    rw [dprod_iblk, iblk2, iblk6]
    rfl
  · rw [flushed10_B m c t h, outB10]
    refine (pay3_apply _ _ _ _ r j).trans ?_
    rw [dprod_iblk, iblk2, iblk6]
    rfl

/-- The array of the gradient of the second branch. -/
theorem arr11 (p : Fin 4096) (j : Fin 1024) : (dats m 0 c).arrAt 11 cfg0.N (ix2 p j) = dvalA (m ((c : Thread nD τ).loc main_arg0)) (m ((c : Thread nD τ).loc main_arg1)) (m ((c : Thread nD τ).loc main_arg3)) (m ((c : Thread nD τ).loc main_arg5)) p j := by
  obtain ⟨t, ht, r, hp⟩ := exists_row p
  obtain ⟨t, rfl⟩ : ∃ t' : Fin cfg0.N, t'.val = t := ⟨⟨t, ht⟩, rfl⟩
  have hb := congrFun (blocks11 m c t (flush0_11 _)) (ix2 r j)
  rw [View.read_apply] at hb
  have e := (ind t).2.2.2.2.2.2.2.2.2.2.2.1
  have hi : ((cfg0.win 11).blk t).view.emb (ix2 r j) = ix2 (row t.val ht r) j := by
    funext a
    apply Fin.ext
    match a with
    | ⟨0, _⟩ => show win0_11.index t 0 * 256 + 1 * r.val = t.val * 256 + r.val; rw [e.1]; omega
    | ⟨1, _⟩ => show win0_11.index t 1 * 1024 + 1 * j.val = j.val; rw [e.2]; omega
  rw [hi] at hb
  rw [hp]
  refine hb.trans ?_
  by_cases h : t.val % 16 = 0
  · rw [flushed11_A m c t h, outA11]
    refine (pay4_apply _ _ _ _ r j).trans ?_
    rw [dprod_iblk, iblk3, iblk7]
    rfl
  · rw [flushed11_B m c t h, outB11]
    refine (pay4_apply _ _ _ _ r j).trans ?_
    rw [dprod_iblk, iblk3, iblk7]
    rfl

/-- After a point the row holds the sum of the tiles so far. -/
theorem partials12 (j : Fin 1024) : ∀ (n : ℕ) (hn : n < cfg0.N), (outsAt0 m c n hn).2.2.2.2.1 (ix2 0 j)
    = ∑ i ∈ Finset.range (n + 1), tile (fun p => dgateA (m ((c : Thread nD τ).loc main_arg0)) (m ((c : Thread nD τ).loc main_arg1)) (m ((c : Thread nD τ).loc main_arg2)) (m ((c : Thread nD τ).loc main_arg6)) (m ((c : Thread nD τ).loc main_arg4)) p j) i
  | 0, hn => by
    rw [outsAt0_A m c ⟨0, hn⟩ rfl]
    dsimp only
    rw [outA12]
    refine (pay7_apply _ _ _ _ _ _ j).trans ?_
    rw [Finset.sum_range_one, tile_eq _ (show 0 < 16 by omega)]
    have : (k0_pay5 (F := Ideal)) (ix2 0 j) = 0 := by pointwise [k0_pay5]
    rw [this, zero_add]
    refine Finset.sum_congr rfl fun r _ => ?_
    rw [dprod_iblk, iblk2, iblk4, iblk6]
    rfl
  | n + 1, hn => by
    have h16 : n + 1 < 16 := hn
    rw [outsAt0_B m c ⟨n + 1, hn⟩ (by show ¬(n + 1) % 16 = 0; omega)]
    dsimp only
    rw [outB12]
    refine (pay7_apply _ _ _ _ _ _ j).trans ?_
    rw [Finset.sum_range_succ, tile_eq _ h16]
    refine congrArg₂ (· + ·) (partials12 j n _) (Finset.sum_congr rfl fun r _ => ?_)
    rw [dprod_iblk, iblk2, iblk4, iblk6]
    rfl

/-- The array of the gradient of the first gate's bias. -/
theorem arr12 (j : Fin 1024) : (dats m 0 c).arrAt 12 cfg0.N (ix2 0 j) = ∑ p : Fin 4096, dgateA (m ((c : Thread nD τ).loc main_arg0)) (m ((c : Thread nD τ).loc main_arg1)) (m ((c : Thread nD τ).loc main_arg2)) (m ((c : Thread nD τ).loc main_arg6)) (m ((c : Thread nD τ).loc main_arg4)) p j := by
  obtain ⟨t, ht⟩ : ∃ t : Fin cfg0.N, t.val = 15 := ⟨⟨15, show 15 < 16 by omega⟩, rfl⟩
  have hd : ∀ t t' : Fin cfg0.N, (cfg0.win 12).flush t = true → (cfg0.win 12).flush t' = true → t ≠ t' →
      Disjoint ((cfg0.win 12).blk t).view.set ((cfg0.win 12).blk t').view.set := fun t t' h h' hne => by
    have a := (flush0_12 t).1 h
    have b := (flush0_12 t').1 h'
    have ha := lt t
    have hb := lt t'
    exact absurd (Fin.ext (by omega)) hne
  have hb := congrFun ((dats m 0 c).read_blk_arrAt_eq_flushed 12 hd cfg0.N t t.isLt ((flush0_12 t).2 (by omega))) (ix2 0 j)
  rw [View.read_apply, flushed12] at hb
  have e := (ind t).2.2.2.2.2.2.2.2.2.2.2.2.1
  have hi : ((cfg0.win 12).blk t).view.emb (ix2 0 j) = ix2 (0 : Fin 1) j := by
    funext a
    apply Fin.ext
    match a with
    | ⟨0, _⟩ => show win0_12.index t 0 * 1 + 1 * 0 = 0; rw [e.1]
    | ⟨1, _⟩ => show win0_12.index t 1 * 1024 + 1 * j.val = j.val; rw [e.2]; omega
  rw [hi] at hb
  refine hb.trans ((partials12 m c j t.val t.isLt).trans ?_)
  rw [ht, sum_tiles]

/-- After a point the row holds the sum of the tiles so far. -/
theorem partials13 (j : Fin 1024) : ∀ (n : ℕ) (hn : n < cfg0.N), (outsAt0 m c n hn).2.2.2.2.2 (ix2 0 j)
    = ∑ i ∈ Finset.range (n + 1), tile (fun p => dgateA (m ((c : Thread nD τ).loc main_arg0)) (m ((c : Thread nD τ).loc main_arg1)) (m ((c : Thread nD τ).loc main_arg3)) (m ((c : Thread nD τ).loc main_arg7)) (m ((c : Thread nD τ).loc main_arg5)) p j) i
  | 0, hn => by
    rw [outsAt0_A m c ⟨0, hn⟩ rfl]
    dsimp only
    rw [outA13]
    refine (pay8_apply _ _ _ _ _ _ j).trans ?_
    rw [Finset.sum_range_one, tile_eq _ (show 0 < 16 by omega)]
    have : (k0_pay6 (F := Ideal)) (ix2 0 j) = 0 := by pointwise [k0_pay6]
    rw [this, zero_add]
    refine Finset.sum_congr rfl fun r _ => ?_
    rw [dprod_iblk, iblk3, iblk5, iblk7]
    rfl
  | n + 1, hn => by
    have h16 : n + 1 < 16 := hn
    rw [outsAt0_B m c ⟨n + 1, hn⟩ (by show ¬(n + 1) % 16 = 0; omega)]
    dsimp only
    rw [outB13]
    refine (pay8_apply _ _ _ _ _ _ j).trans ?_
    rw [Finset.sum_range_succ, tile_eq _ h16]
    refine congrArg₂ (· + ·) (partials13 j n _) (Finset.sum_congr rfl fun r _ => ?_)
    rw [dprod_iblk, iblk3, iblk5, iblk7]
    rfl

/-- The array of the gradient of the second gate's bias. -/
theorem arr13 (j : Fin 1024) : (dats m 0 c).arrAt 13 cfg0.N (ix2 0 j) = ∑ p : Fin 4096, dgateA (m ((c : Thread nD τ).loc main_arg0)) (m ((c : Thread nD τ).loc main_arg1)) (m ((c : Thread nD τ).loc main_arg3)) (m ((c : Thread nD τ).loc main_arg7)) (m ((c : Thread nD τ).loc main_arg5)) p j := by
  obtain ⟨t, ht⟩ : ∃ t : Fin cfg0.N, t.val = 15 := ⟨⟨15, show 15 < 16 by omega⟩, rfl⟩
  have hd : ∀ t t' : Fin cfg0.N, (cfg0.win 13).flush t = true → (cfg0.win 13).flush t' = true → t ≠ t' →
      Disjoint ((cfg0.win 13).blk t).view.set ((cfg0.win 13).blk t').view.set := fun t t' h h' hne => by
    have a := (flush0_13 t).1 h
    have b := (flush0_13 t').1 h'
    have ha := lt t
    have hb := lt t'
    exact absurd (Fin.ext (by omega)) hne
  have hb := congrFun ((dats m 0 c).read_blk_arrAt_eq_flushed 13 hd cfg0.N t t.isLt ((flush0_13 t).2 (by omega))) (ix2 0 j)
  rw [View.read_apply, flushed13] at hb
  have e := (ind t).2.2.2.2.2.2.2.2.2.2.2.2.2
  have hi : ((cfg0.win 13).blk t).view.emb (ix2 0 j) = ix2 (0 : Fin 1) j := by
    funext a
    apply Fin.ext
    match a with
    | ⟨0, _⟩ => show win0_13.index t 0 * 1 + 1 * 0 = 0; rw [e.1]
    | ⟨1, _⟩ => show win0_13.index t 1 * 1024 + 1 * j.val = j.val; rw [e.2]; omega
  rw [hi] at hb
  refine hb.trans ((partials13 m c j t.val t.isLt).trans ?_)
  rw [ht, sum_tiles]

end Cert.Kernel7Ideal.Merge

end
-- ==== Proof.Merge.Merge.lean ====
/-
  The gradient of the gated merge: the reference's arrays, and that the kernel's are the same.
-/
module

public import proofs.«01_k».proof.Defs
public import proofs.«01_k».proof.Proof.Merge.Array
public import proofs.«01_k».proof.Proof.Gen.Reference7Ideal.Run
public import proofs.«01_k».proof.Proof.Gen.Reference7Ideal.Read

@[expose] public section

set_option maxRecDepth 16384

noncomputable section

namespace Cert.MergeClaim

open Idealize.ShloMosaic Idealize.SL.Sem Idealize.ShloMosaic.Pointwise Cert.Reference7Ideal Cert.Reference7Ideal.Read Cert.Gate
open Cert.Kernel7Ideal.Merge (dprodA gateA dgateA dvalA gate')

theorem sigR_eq (x : EReal) : Ideal.div (1 : EReal) (1 + Ideal.exp (-x)) = sigK x := by
  rw [sigK_eq]
  unfold sigR
  rw [one_eq]

section
variable (x0 : (⟨S4096x1024, .bf16⟩ : BufTy).Contents (Elt Ideal)) (x1 : (⟨S1024x1024, .bf16⟩ : BufTy).Contents (Elt Ideal))
  (x2 x3 : (⟨S4096x1024, .f32⟩ : BufTy).Contents (Elt Ideal)) (x4 x5 : (⟨S1024, .f32⟩ : BufTy).Contents (Elt Ideal))
  (x6 x7 : (⟨S4096x1024, .f32⟩ : BufTy).Contents (Elt Ideal)) (p : Fin 4096) (j : Fin 1024)

theorem v8_apply : val_main_v8 x2 x4 (ix2 p j) = gateA x2 x4 p j := by
  pointwise [val_main_v8, val_main_v7, val_main_v6, val_main_v5, val_main_v4, val_main_v3, val_main_v2, val_main_v1, val_main_v0, val_main_cst, val_main_cst_0]
  exact sigR_eq _

theorem v20_apply : val_main_v20 x3 x5 (ix2 p j) = gateA x3 x5 p j := by
  pointwise [val_main_v20, val_main_v19, val_main_v18, val_main_v17, val_main_v16, val_main_v15, val_main_v14, val_main_v13, val_main_v12, val_main_cst_2, val_main_cst_3]
  exact sigR_eq _

theorem v30_apply : val_main_v30 x0 x1 (ix2 p j) = dprodA x0 x1 p j := by
  pointwise [val_main_v30, val_main_v29, val_main_v27]
  rfl

theorem v39_apply : val_main_v39 x0 x1 x2 x4 x6 (ix2 p j) = dgateA x0 x1 x2 x6 x4 p j := by
  unfold val_main_v39 val_main_v34 val_main_v11 val_main_v10 val_main_v9 val_main_cst_1
  pointwise
  simp only [v8_apply, v30_apply]
  exact (mul_assoc (G := EReal) _ _ _).symm

theorem v35_apply : val_main_v35 x0 x1 x3 x5 x7 (ix2 p j) = dgateA x0 x1 x3 x7 x5 p j := by
  unfold val_main_v35 val_main_v32 val_main_v23 val_main_v22 val_main_v21 val_main_cst_4
  pointwise
  simp only [v20_apply, v30_apply]
  exact (mul_assoc (G := EReal) _ _ _).symm

theorem v33_apply : val_main_v33 x0 x1 x2 x4 (ix2 p j) = dvalA x0 x1 x2 x4 p j := by
  unfold val_main_v33
  pointwise
  simp only [v8_apply, v30_apply]
  exact mul_comm (G := EReal) _ _

theorem v31_apply : val_main_v31 x0 x1 x3 x5 (ix2 p j) = dvalA x0 x1 x3 x5 p j := by
  unfold val_main_v31
  pointwise
  simp only [v20_apply, v30_apply]
  exact mul_comm (G := EReal) _ _

theorem v43_apply : val_main_v43 x0 x1 x2 x4 x6 (ix2 0 j) = ∑ p : Fin 4096, dgateA x0 x1 x2 x6 x4 p j := by
  unfold val_main_v43 val_main_v42 val_main_v41 val_main_v40 val_main_cst_7 val_main_cst_8
  pointwise
  refine (Fin.sum_univ_one _).trans ?_
  simp only [v39_apply]

theorem v44_apply : val_main_v44 x0 x1 x3 x5 x7 (ix2 0 j) = ∑ p : Fin 4096, dgateA x0 x1 x3 x7 x5 p j := by
  unfold val_main_v44 val_main_v38 val_main_v37 val_main_v36 val_main_cst_5 val_main_cst_6
  pointwise
  refine (Fin.sum_univ_one _).trans ?_
  simp only [v35_apply]
end

/-- Kernel and reference compute the same six arrays. -/
theorem algebraic :
    Cert.algebraic_Kernel7Ideal_Reference7Ideal (hKernel7Ideal := Cert.Kernel7Ideal.Gen.facts)
      (hReference7Ideal := Cert.Reference7Ideal.Gen.facts) := by
  intro m g m' g' _ harg
  refine ⟨fun c => (Cert.Kernel7Ideal.Gen.dats m 0 c).arrAt 8 Cert.Kernel7Ideal.cfg0.N, fun c => (Cert.Kernel7Ideal.Gen.dats m 0 c).arrAt 9 Cert.Kernel7Ideal.cfg0.N, fun c => (Cert.Kernel7Ideal.Gen.dats m 0 c).arrAt 10 Cert.Kernel7Ideal.cfg0.N, fun c => (Cert.Kernel7Ideal.Gen.dats m 0 c).arrAt 11 Cert.Kernel7Ideal.cfg0.N, fun c => (Cert.Kernel7Ideal.Gen.dats m 0 c).arrAt 12 Cert.Kernel7Ideal.cfg0.N, fun c => (Cert.Kernel7Ideal.Gen.dats m 0 c).arrAt 13 Cert.Kernel7Ideal.cfg0.N,
    Cert.Kernel7Ideal.Value.run_blocks m g, (θ_run _ _ _).mono (fun r h c => ?_) (Cert.Reference7Ideal.Value.run m' g')⟩
  obtain ⟨h0, h1, h2, h3, h4, h5, hr⟩ := h c
  obtain ⟨e0, e1, e2, e3, e4, e5, e6, e7⟩ := harg c
  refine ⟨h0.trans ?_, h1.trans ?_, h2.trans ?_, h3.trans ?_, h4.trans ?_, h5.trans ?_, hr⟩
  · rw [Cert.Reference7Ideal.Read.val_main_v39_eq, e0, e1, e2, e4, e6]
    funext i
    obtain ⟨p, j, rfl⟩ : ∃ (p : Fin 4096) (j : Fin 1024), i = ix2 p j := ⟨i 0, i 1, by funext a; match a with | ⟨0, _⟩ => rfl | ⟨1, _⟩ => rfl⟩
    exact (v39_apply _ _ _ _ _ p j).trans (Cert.Kernel7Ideal.Merge.arr8 m c p j).symm
  · rw [Cert.Reference7Ideal.Read.val_main_v35_eq, e0, e1, e3, e5, e7]
    funext i
    obtain ⟨p, j, rfl⟩ : ∃ (p : Fin 4096) (j : Fin 1024), i = ix2 p j := ⟨i 0, i 1, by funext a; match a with | ⟨0, _⟩ => rfl | ⟨1, _⟩ => rfl⟩
    exact (v35_apply _ _ _ _ _ p j).trans (Cert.Kernel7Ideal.Merge.arr9 m c p j).symm
  · rw [Cert.Reference7Ideal.Read.val_main_v33_eq, e0, e1, e2, e4]
    funext i
    obtain ⟨p, j, rfl⟩ : ∃ (p : Fin 4096) (j : Fin 1024), i = ix2 p j := ⟨i 0, i 1, by funext a; match a with | ⟨0, _⟩ => rfl | ⟨1, _⟩ => rfl⟩
    exact (v33_apply _ _ _ _ p j).trans (Cert.Kernel7Ideal.Merge.arr10 m c p j).symm
  · rw [Cert.Reference7Ideal.Read.val_main_v31_eq, e0, e1, e3, e5]
    funext i
    obtain ⟨p, j, rfl⟩ : ∃ (p : Fin 4096) (j : Fin 1024), i = ix2 p j := ⟨i 0, i 1, by funext a; match a with | ⟨0, _⟩ => rfl | ⟨1, _⟩ => rfl⟩
    exact (v31_apply _ _ _ _ p j).trans (Cert.Kernel7Ideal.Merge.arr11 m c p j).symm
  · rw [Cert.Reference7Ideal.Read.val_main_v43_eq, e0, e1, e2, e4, e6]
    funext i
    obtain ⟨j, rfl⟩ : ∃ j : Fin 1024, i = ix2 (0 : Fin 1) j := ⟨i 1, by
      funext a
      match a with
      | ⟨0, _⟩ => exact Fin.ext (show (i 0).val = 0 by have : (i 0).val < 1 := (i 0).isLt; omega)
      | ⟨1, _⟩ => rfl⟩
    exact (v43_apply _ _ _ _ _ j).trans (Cert.Kernel7Ideal.Merge.arr12 m c j).symm
  · rw [Cert.Reference7Ideal.Read.val_main_v44_eq, e0, e1, e3, e5, e7]
    funext i
    obtain ⟨j, rfl⟩ : ∃ j : Fin 1024, i = ix2 (0 : Fin 1) j := ⟨i 1, by
      funext a
      match a with
      | ⟨0, _⟩ => exact Fin.ext (show (i 0).val = 0 by have : (i 0).val < 1 := (i 0).isLt; omega)
      | ⟨1, _⟩ => rfl⟩
    exact (v44_apply _ _ _ _ _ j).trans (Cert.Kernel7Ideal.Merge.arr13 m c j).symm

end Cert.MergeClaim

end
-- ==== Proof.Merge.GroupBlock.lean ====
/-
  The gradient of the grouped norm, one block of 256 rows. A row has two groups of 512 columns; the product's gradient goes
  through the norm of each group to the gated value, and from there to the value and the gate's argument. The norm's weight
  collects one row of sums.
-/
module

public import proofs.«01_k».proof.Proof.Gen.Kernel8Ideal.Value
public import proofs.«01_k».proof.Proof.Ffn.GateMath
public import proofs.«01_k».proof.Proof.Ffn.NormMath
public import Idealize.ShloMosaic.Lib.Pointwise
public import Idealize.ShloMosaic.Lib.Pipeline.ValueKit
public import Idealize.ShloMosaic.Lib.Tactic

@[expose] public section

set_option maxRecDepth 16384

noncomputable section

namespace Cert.Kernel8Ideal.Group

open Cert.Kernel8Ideal Cert.Kernel8Ideal.Gen Cert.Kernel8Ideal.Value Idealize.ShloMosaic Idealize.ShloMosaic.TcCoe Idealize.SL.Sem Idealize.ShloMosaic.Pointwise Cert.Gate
open Idealize.ShloMosaic.Pipeline (Dat)
open Cert.Norm (dxK root)

/-- A column of a group. -/
def col (q : Fin 2) (k : Fin 512) : Fin 1024 := ⟨q.val * 512 + k.val, by omega⟩

theorem exists_col (j : Fin 1024) : ∃ (q : Fin 2) (k : Fin 512), j = col q k :=
  ⟨⟨j.val / 512, by omega⟩, ⟨j.val % 512, by omega⟩, Fin.ext (show j.val = j.val / 512 * 512 + j.val % 512 by omega)⟩

theorem col0 (k : Fin 512) (h : k.val < 1024) : (⟨k.val, h⟩ : Fin 1024) = col 0 k := Fin.ext (show k.val = 0 * 512 + k.val by omega)
theorem col1 (k : Fin 512) (h : 512 + k.val < 1024) : (⟨512 + k.val, h⟩ : Fin 1024) = col 1 k := Fin.ext (show 512 + k.val = 1 * 512 + k.val by omega)

/-- The number of a group's columns, as the programs write it. -/
def width2 : EReal := Ideal.ofBits .f32 0x44000000#32

theorem width2_eq : width2 = ((512 : ℝ) : EReal) := by
  simp [width2, Ideal.ofBits, Ideal.ieee]
  rw [← EReal.coe_mul]
  norm_num

/-- The gated value. -/
def gated (y z : EReal) : EReal := y * (z * sigK z)

section
variable (d : Vec Ideal S256x1024 .f32) (w : Vec Ideal S1024x1024 .bf16) (y z : Vec Ideal S256x1024 .f32) (g : Vec Ideal S1x1024 .f32)
  (r : Fin 256) (q : Fin 2) (j : Fin 512)

/-- The gradient of the scaled, normalised value: the gradient of the product. -/
def dprod (r : Fin 256) (j : Fin 1024) : EReal := ∑ k : Fin 1024, d (ix2 r k) * w (ix2 j k)

/-- A group's row of gated values, its reciprocal root, and the gradient of the gated value. -/
def uB (q : Fin 2) (k : Fin 512) : EReal := gated (y (ix2 r (col q k))) (z (ix2 r (col q k)))
def duB (q : Fin 2) (j : Fin 512) : EReal := dxK width2 (fun k => dprod d w r (col q k) * g (ix2 0 (col q k))) (uB y z r q) 0 j

theorem pay6_apply (j : Fin 1024) : k0_pay6 d w (ix2 r j) = dprod d w r j := by
  pointwise [k0_pay6]
  rfl

theorem pay11_apply : k0_pay11 z (ix2 r j) = sigK (z (ix2 r (col 0 j))) := by
  pointwise [k0_pay11, k0_pay9]
  rw [col0]
  rfl

theorem pay25_apply : k0_pay25 z (ix2 r j) = sigK (z (ix2 r (col 1 j))) := by
  pointwise [k0_pay25, k0_pay23]
  rw [col1]
  rfl

theorem pay12_apply : k0_pay12 z (ix2 r j) = z (ix2 r (col 0 j)) * sigK (z (ix2 r (col 0 j))) := by
  rw [← pay11_apply]
  unfold k0_pay12 k0_pay9
  pointwise
  rw [col0]

theorem pay26_apply : k0_pay26 z (ix2 r j) = z (ix2 r (col 1 j)) * sigK (z (ix2 r (col 1 j))) := by
  rw [← pay25_apply]
  unfold k0_pay26 k0_pay23
  pointwise
  rw [col1]

theorem pay13_apply : k0_pay13 y z (ix2 r j) = uB y z r 0 j := by
  unfold k0_pay13 k0_pay8
  pointwise
  rw [col0, pay12_apply]
  rfl

theorem pay27_apply : k0_pay27 y z (ix2 r j) = uB y z r 1 j := by
  unfold k0_pay27 k0_pay22
  pointwise
  rw [col1, pay26_apply]
  rfl

theorem pay14_apply : k0_pay14 y z (ix2 r 0) = root width2 (uB y z r 0) := by
  unfold k0_pay14
  pointwise
  simp only [pay13_apply]
  rfl

theorem pay28_apply : k0_pay28 y z (ix2 r 0) = root width2 (uB y z r 1) := by
  unfold k0_pay28
  pointwise
  simp only [pay27_apply]
  rfl

theorem pay15_apply : k0_pay15 y z (ix2 r j) = uB y z r 0 j * root width2 (uB y z r 0) := by
  rw [← pay14_apply, ← pay13_apply]
  unfold k0_pay15
  pointwise

theorem pay29_apply : k0_pay29 y z (ix2 r j) = uB y z r 1 j * root width2 (uB y z r 1) := by
  rw [← pay28_apply, ← pay27_apply]
  unfold k0_pay29
  pointwise

theorem pay10_apply : k0_pay10 d w (ix2 r j) = dprod d w r (col 0 j) := by
  rw [← pay6_apply]
  unfold k0_pay10
  pointwise
  rw [col0]

theorem pay24_apply : k0_pay24 (k0_pay6 d w) (ix2 r j) = dprod d w r (col 1 j) := by
  rw [← pay6_apply]
  unfold k0_pay24
  pointwise
  rw [col1]

theorem pay16_apply : k0_pay16 d w g (ix2 r j) = dprod d w r (col 0 j) * g (ix2 0 (col 0 j)) := by
  rw [← pay10_apply]
  unfold k0_pay16 k0_pay7
  pointwise
  rw [col0]

theorem pay30_apply : k0_pay30 (k0_pay6 d w) (k0_pay7 g) (ix2 r j) = dprod d w r (col 1 j) * g (ix2 0 (col 1 j)) := by
  rw [← pay24_apply]
  unfold k0_pay30 k0_pay7
  pointwise
  rw [col1]

theorem pay18_apply : k0_pay18 (k0_pay14 y z) (k0_pay15 y z) (k0_pay16 d w g) (k0_pay17 d w y z g) (FloatOps.ofBits FTy.f32 0x44000000#32) (ix2 r j)
    = duB d w y z g r 0 j := by
  unfold k0_pay18 k0_pay17 duB dxK
  pointwise
  simp only [pay14_apply, pay15_apply, pay16_apply]
  rfl

theorem pay1_apply : k0_pay1 (k0_pay28 y z) (k0_pay29 y z) (k0_pay30 (k0_pay6 d w) (k0_pay7 g)) (k0_pay31 (k0_pay6 d w) y z (k0_pay7 g)) (ix2 r j)
    = duB d w y z g r 1 j := by
  unfold k0_pay1 k0_pay31 duB dxK
  pointwise
  simp only [pay28_apply, pay29_apply, pay30_apply]
  rfl

/-- The block of the value's gradient. -/
def outY : Vec Ideal S256x1024 .f32 :=
  k0_pay2 (k0_pay19 (k0_pay12 z) (k0_pay14 y z) (k0_pay15 y z) (k0_pay16 d w g) (k0_pay17 d w y z g) (FloatOps.ofBits FTy.f32 0x44000000#32))
    (k0_pay26 z) (k0_pay28 y z) (k0_pay29 y z) (k0_pay30 (k0_pay6 d w) (k0_pay7 g)) (k0_pay31 (k0_pay6 d w) y z (k0_pay7 g))

/-- The block of the gradient of the gate's argument. -/
def outZ : Vec Ideal S256x1024 .f32 :=
  k0_pay3 (k0_pay20 (k0_pay8 y) (k0_pay9 z) (k0_pay11 z) (k0_pay14 y z) (k0_pay15 y z) (k0_pay16 d w g) (k0_pay17 d w y z g) (FloatOps.ofBits FTy.f32 0x44000000#32))
    (k0_pay22 y) (k0_pay23 z) (k0_pay25 z) (k0_pay28 y z) (k0_pay29 y z) (k0_pay30 (k0_pay6 d w) (k0_pay7 g)) (k0_pay31 (k0_pay6 d w) y z (k0_pay7 g))

/-- The row of the norm's weight's gradient, over what it held. -/
def outG (v : Vec Ideal S1x1024 .f32) : Vec Ideal S1x1024 .f32 :=
  k0_pay5 (k0_pay21 (k0_pay10 d w) (k0_pay15 y z)) (k0_pay24 (k0_pay6 d w)) (k0_pay29 y z) v

theorem outY_apply : outY d w y z g (ix2 r (col q j)) = duB d w y z g r q j * (z (ix2 r (col q j)) * sigK (z (ix2 r (col q j)))) := by
  unfold outY k0_pay2 k0_pay19
  match q with
  | ⟨0, _⟩ =>
    have h : ¬ 512 ≤ (col 0 j).val := by have : (col 0 j).val = 0 * 512 + j.val := rfl; omega
    rw [show (⟨0, _⟩ : Fin 2) = 0 from rfl]
    pointwise
    rw [dif_pos (not_le.1 h)]
    have e : (⟨(col 0 j).val, not_le.1 h⟩ : Fin 512) = j := Fin.ext (show 0 * 512 + j.val = j.val by omega)
    rw [e]
    exact congrArg₂ (· * ·) (pay18_apply d w y z g r j) (pay12_apply z r j)
  | ⟨1, _⟩ =>
    have h : ¬ (col 1 j).val < 512 := by have : (col 1 j).val = 1 * 512 + j.val := rfl; omega
    rw [show (⟨1, _⟩ : Fin 2) = 1 from rfl]
    pointwise
    rw [dif_neg h]
    have e : (⟨(col 1 j).val - 512, by have := (col 1 j).isLt; omega⟩ : Fin 512) = j := Fin.ext (show 1 * 512 + j.val - 512 = j.val by omega)
    rw [e]
    exact congrArg₂ (· * ·) (pay1_apply d w y z g r j) (pay26_apply z r j)

theorem outZ_apply : outZ d w y z g (ix2 r (col q j)) = gateK (duB d w y z g r q j) (z (ix2 r (col q j))) (y (ix2 r (col q j))) := by
  unfold outZ k0_pay3 k0_pay20 k0_pay8 k0_pay9 k0_pay22 k0_pay23
  match q with
  | ⟨0, _⟩ =>
    have h : ¬ 512 ≤ (col 0 j).val := by have : (col 0 j).val = 0 * 512 + j.val := rfl; omega
    rw [show (⟨0, _⟩ : Fin 2) = 0 from rfl]
    pointwise
    rw [dif_pos (not_le.1 h)]
    have e : (⟨(col 0 j).val, not_le.1 h⟩ : Fin 512) = j := Fin.ext (show 0 * 512 + j.val = j.val by omega)
    rw [e, show k0_pay18 _ _ _ _ (Ideal.ofBits FTy.f32 0x44000000#32) (ix2 r j) = _ from pay18_apply d w y z g r j, pay11_apply]
    unfold gateK
    rw [one_eq]
  | ⟨1, _⟩ =>
    have h : ¬ (col 1 j).val < 512 := by have : (col 1 j).val = 1 * 512 + j.val := rfl; omega
    rw [show (⟨1, _⟩ : Fin 2) = 1 from rfl]
    pointwise
    rw [dif_neg h]
    have e : (⟨(col 1 j).val - 512, by have := (col 1 j).isLt; omega⟩ : Fin 512) = j := Fin.ext (show 1 * 512 + j.val - 512 = j.val by omega)
    have e2 (h) : (⟨512 + ((col 1 j).val - 512), h⟩ : Fin 1024) = col 1 j := Fin.ext (show 512 + (1 * 512 + j.val - 512) = 1 * 512 + j.val by omega)
    simp only [e, e2, pay1_apply, pay25_apply]
    unfold gateK
    rw [one_eq]

theorem outG_apply (v : Vec Ideal S1x1024 .f32) : outG d w y z v (ix2 0 (col q j))
    = v (ix2 0 (col q j)) + ∑ r : Fin 256, dprod d w r (col q j) * (uB y z r q j * root width2 (uB y z r q)) := by
  unfold outG k0_pay5 k0_pay21
  match q with
  | ⟨0, _⟩ =>
    have h : ¬ 512 ≤ (col 0 j).val := by have : (col 0 j).val = 0 * 512 + j.val := rfl; omega
    rw [show (⟨0, _⟩ : Fin 2) = 0 from rfl]
    pointwise
    rw [dif_pos (not_le.1 h)]
    have e : (⟨(col 0 j).val, not_le.1 h⟩ : Fin 512) = j := Fin.ext (show 0 * 512 + j.val = j.val by omega)
    rw [e]
    simp only [pay10_apply, pay15_apply]
  | ⟨1, _⟩ =>
    have h : ¬ (col 1 j).val < 512 := by have : (col 1 j).val = 1 * 512 + j.val := rfl; omega
    rw [show (⟨1, _⟩ : Fin 2) = 1 from rfl]
    pointwise
    rw [dif_neg h]
    have e : (⟨(col 1 j).val - 512, by have := (col 1 j).isLt; omega⟩ : Fin 512) = j := Fin.ext (show 1 * 512 + j.val - 512 = j.val by omega)
    rw [e]
    simp only [pay24_apply, pay29_apply]
end

section
variable (c : Dev nD) (i : grid0.Coords)
  (a3 : Memref sig .tc .vmem S256x1024 .f32) (h3 : a3.IsWhole)
  (a4 : Memref sig .tc .vmem S1024x1024 .bf16) (h4 : a4.IsWhole)
  (a5 : Memref sig .tc .vmem S256x1024 .f32) (h5 : a5.IsWhole)
  (a6 : Memref sig .tc .vmem S256x1024 .f32) (h6 : a6.IsWhole)
  (a7 : Memref sig .tc .vmem S1x1024 .f32) (h7 : a7.IsWhole)
  (a8 : Memref sig .tc .vmem S256x1024 .f32) (h8 : a8.IsWhole)
  (a9 : Memref sig .tc .vmem S256x1024 .f32) (h9 : a9.IsWhole)
  (a10 : Memref sig .tc .vmem S1x1024 .f32) (h10 : a10.IsWhole)
  (d : Vec Ideal S256x1024 .f32) (w : Vec Ideal S1024x1024 .bf16) (y z : Vec Ideal S256x1024 .f32) (g v : Vec Ideal S1x1024 .f32)

theorem outA5 (q) : out0_A_5 (F := Ideal) c i a3 h3 a4 h4 a5 h5 a6 h6 a7 h7 a8 h8 a9 h9 a10 h10 q d w y z g = outY d w y z g := by
  unfold outY
  frame_out

theorem outB5 (q) : out0_B_5 (F := Ideal) c i a3 h3 a4 h4 a5 h5 a6 h6 a7 h7 a8 h8 a9 h9 a10 h10 q d w y z g v = outY d w y z g := by
  unfold outY
  frame_out

theorem outA6 (q) : out0_A_6 (F := Ideal) c i a3 h3 a4 h4 a5 h5 a6 h6 a7 h7 a8 h8 a9 h9 a10 h10 q d w y z g = outZ d w y z g := by
  unfold outZ
  frame_out

theorem outB6 (q) : out0_B_6 (F := Ideal) c i a3 h3 a4 h4 a5 h5 a6 h6 a7 h7 a8 h8 a9 h9 a10 h10 q d w y z g v = outZ d w y z g := by
  unfold outZ
  frame_out

theorem outA7 (q) : out0_A_7 (F := Ideal) c i a3 h3 a4 h4 a5 h5 a6 h6 a7 h7 a8 h8 a9 h9 a10 h10 q d w y z g = outG d w y z (k0_pay4 (F := Ideal)) := by
  unfold outG
  frame_out

theorem outB7 (q) : out0_B_7 (F := Ideal) c i a3 h3 a4 h4 a5 h5 a6 h6 a7 h7 a8 h8 a9 h9 a10 h10 q d w y z g v = outG d w y z v := by
  unfold outG
  frame_out

end

end Cert.Kernel8Ideal.Group

end
-- ==== Proof.Merge.GroupArray.lean ====
/-
  The gradient of the grouped norm: the three arrays that the kernel leaves.
-/
module

public import proofs.«01_k».proof.Proof.Merge.GroupBlock
public import proofs.«01_k».proof.Proof.Merge.Tiles

@[expose] public section

set_option maxRecDepth 16384

noncomputable section

namespace Cert.Kernel8Ideal.Group

open Cert.Kernel8Ideal Cert.Kernel8Ideal.Gen Cert.Kernel8Ideal.Value Idealize.ShloMosaic Idealize.ShloMosaic.TcCoe Idealize.SL.Sem Idealize.ShloMosaic.Pointwise Cert.Gate
open Idealize.ShloMosaic.Pipeline (Dat)
open Cert.Norm (dxK root)
open Cert.Tiles

variable (m : (ℓ : Loc nD τ sig) → Buf (Elt Ideal) ℓ) (c : Dev nD)

theorem ind : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0) :=
  (by decide +kernel : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0))

theorem lt (t : Fin cfg0.N) : t.val < 16 := t.isLt

theorem iblk0 (t : Fin cfg0.N) (r : Fin 256) (k : Fin 1024) : iblk m c 0 t (ix2 r k) = m ((c : Thread nD τ).loc main_arg0) (ix2 (row t.val (lt t) r) k) := by
  have e := (ind t).1
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem iblk1 (t : Fin cfg0.N) (r : Fin 1024) (k : Fin 1024) : iblk m c 1 t (ix2 r k) = m ((c : Thread nD τ).loc main_arg1) (ix2 r k) := by
  have e := (ind t).2.1
  unfold iblk
  rw [View.read_apply]
  show V m c main_arg1 _ = _
  rw [V_main_arg1]
  congr 1
  funext a
  apply Fin.ext
  match a with
  | ⟨0, _⟩ => show win0_1.index t 0 * 1024 + 1 * r.val = r.val; rw [e.1]; omega
  | ⟨1, _⟩ => show win0_1.index t 1 * 1024 + 1 * k.val = k.val; rw [e.2]; omega

theorem iblk2 (t : Fin cfg0.N) (r : Fin 256) (k : Fin 1024) : iblk m c 2 t (ix2 r k) = m ((c : Thread nD τ).loc main_arg2) (ix2 (row t.val (lt t) r) k) := by
  have e := (ind t).2.2.1
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 1024 + 1 * k.val = k.val; rw [e.2]; omega

theorem iblk3 (t : Fin cfg0.N) (r : Fin 256) (k : Fin 1024) : iblk m c 3 t (ix2 r k) = m ((c : Thread nD τ).loc main_arg3) (ix2 (row t.val (lt t) r) k) := by
  have e := (ind t).2.2.2.1
  unfold iblk
  rw [View.read_apply]
  show V m c main_arg3 _ = _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 1024 + 1 * k.val = k.val; rw [e.2]; omega

/-- The norm's weight, laid out as one row by the host. -/
theorem iblk4 (t : Fin cfg0.N) (j : Fin 1024) : iblk m c 4 t (ix2 0 j) = m ((c : Thread nD τ).loc main_arg4) (ix1 j) := by
  have e := (ind t).2.2.2.2.1
  unfold iblk
  rw [View.read_apply]
  have hi : ((cfg0.win 4).blk t).view.emb (ix2 0 j) = ix2 (0 : Fin 1) j := by
    funext a
    apply Fin.ext
    match a with
    | ⟨0, _⟩ => show win0_4.index t 0 * 1 + 1 * 0 = 0; rw [e.1]
    | ⟨1, _⟩ => show win0_4.index t 1 * 1024 + 1 * j.val = j.val; rw [e.2]; omega
  rw [hi]
  show V m c main_v0 _ = _
  have hv : V m c main_v0 = shapeCast S1x1024 (m ((c : Thread nD τ).loc main_arg4)) shapeCasts_S1024_S1x1024 := by
    unfold V hostOps0
    simp only [StableHlo.after_cons, StableHlo.after_nil]
    rfl
  refine (congrFun hv _).trans ?_
  pointwise

section
variable (d : S4096x1024.Idx → EReal) (w : S1024x1024.Idx → EReal) (y z : S4096x1024.Idx → EReal) (g : S1024.Idx → EReal)

/-- The product's gradient at an index of the array. -/
def dprodA (p : Fin 4096) (j : Fin 1024) : EReal := ∑ k : Fin 1024, d (ix2 p k) * w (ix2 j k)

/-- A group's row of gated values, the gradient of the normalised row, and the gradient of the gated value. -/
def uA (p : Fin 4096) (q : Fin 2) (k : Fin 512) : EReal := gated (y (ix2 p (col q k))) (z (ix2 p (col q k)))
def dnA (p : Fin 4096) (q : Fin 2) (k : Fin 512) : EReal := dprodA d w p (col q k) * g (ix1 (col q k))
def duA (p : Fin 4096) (q : Fin 2) (j : Fin 512) : EReal := dxK width2 (dnA d w g p q) (uA y z p q) 0 j

/-- The three gradients: of the value, of the gate's argument, and a row's part of the norm's weight's. -/
def dyA (p : Fin 4096) (q : Fin 2) (j : Fin 512) : EReal := duA d w y z g p q j * (z (ix2 p (col q j)) * sigK (z (ix2 p (col q j))))
def dzA (p : Fin 4096) (q : Fin 2) (j : Fin 512) : EReal := gateK (duA d w y z g p q j) (z (ix2 p (col q j))) (y (ix2 p (col q j)))
def dgA (q : Fin 2) (j : Fin 512) (p : Fin 4096) : EReal := dprodA d w p (col q j) * (uA y z p q j * root width2 (uA y z p q))
end

theorem dprod_iblk (t : Fin cfg0.N) (r : Fin 256) (j : Fin 1024) : dprod (iblk m c 0 t) (iblk m c 1 t) r j
    = dprodA (m ((c : Thread nD τ).loc main_arg0)) (m ((c : Thread nD τ).loc main_arg1)) (row t.val (lt t) r) j :=
  Finset.sum_congr rfl fun k _ => congrArg₂ (· * ·) (iblk0 m c t r k) (iblk1 m c t j k)

theorem uB_iblk (t : Fin cfg0.N) (r : Fin 256) (q : Fin 2) : uB (iblk m c 2 t) (iblk m c 3 t) r q
    = uA (m ((c : Thread nD τ).loc main_arg2)) (m ((c : Thread nD τ).loc main_arg3)) (row t.val (lt t) r) q :=
  funext fun k => congrArg₂ gated (iblk2 m c t r (col q k)) (iblk3 m c t r (col q k))

theorem duB_iblk (t : Fin cfg0.N) (r : Fin 256) (q : Fin 2) (j : Fin 512) : duB (iblk m c 0 t) (iblk m c 1 t) (iblk m c 2 t) (iblk m c 3 t) (iblk m c 4 t) r q j
    = duA (m ((c : Thread nD τ).loc main_arg0)) (m ((c : Thread nD τ).loc main_arg1)) (m ((c : Thread nD τ).loc main_arg2)) (m ((c : Thread nD τ).loc main_arg3)) (m ((c : Thread nD τ).loc main_arg4)) (row t.val (lt t) r) q j := by
  unfold duB duA
  rw [uB_iblk]
  exact congrArg (fun a => dxK width2 a _ 0 j) (funext fun k => congrArg₂ (· * ·) (dprod_iblk m c t r (col q k)) (iblk4 m c t (col q k)))

/-- The array of the gradient of the value. -/
theorem arr5 (p : Fin 4096) (q : Fin 2) (j : Fin 512) : (dats m 0 c).arrAt 5 cfg0.N (ix2 p (col q j)) = dyA (m ((c : Thread nD τ).loc main_arg0)) (m ((c : Thread nD τ).loc main_arg1)) (m ((c : Thread nD τ).loc main_arg2)) (m ((c : Thread nD τ).loc main_arg3)) (m ((c : Thread nD τ).loc main_arg4)) p q j := by
  obtain ⟨t, ht, r, hp⟩ := exists_row p
  obtain ⟨t, rfl⟩ : ∃ t' : Fin cfg0.N, t'.val = t := ⟨⟨t, ht⟩, rfl⟩
  have hb := congrFun (blocks5 m c t (flush0_5 _)) (ix2 r (col q j))
  rw [View.read_apply] at hb
  have e := (ind t).2.2.2.2.2.1
  have hi : ((cfg0.win 5).blk t).view.emb (ix2 r (col q j)) = ix2 (row t.val ht r) (col q j) := by
    funext a
    apply Fin.ext
    match a with
    | ⟨0, _⟩ => show win0_5.index t 0 * 256 + 1 * r.val = t.val * 256 + r.val; rw [e.1]; omega
    | ⟨1, _⟩ => show win0_5.index t 1 * 1024 + 1 * (col q j).val = (col q j).val; rw [e.2]; omega
  rw [hi] at hb
  rw [hp]
  refine hb.trans ?_
  by_cases h : t.val % 16 = 0
  · rw [flushed5_A m c t h, outA5]
    refine (outY_apply _ _ _ _ _ r q j).trans ?_
    rw [duB_iblk, iblk3]
    rfl
  · rw [flushed5_B m c t h, outB5]
    refine (outY_apply _ _ _ _ _ r q j).trans ?_
    rw [duB_iblk, iblk3]
    rfl

/-- The array of the gradient of the gate's argument. -/
theorem arr6 (p : Fin 4096) (q : Fin 2) (j : Fin 512) : (dats m 0 c).arrAt 6 cfg0.N (ix2 p (col q j)) = dzA (m ((c : Thread nD τ).loc main_arg0)) (m ((c : Thread nD τ).loc main_arg1)) (m ((c : Thread nD τ).loc main_arg2)) (m ((c : Thread nD τ).loc main_arg3)) (m ((c : Thread nD τ).loc main_arg4)) p q j := by
  obtain ⟨t, ht, r, hp⟩ := exists_row p
  obtain ⟨t, rfl⟩ : ∃ t' : Fin cfg0.N, t'.val = t := ⟨⟨t, ht⟩, rfl⟩
  have hb := congrFun (blocks6 m c t (flush0_6 _)) (ix2 r (col q j))
  rw [View.read_apply] at hb
  have e := (ind t).2.2.2.2.2.2.1
  have hi : ((cfg0.win 6).blk t).view.emb (ix2 r (col q j)) = ix2 (row t.val ht r) (col q j) := by
    funext a
    apply Fin.ext
    match a with
    | ⟨0, _⟩ => show win0_6.index t 0 * 256 + 1 * r.val = t.val * 256 + r.val; rw [e.1]; omega
    | ⟨1, _⟩ => show win0_6.index t 1 * 1024 + 1 * (col q j).val = (col q j).val; rw [e.2]; omega
  rw [hi] at hb
  rw [hp]
  refine hb.trans ?_
  by_cases h : t.val % 16 = 0
  · rw [flushed6_A m c t h, outA6]
    refine (outZ_apply _ _ _ _ _ r q j).trans ?_
    rw [duB_iblk, iblk2, iblk3]
    rfl
  · rw [flushed6_B m c t h, outB6]
    refine (outZ_apply _ _ _ _ _ r q j).trans ?_
    rw [duB_iblk, iblk2, iblk3]
    rfl

/-- After a point the row holds the sum of the tiles so far. -/
theorem partials7 (q : Fin 2) (j : Fin 512) : ∀ (n : ℕ) (hn : n < cfg0.N), (outsAt0 m c n hn).2.2 (ix2 0 (col q j))
    = ∑ i ∈ Finset.range (n + 1), tile (dgA (m ((c : Thread nD τ).loc main_arg0)) (m ((c : Thread nD τ).loc main_arg1)) (m ((c : Thread nD τ).loc main_arg2)) (m ((c : Thread nD τ).loc main_arg3)) q j) i
  | 0, hn => by
    rw [outsAt0_A m c ⟨0, hn⟩ rfl]
    dsimp only
    rw [outA7]
    refine (outG_apply _ _ _ _ q j _).trans ?_
    rw [Finset.sum_range_one, tile_eq _ (show 0 < 16 by omega)]
    have : (k0_pay4 (F := Ideal)) (ix2 0 (col q j)) = 0 := by pointwise [k0_pay4]
    rw [this, zero_add]
    refine Finset.sum_congr rfl fun r _ => ?_
    rw [dprod_iblk, uB_iblk]
    rfl
  | n + 1, hn => by
    have h16 : n + 1 < 16 := hn
    rw [outsAt0_B m c ⟨n + 1, hn⟩ (by show ¬(n + 1) % 16 = 0; omega)]
    dsimp only
    rw [outB7]
    refine (outG_apply _ _ _ _ q j _).trans ?_
    rw [Finset.sum_range_succ, tile_eq _ h16]
    refine congrArg₂ (· + ·) (partials7 q j n _) (Finset.sum_congr rfl fun r _ => ?_)
    rw [dprod_iblk, uB_iblk]
    rfl

/-- The array of the gradient of the norm's weight. -/
theorem arr7 (q : Fin 2) (j : Fin 512) : (dats m 0 c).arrAt 7 cfg0.N (ix2 0 (col q j)) = ∑ p : Fin 4096, dgA (m ((c : Thread nD τ).loc main_arg0)) (m ((c : Thread nD τ).loc main_arg1)) (m ((c : Thread nD τ).loc main_arg2)) (m ((c : Thread nD τ).loc main_arg3)) q j p := by
  obtain ⟨t, ht⟩ : ∃ t : Fin cfg0.N, t.val = 15 := ⟨⟨15, show 15 < 16 by omega⟩, rfl⟩
  have hd : ∀ t t' : Fin cfg0.N, (cfg0.win 7).flush t = true → (cfg0.win 7).flush t' = true → t ≠ t' →
      Disjoint ((cfg0.win 7).blk t).view.set ((cfg0.win 7).blk t').view.set := fun t t' h h' hne => by
    have a := (flush0_7 t).1 h
    have b := (flush0_7 t').1 h'
    have ha := lt t
    have hb := lt t'
    exact absurd (Fin.ext (by omega)) hne
  have hb := congrFun ((dats m 0 c).read_blk_arrAt_eq_flushed 7 hd cfg0.N t t.isLt ((flush0_7 t).2 (by omega))) (ix2 0 (col q j))
  rw [View.read_apply, flushed7] at hb
  have e := (ind t).2.2.2.2.2.2.2
  have hi : ((cfg0.win 7).blk t).view.emb (ix2 0 (col q j)) = ix2 (0 : Fin 1) (col q j) := by
    funext a
    apply Fin.ext
    match a with
    | ⟨0, _⟩ => show win0_7.index t 0 * 1 + 1 * 0 = 0; rw [e.1]
    | ⟨1, _⟩ => show win0_7.index t 1 * 1024 + 1 * (col q j).val = (col q j).val; rw [e.2]; omega
  rw [hi] at hb
  refine hb.trans ((partials7 m c q j t.val t.isLt).trans ?_)
  rw [ht, sum_tiles]

end Cert.Kernel8Ideal.Group

end
-- ==== Proof.Merge.GroupMath.lean ====
/-
  The gradient of the gate's argument behind a norm. The gradient of the gated value is finite where the gradient of the norm's
  result is, whatever the gated values are: a row with an infinite entry has the reciprocal root 0. So the two forms of the
  gate's gradient agree for all values and all arguments of the gate.
-/
module

public import proofs.«01_k».proof.Proof.Ffn.GateMath
public import proofs.«01_k».proof.Proof.Ffn.NormMath

@[expose] public section

noncomputable section

namespace Cert.GroupNorm

open Idealize.ShloMosaic Cert.AttnGrad Cert.Gate Cert.Norm

theorem one_sub : (1 : EReal) - 1 = 0 := by rw [← EReal.coe_one, ← EReal.coe_sub, sub_self, EReal.coe_zero]

theorem gate_of_fin {d u : EReal} (h : Fin' (d * u)) (t : EReal) : gateK d t u = gateR d t u := by
  obtain ⟨c, hc⟩ := h.coe
  unfold gateK gateR
  rw [hc]
  have := gateK_eq (fin_coe c) (fin_coe 1) t
  unfold gateK gateR at this
  rw [EReal.coe_one, mul_one] at this
  exact this

theorem gate_zero (d u : EReal) : gateK d 0 u = gateR d 0 u := by
  unfold gateK gateR
  rw [sigK_eq, one_eq]
  simp

theorem gate_bot (d u : EReal) : gateK d ⊥ u = gateR d ⊥ u := by
  unfold gateK gateR
  rw [sigK_eq, sigR_eq, Ideal.logistic_bot]
  simp

/-- A gate's value is 0 only for the arguments 0 and `⊥`. -/
theorem silu_zero {t : EReal} (h : t * sigK t = 0) : t = 0 ∨ t = ⊥ := by
  rcases mul_eq_zero.1 h with h | h
  · exact .inl h
  · rw [sigK_eq, sigR_eq] at h
    induction t with
    | bot => exact .inr rfl
    | coe r =>
      rw [Ideal.logistic_coe] at h
      have h' : (1 + Real.exp (-r))⁻¹ = 0 := by exact_mod_cast h
      have := Real.exp_pos (-r)
      rw [inv_eq_zero] at h'
      linarith
    | top => rw [Ideal.logistic_top] at h; exact absurd h one_ne_zero

variable {n : ℕ} {w : EReal} {b : ℝ}

theorem dx_fin (hw : w = (b : EReal)) (hb : 0 < b) (a x : Fin n → EReal) (ha : ∀ k, Fin' (a k)) (hx : ∀ k, Fin' (x k)) (j : Fin n) : Fin' (dxK w a x 0 j) := by
  obtain ⟨v, hv, hvar⟩ := var_coe hw hb x hx
  choose f hf using fun k => (ha k).coe
  choose g hg using fun k => (hx k).coe
  have hroot : root w x = (((Real.sqrt v)⁻¹ : ℝ) : EReal) := by
    rw [root, hvar, Ideal.rsqrt_coe, if_neg (not_lt.2 hv.le), if_neg hv.ne']
  unfold dxK
  rw [hroot, hw, div_coe _ hb.ne', add_zero]
  simp only [hf, hg, ← EReal.coe_mul, coe_sum', ← EReal.coe_sub]
  exact fin_coe _

/-- The two forms of the gradient of the gate's argument agree behind a norm. -/
theorem gate_eq (hw : w = (b : EReal)) (hb : 0 < b) (a x : Fin n → EReal) (ha : ∀ k, Fin' (a k)) (y z : EReal) (j : Fin n) (hj : x j = y * (z * sigK z)) :
    gateK (dxK w a x 0 j) z y = gateR (dxK w a x 0 j) z y := by
  by_cases hx : ∀ k, Fin' (x k)
  · have hd := dx_fin hw hb a x ha hx j
    by_cases hy : Fin' y
    · exact gate_of_fin (hd.mul hy) z
    · have hz : z * sigK z = 0 := by
        by_contra hne
        have hxj := hx j
        rw [hj] at hxj
        have hy' : y = ⊥ ∨ y = ⊤ := by
          unfold Fin' at hy
          by_contra hc
          exact hy (not_or.1 hc)
        generalize z * sigK z = s at hxj hne
        rcases hy' with rfl | rfl <;> rcases lt_or_gt_of_ne hne with h | h
        · exact hxj.2 (EReal.bot_mul_of_neg h)
        · exact hxj.1 (EReal.bot_mul_of_pos h)
        · exact hxj.1 (EReal.top_mul_of_neg h)
        · exact hxj.2 (EReal.top_mul_of_pos h)
      rcases silu_zero hz with rfl | rfl
      · exact gate_zero _ _
      · exact gate_bot _ _
  · have hr : root w x = 0 := by rw [root, var_top hw hb x hx]; exact Ideal.rsqrt_top
    have h0 : dxK w a x 0 j = 0 := by unfold dxK; rw [hr]; simp
    rw [h0]
    refine gate_of_fin ?_ z
    rw [zero_mul]
    exact ⟨EReal.zero_ne_bot, EReal.zero_ne_top⟩

end Cert.GroupNorm

end
-- ==== Proof.Xa.Body.lean ====
/-
  The gradient of the cross attention: what one block of the kernel leaves in its three outputs, as terms of the
  block's four inputs (queries, keys, values, incoming gradient).
-/
module

public import proofs.«01_k».proof.Proof.Gen.KernelIdeal.Value
public import Idealize.ShloMosaic.Lib.Tactic

@[expose] public section

set_option maxRecDepth 16384

noncomputable section

namespace Cert.KernelIdeal.Xa

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

section
variable (c : Dev nD) (i : grid0.Coords)
  (a2 : Memref sig .tc .vmem S2048x256 .bf16) (h2 : a2.IsWhole) (a3 : Memref sig .tc .vmem S256x256 .bf16) (h3 : a3.IsWhole)
  (a4 : Memref sig .tc .vmem S256x256 .bf16) (h4 : a4.IsWhole) (a5 : Memref sig .tc .vmem S2048x256 .bf16) (h5 : a5.IsWhole)
  (a6 : Memref sig .tc .vmem S2048x256 .bf16) (h6 : a6.IsWhole) (a7 : Memref sig .tc .vmem S256x256 .bf16) (h7 : a7.IsWhole)
  (a8 : Memref sig .tc .vmem S256x256 .bf16) (h8 : a8.IsWhole) (a9 : Memref sig .tc .vmem S256x256 .f32) (h9 : a9.IsWhole)
  (a10 : Memref sig .tc .vmem S256x256 .f32) (h10 : a10.IsWhole)
  (q : Vec F S2048x256 .bf16) (k v : Vec F S256x256 .bf16) (d : Vec F S2048x256 .bf16)

/-- The block's gradient of the queries. -/
theorem out_dq : out0_A_4 c i a2 h2 a3 h3 a4 h4 a5 h5 a6 h6 a7 h7 a8 h8 a9 h9 a10 h10 q k v d = k0_pay7 q d k v := by
  unfold out0_A_4
  rw [View.read_writes_eq_canon _ _ _ (cover0_A_4 c i a2 h2 a3 h3 a4 h4 a5 h5 a6 h6 a7 h7 a8 h8 a9 h9 a10 h10 q k v d)]
  unfold kernelRun0_A
  dsimp only
  sl_unfold_words
  rw [View.canon_unit_zero hz]
  simp only [View.readAt_eq_ld, h2.read_unread, h3.read_unread, h4.read_unread, h5.read_unread,
    View.ld_unit_zero (S := S2048x256) hz, View.ld_unit_zero (S := S256x256) hz, shapeCast_self]

/-- The block's gradient of the keys. -/
theorem out_dk : out0_A_5 c i a2 h2 a3 h3 a4 h4 a5 h5 a6 h6 a7 h7 a8 h8 a9 h9 a10 h10 q k v d = k0_pay3 (k0_pay1 (k0_pay8 q d k v)) := by
  unfold out0_A_5
  rw [View.read_writes_eq_canon _ _ _ (cover0_A_5 c i a2 h2 a3 h3 a4 h4 a5 h5 a6 h6 a7 h7 a8 h8 a9 h9 a10 h10 q k v d)]
  unfold kernelRun0_A
  dsimp only
  sl_unfold_words
  rw [View.canon_unit_zero hz, View.readCov_unit_zero (S := S256x256) _ hz]
  simp only [View.readAt_eq_ld, h2.read_unread, h3.read_unread, h4.read_unread, h5.read_unread,
    View.ld_unit_zero (S := S2048x256) hz, View.ld_unit_zero (S := S256x256) hz, shapeCast_self]

/-- The block's gradient of the values. -/
theorem out_dv : out0_A_6 c i a2 h2 a3 h3 a4 h4 a5 h5 a6 h6 a7 h7 a8 h8 a9 h9 a10 h10 q k v d = k0_pay4 (k0_pay2 (k0_pay9 q d k)) := by
  unfold out0_A_6
  rw [View.read_writes_eq_canon _ _ _ (cover0_A_6 c i a2 h2 a3 h3 a4 h4 a5 h5 a6 h6 a7 h7 a8 h8 a9 h9 a10 h10 q k v d)]
  unfold kernelRun0_A
  dsimp only
  sl_unfold_words
  rw [View.canon_unit_zero hz, View.readCov_unit_zero (S := S256x256) _ hz]
  simp only [View.readAt_eq_ld, h2.read_unread, h3.read_unread, h4.read_unread, h5.read_unread,
    View.ld_unit_zero (S := S2048x256) hz, View.ld_unit_zero (S := S256x256) hz, shapeCast_self]

end

end Cert.KernelIdeal.Xa

end
-- ==== Proof.Xa.Block.lean ====
/-
  The gradient of the cross attention: the block's terms read at an index, as the gradient of one head (Xa/Math.lean).
-/
module

public import proofs.«01_k».proof.Proof.Xa.Body
public import proofs.«01_k».proof.Proof.Xa.Math
public import Idealize.ShloMosaic.Lib.Pointwise

@[expose] public section

set_option maxRecDepth 16384

noncomputable section

namespace Cert.KernelIdeal.Xa

open Cert.KernelIdeal Cert.KernelIdeal.Gen Idealize.ShloMosaic Idealize.ShloMosaic.Pointwise Cert.AttnGrad

/-- A rank-2 block as a function of its row and column. -/
def rows {n d : Nat} (v : (Shape.mk 2 ![n, d]).Idx → EReal) : Fin n → Fin d → EReal := fun i x => v (ix2 i x)

theorem pay5_apply (q : Vec Ideal S2048x256 .bf16) (k : Vec Ideal S256x256 .bf16) (i : Fin 2048) (j : Fin 256) :
    k0_pay5 q k (ix2 i j) = prob (score cst (rows q) (rows k) i) j := by
  pointwise [k0_pay5]
  rfl

theorem pay6_apply (q g : Vec Ideal S2048x256 .bf16) (k v : Vec Ideal S256x256 .bf16) (i : Fin 2048) (j : Fin 256) :
    k0_pay6 q g k v (ix2 i j) = ds cst (rows q) (rows g) (rows k) (rows v) i j := by
  pointwise [k0_pay6, pay5_apply]
  rfl

theorem pay7_apply (q g : Vec Ideal S2048x256 .bf16) (k v : Vec Ideal S256x256 .bf16) (i : Fin 2048) (x : Fin 256) :
    k0_pay7 q g k v (ix2 i x) = dq cst (rows q) (rows g) (rows k) (rows v) i x := by
  pointwise [k0_pay7, pay6_apply]
  rfl

theorem pay8_apply (q g : Vec Ideal S2048x256 .bf16) (k v : Vec Ideal S256x256 .bf16) (j x : Fin 256) :
    k0_pay3 (k0_pay1 (k0_pay8 q g k v)) (ix2 j x) = dk cst (rows q) (rows g) (rows k) (rows v) j x := by
  pointwise [k0_pay3, k0_pay1, k0_pay8, pay6_apply]
  rfl

theorem pay9_apply (q g : Vec Ideal S2048x256 .bf16) (k : Vec Ideal S256x256 .bf16) (j x : Fin 256) :
    k0_pay4 (k0_pay2 (k0_pay9 q g k)) (ix2 j x) = dv cst (rows q) (rows g) (rows k) j x := by
  pointwise [k0_pay4, k0_pay2, k0_pay9, pay5_apply]
  rfl

end Cert.KernelIdeal.Xa

end
-- ==== Proof.Xa.Array.lean ====
/-
  The gradient of the cross attention: the three arrays that the kernel leaves, read at an index. Grid point t treats batch
  t / 4 and head t mod 4; its blocks are that batch's rows and that head's columns.
-/
module

public import proofs.«01_k».proof.Proof.Xa.Block

@[expose] public section

set_option maxRecDepth 16384

noncomputable section

namespace Cert.KernelIdeal.Xa

open Cert.KernelIdeal Cert.KernelIdeal.Gen Cert.KernelIdeal.Value Idealize.ShloMosaic Idealize.ShloMosaic.TcCoe Idealize.ShloMosaic.Pointwise Cert.AttnGrad
open Idealize.ShloMosaic.Pipeline (Dat)

variable (m : (ℓ : Loc nD τ sig) → Buf (Elt Ideal) ℓ) (c : Dev nD)

/-- The batch and the head of a grid point, and the grid point of a batch and a head. -/
def bT (t : Fin cfg0.N) : Fin 2 := ⟨t.val / 4, by have : t.val < 8 := t.isLt; omega⟩
def hT (t : Fin cfg0.N) : Fin 4 := ⟨t.val % 4, by omega⟩
def pt (b : Fin 2) (h : Fin 4) : Fin cfg0.N := ⟨b.val * 4 + h.val, show _ < 8 by omega⟩

theorem bT_pt (b : Fin 2) (h : Fin 4) : bT (pt b h) = b := Fin.ext (show (b.val * 4 + h.val) / 4 = b.val by omega)
theorem hT_pt (b : Fin 2) (h : Fin 4) : hT (pt b h) = h := Fin.ext (show (b.val * 4 + h.val) % 4 = h.val by omega)

theorem ind : ∀ t : Fin cfg0.N,
    (win0_0.index t 0 = t.val / 4 ∧ win0_0.index t 1 = t.val % 4) ∧ (win0_1.index t 0 = t.val / 4 ∧ win0_1.index t 1 = t.val % 4)
    ∧ (win0_2.index t 0 = t.val / 4 ∧ win0_2.index t 1 = t.val % 4) ∧ (win0_3.index t 0 = t.val / 4 ∧ win0_3.index t 1 = t.val % 4)
    ∧ (win0_4.index t 0 = t.val / 4 ∧ win0_4.index t 1 = t.val % 4) ∧ (win0_5.index t 0 = t.val / 4 ∧ win0_5.index t 1 = t.val % 4)
    ∧ (win0_6.index t 0 = t.val / 4 ∧ win0_6.index t 1 = t.val % 4) :=
  (by decide +kernel : ∀ t : Fin grid0.N,
    (win0_0.index t 0 = t.val / 4 ∧ win0_0.index t 1 = t.val % 4) ∧ (win0_1.index t 0 = t.val / 4 ∧ win0_1.index t 1 = t.val % 4)
    ∧ (win0_2.index t 0 = t.val / 4 ∧ win0_2.index t 1 = t.val % 4) ∧ (win0_3.index t 0 = t.val / 4 ∧ win0_3.index t 1 = t.val % 4)
    ∧ (win0_4.index t 0 = t.val / 4 ∧ win0_4.index t 1 = t.val % 4) ∧ (win0_5.index t 0 = t.val / 4 ∧ win0_5.index t 1 = t.val % 4)
    ∧ (win0_6.index t 0 = t.val / 4 ∧ win0_6.index t 1 = t.val % 4))

/-- Block t of the queries is the rows of its batch and the columns of its head. -/
theorem iblk0 (t : Fin cfg0.N) : rows (n := 2048) (d := 256) (iblk m c 0 t) = head (n := 2048) rfl (m ((c : Thread nD τ).loc main_arg0)) (bT t) (hT t) := by
  funext i x
  have e := (ind t).1
  unfold rows head iblk
  rw [View.read_apply]
  show V m c main_arg0 _ = _
  unfold V
  congr 1
  funext a
  apply Fin.ext
  match a with
  | ⟨0, _⟩ => show win0_0.index t 0 * 2048 + 1 * i.val = t.val / 4 * 2048 + i.val; rw [e.1]; omega
  | ⟨1, _⟩ => show win0_0.index t 1 * 256 + 1 * x.val = t.val % 4 * 256 + x.val; rw [e.2]; omega

theorem iblk1 (t : Fin cfg0.N) : rows (n := 256) (d := 256) (iblk m c 1 t) = head (n := 256) rfl (m ((c : Thread nD τ).loc main_arg1)) (bT t) (hT t) := by
  funext i x
  have e := (ind t).2.1
  unfold rows head iblk
  rw [View.read_apply]
  show V m c main_arg1 _ = _
  unfold V
  congr 1
  funext a
  apply Fin.ext
  match a with
  | ⟨0, _⟩ => show win0_1.index t 0 * 256 + 1 * i.val = t.val / 4 * 256 + i.val; rw [e.1]; omega
  | ⟨1, _⟩ => show win0_1.index t 1 * 256 + 1 * x.val = t.val % 4 * 256 + x.val; rw [e.2]; omega

theorem iblk2 (t : Fin cfg0.N) : rows (n := 256) (d := 256) (iblk m c 2 t) = head (n := 256) rfl (m ((c : Thread nD τ).loc main_arg2)) (bT t) (hT t) := by
  funext i x
  have e := (ind t).2.2.1
  unfold rows head iblk
  rw [View.read_apply]
  show V m c main_arg2 _ = _
  unfold V
  congr 1
  funext a
  apply Fin.ext
  match a with
  | ⟨0, _⟩ => show win0_2.index t 0 * 256 + 1 * i.val = t.val / 4 * 256 + i.val; rw [e.1]; omega
  | ⟨1, _⟩ => show win0_2.index t 1 * 256 + 1 * x.val = t.val % 4 * 256 + x.val; rw [e.2]; omega

theorem iblk3 (t : Fin cfg0.N) : rows (n := 2048) (d := 256) (iblk m c 3 t) = head (n := 2048) rfl (m ((c : Thread nD τ).loc main_arg3)) (bT t) (hT t) := by
  funext i x
  have e := (ind t).2.2.2.1
  unfold rows head iblk
  rw [View.read_apply]
  show V m c main_arg3 _ = _
  unfold V
  congr 1
  funext a
  apply Fin.ext
  match a with
  | ⟨0, _⟩ => show win0_3.index t 0 * 2048 + 1 * i.val = t.val / 4 * 2048 + i.val; rw [e.1]; omega
  | ⟨1, _⟩ => show win0_3.index t 1 * 256 + 1 * x.val = t.val % 4 * 256 + x.val; rw [e.2]; omega

/-- The array of the queries' gradient. -/
theorem arr4 (b : Fin 2) (h : Fin 4) (i : Fin 2048) (x : Fin 256) :
    (dats m 0 c).arrAt 4 cfg0.N (ix2 (⟨b * 2048 + i, by omega⟩ : Fin 4096) (⟨h * 256 + x, by omega⟩ : Fin 1024))
      = dq cst (head (n := 2048) rfl (m ((c : Thread nD τ).loc main_arg0)) b h) (head (n := 2048) rfl (m ((c : Thread nD τ).loc main_arg3)) b h)
        (head (n := 256) rfl (m ((c : Thread nD τ).loc main_arg1)) b h) (head (n := 256) rfl (m ((c : Thread nD τ).loc main_arg2)) b h) i x := by
  have hb := congrFun (blocks4 m c (pt b h) (flush0_4 _)) (ix2 i x)
  rw [View.read_apply, flushed4_A, out_dq] at hb
  have e := (ind (pt b h)).2.2.2.2.1
  have hi : ((cfg0.win 4).blk (pt b h)).view.emb (ix2 i x) = ix2 (⟨b * 2048 + i, by omega⟩ : Fin 4096) (⟨h * 256 + x, by omega⟩ : Fin 1024) := by
    funext a
    apply Fin.ext
    match a with
    | ⟨0, _⟩ => show win0_4.index (pt b h) 0 * 2048 + 1 * i.val = b.val * 2048 + i.val; rw [e.1, show (pt b h).val / 4 = b.val from congrArg Fin.val (bT_pt b h)]; omega
    | ⟨1, _⟩ => show win0_4.index (pt b h) 1 * 256 + 1 * x.val = h.val * 256 + x.val; rw [e.2, show (pt b h).val % 4 = h.val from congrArg Fin.val (hT_pt b h)]; omega
  rw [hi] at hb
  refine hb.trans ((pay7_apply _ _ _ _ i x).trans ?_)
  rw [iblk0, iblk1, iblk2, iblk3, bT_pt, hT_pt]

/-- The array of the keys' gradient. -/
theorem arr5 (b : Fin 2) (h : Fin 4) (i : Fin 256) (x : Fin 256) :
    (dats m 0 c).arrAt 5 cfg0.N (ix2 (⟨b * 256 + i, by omega⟩ : Fin 512) (⟨h * 256 + x, by omega⟩ : Fin 1024))
      = dk cst (head (n := 2048) rfl (m ((c : Thread nD τ).loc main_arg0)) b h) (head (n := 2048) rfl (m ((c : Thread nD τ).loc main_arg3)) b h)
        (head (n := 256) rfl (m ((c : Thread nD τ).loc main_arg1)) b h) (head (n := 256) rfl (m ((c : Thread nD τ).loc main_arg2)) b h) i x := by
  have hb := congrFun (blocks5 m c (pt b h) (flush0_5 _)) (ix2 i x)
  rw [View.read_apply, flushed5_A, out_dk] at hb
  have e := (ind (pt b h)).2.2.2.2.2.1
  have hi : ((cfg0.win 5).blk (pt b h)).view.emb (ix2 i x) = ix2 (⟨b * 256 + i, by omega⟩ : Fin 512) (⟨h * 256 + x, by omega⟩ : Fin 1024) := by
    funext a
    apply Fin.ext
    match a with
    | ⟨0, _⟩ => show win0_5.index (pt b h) 0 * 256 + 1 * i.val = b.val * 256 + i.val; rw [e.1, show (pt b h).val / 4 = b.val from congrArg Fin.val (bT_pt b h)]; omega
    | ⟨1, _⟩ => show win0_5.index (pt b h) 1 * 256 + 1 * x.val = h.val * 256 + x.val; rw [e.2, show (pt b h).val % 4 = h.val from congrArg Fin.val (hT_pt b h)]; omega
  rw [hi] at hb
  refine hb.trans ((pay8_apply _ _ _ _ i x).trans ?_)
  rw [iblk0, iblk1, iblk2, iblk3, bT_pt, hT_pt]

/-- The array of the values' gradient. -/
theorem arr6 (b : Fin 2) (h : Fin 4) (i : Fin 256) (x : Fin 256) :
    (dats m 0 c).arrAt 6 cfg0.N (ix2 (⟨b * 256 + i, by omega⟩ : Fin 512) (⟨h * 256 + x, by omega⟩ : Fin 1024))
      = dv cst (head (n := 2048) rfl (m ((c : Thread nD τ).loc main_arg0)) b h) (head (n := 2048) rfl (m ((c : Thread nD τ).loc main_arg3)) b h)
        (head (n := 256) rfl (m ((c : Thread nD τ).loc main_arg1)) b h) i x := by
  have hb := congrFun (blocks6 m c (pt b h) (flush0_6 _)) (ix2 i x)
  rw [View.read_apply, flushed6_A, out_dv] at hb
  have e := (ind (pt b h)).2.2.2.2.2.2
  have hi : ((cfg0.win 6).blk (pt b h)).view.emb (ix2 i x) = ix2 (⟨b * 256 + i, by omega⟩ : Fin 512) (⟨h * 256 + x, by omega⟩ : Fin 1024) := by
    funext a
    apply Fin.ext
    match a with
    | ⟨0, _⟩ => show win0_6.index (pt b h) 0 * 256 + 1 * i.val = b.val * 256 + i.val; rw [e.1, show (pt b h).val / 4 = b.val from congrArg Fin.val (bT_pt b h)]; omega
    | ⟨1, _⟩ => show win0_6.index (pt b h) 1 * 256 + 1 * x.val = h.val * 256 + x.val; rw [e.2, show (pt b h).val % 4 = h.val from congrArg Fin.val (hT_pt b h)]; omega
  rw [hi] at hb
  refine hb.trans ((pay9_apply _ _ _ i x).trans ?_)
  rw [iblk0, iblk1, iblk3, bT_pt, hT_pt]

end Cert.KernelIdeal.Xa

end
-- ==== Proof.Xa.RefAt.lean ====
module

public import proofs.«01_k».proof.Proof.Gen.ReferenceIdeal.Read
public import proofs.«01_k».proof.Proof.Xa.Math
public import Idealize.ShloMosaic.Lib.Pointwise
public import Idealize.ShloMosaic.Lib.KernelVsHost

@[expose] public section
set_option maxRecDepth 16384
noncomputable section
namespace Cert.ReferenceIdeal.Xa
open Cert.ReferenceIdeal Cert.ReferenceIdeal.Read Idealize.ShloMosaic Idealize.ShloMosaic.Pointwise Cert.AttnGrad

variable (x0 x3 : (⟨S4096x1024, .bf16⟩ : BufTy).Contents (Elt Ideal)) (x1 x2 : (⟨S512x1024, .bf16⟩ : BufTy).Contents (Elt Ideal))

theorem v8_apply (b : Fin 2) (h : Fin 4) (i : Fin 2048) (j : Fin 256) :
    val_main_v8 x0 x1 (ix4 b h i j) = score cst (head (n := 2048) rfl x0 b h) (head (n := 256) rfl x1 b h) i j := by
  pointwise [val_main_v8, val_main_v7, val_main_v6, val_main_cst, val_main_v3, val_main_v4, val_main_v0, val_main_v1]
  rfl

theorem v43_apply (b : Fin 2) (h : Fin 4) (i : Fin 2048) (j : Fin 256) :
    val_main_v43 x2 x3 (ix4 b h i j) = dotRow (head (n := 2048) rfl x3 b h i) (head (n := 256) rfl x2 b h j) := by
  pointwise [val_main_v43, val_main_v42, val_main_v41, val_main_v40, val_main_v5, val_main_v2]
  rfl

theorem negInf : Ideal.ofBits .f32 0xFF800000#32 = ⊥ := by simp [Ideal.ofBits, Ideal.ieee]

theorem rmax (x : FVec Ideal S2x4x2048x256 .f32) (b : Fin 2) (h : Fin 4) (i : Fin 2048) :
    Host.reduce FloatOps.maximumf x (constant S_ .f32 0xFF800000#32) Gen.reducesTo_S2x4x2048x256_S2x4x2048_d3 Gen.h_S_ (ix3 b h i)
      = (Finset.univ : Finset (Fin 256)).fold max ⊥ fun j => x (ix4 b h i j) := by
  rw [hostReduce_maximumf_eq_multiReduction x 0xFF800000#32 Gen.reducesTo_S2x4x2048x256_S2x4x2048_d3 Gen.h_S_ (by decide) (.inl rfl) rfl]
  pointwise
  rw [negInf]

theorem v9_apply (b : Fin 2) (h : Fin 4) (i : Fin 2048) :
    val_main_v9 x0 x1 (ix3 b h i) = (Finset.univ : Finset (Fin 256)).fold max ⊥ fun j => val_main_v8 x0 x1 (ix4 b h i j) :=
  by
  unfold val_main_v9 val_main_cst_0
  exact rmax _ b h i

/-- The exponentials from the scores and their maxima. -/
def refExp (s : FVec Ideal S2x4x2048x256 .f32) (m : FVec Ideal S2x4x2048 .f32) : FVec Ideal S2x4x2048x256 .f32 :=
  Host.exp (subf s (broadcastInDim S2x4x2048x256 ![0, 1, 2, 3] Gen.bcast_S2x4x2048x1_S2x4x2048x256_0_1_2_3 (broadcastInDim S2x4x2048x1 ![0, 1, 2] Gen.bcast_S2x4x2048_S2x4x2048x1_0_1_2 (maximumf (broadcastInDim S2x4x2048 ![] Gen.bcast_S_S2x4x2048 (constant (F := Ideal) S_ .f32 0xFF800000#32)) m))))

theorem refExp_apply (s : FVec Ideal S2x4x2048x256 .f32) (m : FVec Ideal S2x4x2048 .f32) (b : Fin 2) (h : Fin 4) (i : Fin 2048) (j : Fin 256) :
    refExp s m (ix4 b h i j) = Ideal.exp (s (ix4 b h i j) - m (ix3 b h i)) := by
  pointwise [refExp]
  rw [negInf, max_eq_right bot_le]

/-- The probabilities from the exponentials. -/
def refProb (e : FVec Ideal S2x4x2048x256 .f32) : FVec Ideal S2x4x2048x256 .f32 :=
  Host.divf e (broadcastInDim S2x4x2048x256 ![0, 1, 2, 3] Gen.bcast_S2x4x2048x1_S2x4x2048x256_0_1_2_3 (broadcastInDim S2x4x2048x1 ![0, 1, 2] Gen.bcast_S2x4x2048_S2x4x2048x1_0_1_2 (Host.reduceAdd e (constant (F := Ideal) S_ .f32 0x00000000#32) Gen.reducesTo_S2x4x2048x256_S2x4x2048_d3 Gen.h_S_)))

theorem refProb_apply (e : FVec Ideal S2x4x2048x256 .f32) (b : Fin 2) (h : Fin 4) (i : Fin 2048) (j : Fin 256) :
    refProb e (ix4 b h i j) = Ideal.div (e (ix4 b h i j)) (∑ j', e (ix4 b h i j')) := by
  pointwise [refProb]

/-- The gradient of the scores from the exponentials and the gradient of the probabilities. -/
def refDs (e dp : FVec Ideal S2x4x2048x256 .f32) : FVec Ideal S2x4x2048x256 .f32 :=
  mulf (mulf (addf (Host.divf dp (broadcastInDim S2x4x2048x256 ![0, 1, 2, 3] Gen.bcast_S2x4x2048x1_S2x4x2048x256_0_1_2_3 (broadcastInDim S2x4x2048x1 ![0, 1, 2] Gen.bcast_S2x4x2048_S2x4x2048x1_0_1_2 (Host.reduceAdd e (constant (F := Ideal) S_ .f32 0x00000000#32) Gen.reducesTo_S2x4x2048x256_S2x4x2048_d3 Gen.h_S_)))) (broadcastInDim S2x4x2048x256 ![0, 1, 2] Gen.bcast_S2x4x2048_S2x4x2048x256_0_1_2 (Host.reduceAdd (Host.negf (shapeCast S2x4x2048x1 (Host.reduceAdd (mulf (mulf dp (broadcastInDim S2x4x2048x256 ![0, 1, 2, 3] Gen.bcast_S2x4x2048x1_S2x4x2048x256_0_1_2_3 (Host.divf (broadcastInDim S2x4x2048x1 ![] Gen.bcast_S_S2x4x2048x1 (constant (F := Ideal) S_ .f32 0x3F800000#32)) (mulf (broadcastInDim S2x4x2048x1 ![0, 1, 2] Gen.bcast_S2x4x2048_S2x4x2048x1_0_1_2 (Host.reduceAdd e (constant (F := Ideal) S_ .f32 0x00000000#32) Gen.reducesTo_S2x4x2048x256_S2x4x2048_d3 Gen.h_S_)) (broadcastInDim S2x4x2048x1 ![0, 1, 2] Gen.bcast_S2x4x2048_S2x4x2048x1_0_1_2 (Host.reduceAdd e (constant (F := Ideal) S_ .f32 0x00000000#32) Gen.reducesTo_S2x4x2048x256_S2x4x2048_d3 Gen.h_S_)))))) e) (constant (F := Ideal) S_ .f32 0x00000000#32) Gen.reducesTo_S2x4x2048x256_S2x4x2048_d3 Gen.h_S_) Gen.shapeCasts_S2x4x2048_S2x4x2048x1)) (constant (F := Ideal) S_ .f32 0x00000000#32) Gen.reducesTo_S2x4x2048x1_S2x4x2048_d3 Gen.h_S_))) e) (broadcastInDim S2x4x2048x256 ![] Gen.bcast_S_S2x4x2048x256 (constant (F := Ideal) S_ .f32 0x3D800000#32))

theorem refDs_apply (e dp : FVec Ideal S2x4x2048x256 .f32) (b : Fin 2) (h : Fin 4) (i : Fin 2048) (j : Fin 256) :
    refDs e dp (ix4 b h i j) = (Ideal.div (dp (ix4 b h i j)) (∑ j', e (ix4 b h i j'))
      + -(∑ j', dp (ix4 b h i j') * Ideal.div 1 ((∑ j'', e (ix4 b h i j'')) * (∑ j'', e (ix4 b h i j''))) * e (ix4 b h i j')))
      * e (ix4 b h i j) * cst := by
  pointwise [refDs]
  simp only [Finset.univ_unique, Finset.sum_singleton]
  rfl

theorem v29_eq : val_main_v29 x0 x1 = refExp (val_main_v8 x0 x1) (val_main_v9 x0 x1) := by
  unfold val_main_v29 val_main_v28 val_main_v27 val_main_v26 val_main_v16 val_main_v15 val_main_cst_2 refExp
  rfl

theorem v33_eq : val_main_v33 x0 x1 = refProb (val_main_v29 x0 x1) := by
  unfold val_main_v33 val_main_v32 val_main_v31 val_main_v30 val_main_cst_8 refProb
  rfl

theorem v59_eq : val_main_v59 x0 x1 x2 x3 = refDs (val_main_v29 x0 x1) (val_main_v43 x2 x3) := by
  unfold val_main_v59 val_main_v58 val_main_v57 val_main_v56 val_main_v55 val_main_v54 val_main_v53 val_main_v52 val_main_v51 val_main_v50
    val_main_v49 val_main_v48 val_main_v47 val_main_v46 val_main_v36 val_main_v35 val_main_v34 val_main_v31 val_main_v30 refDs
  rfl

/-- The exponentials and probabilities of a head's scores. -/
theorem v29_apply (b : Fin 2) (h : Fin 4) (i : Fin 2048) (j : Fin 256) :
    val_main_v29 x0 x1 (ix4 b h i j) = expo (score cst (head (n := 2048) rfl x0 b h) (head (n := 256) rfl x1 b h) i) j := by
  rw [v29_eq, refExp_apply, v9_apply]
  simp only [v8_apply]
  rfl

theorem v33_apply (b : Fin 2) (h : Fin 4) (i : Fin 2048) (j : Fin 256) :
    val_main_v33 x0 x1 (ix4 b h i j) = prob (score cst (head (n := 2048) rfl x0 b h) (head (n := 256) rfl x1 b h) i) j := by
  rw [v33_eq, refProb_apply]
  simp only [v29_apply]
  rfl

/-- The gradient of a head's scores, on finite queries and keys. -/
theorem v59_apply (hq : ∀ i, Fin' (x0 i)) (hk : ∀ i, Fin' (x1 i)) (b : Fin 2) (h : Fin 4) (i : Fin 2048) (j : Fin 256) :
    val_main_v59 x0 x1 x2 x3 (ix4 b h i j) = ds cst (head (n := 2048) rfl x0 b h) (head (n := 2048) rfl x3 b h)
      (head (n := 256) rfl x1 b h) (head (n := 256) rfl x2 b h) i j := by
  rw [v59_eq, refDs_apply]
  simp only [v29_apply, v43_apply]
  rw [ds, dsK_eq_dsR]
  · rfl
  · exact score_fin cst_fin (fun _ _ => hq _) (fun _ _ => hk _) i

theorem dq_lay (z : FVec Ideal S2x4x2048x256 .f32) (b : Fin 2) (h : Fin 4) (i : Fin 2048) (x : Fin 256) :
    truncf .bf16 (shapeCast S4096x1024 (transpose S2x2048x4x256 [0, 2, 1, 3] z Gen.transposes_S2x4x2048x256_S2x2048x4x256_0_2_1_3) Gen.shapeCasts_S2x2048x4x256_S4096x1024)
      Gen.bitsLt_bf16_f32 (ix2 (⟨b * 2048 + i, by omega⟩ : Fin 4096) (⟨h * 256 + x, by omega⟩ : Fin 1024)) = z (ix4 b h i x) := by
  pointwise

theorem dk_lay (z : FVec Ideal S2x4x256x256 .f32) (b : Fin 2) (h : Fin 4) (j : Fin 256) (x : Fin 256) :
    truncf .bf16 (shapeCast S512x1024 (transpose S2x256x4x256 [0, 2, 1, 3] z Gen.transposes_S2x4x256x256_S2x256x4x256_0_2_1_3) Gen.shapeCasts_S2x256x4x256_S512x1024)
      Gen.bitsLt_bf16_f32 (ix2 (⟨b * 256 + j, by omega⟩ : Fin 512) (⟨h * 256 + x, by omega⟩ : Fin 1024)) = z (ix4 b h j x) := by
  pointwise

theorem dv_lay (z : FVec Ideal S2x4x256x256 .f32) (b : Fin 2) (h : Fin 4) (j : Fin 256) (x : Fin 256) :
    truncf .bf16 (shapeCast S512x1024 (transpose S2x256x4x256 [0, 3, 1, 2] z Gen.transposes_S2x4x256x256_S2x256x4x256_0_3_1_2) Gen.shapeCasts_S2x256x4x256_S512x1024)
      Gen.bitsLt_bf16_f32 (ix2 (⟨b * 256 + j, by omega⟩ : Fin 512) (⟨h * 256 + x, by omega⟩ : Fin 1024)) = z (ix4 b h x j) := by
  pointwise

theorem dq_dot (z : FVec Ideal S2x4x2048x256 .f32) (k : FVec Ideal S2x256x4x256 .f32) (b : Fin 2) (h : Fin 4) (i : Fin 2048) (x : Fin 256) :
    Host.dotGeneral dot_S2x4x2048x256_S2x256x4x256_S2x4x2048x256_3_1_2_3_01_02 none z k (ix4 b h i x) = ∑ j : Fin 256, z (ix4 b h i j) * k (ix4 b j h x) := by
  pointwise

theorem dk_dot (z : FVec Ideal S2x4x2048x256 .f32) (q : FVec Ideal S2x2048x4x256 .f32) (b : Fin 2) (h : Fin 4) (j : Fin 256) (x : Fin 256) :
    Host.dotGeneral dot_S2x4x2048x256_S2x2048x4x256_S2x4x256x256_2_1_3_3_01_02 none z q (ix4 b h j x) = ∑ i : Fin 2048, z (ix4 b h i j) * q (ix4 b i h x) := by
  pointwise

theorem dv_dot (g : FVec Ideal S2x4x256x2048 .f32) (p : FVec Ideal S2x4x2048x256 .f32) (b : Fin 2) (h : Fin 4) (j : Fin 256) (x : Fin 256) :
    Host.dotGeneral dot_S2x4x256x2048_S2x4x2048x256_S2x4x256x256_3_2_2_3_01_01 none g p (ix4 b h x j) = ∑ i : Fin 2048, g (ix4 b h x i) * p (ix4 b h i j) := by
  pointwise

theorem v3_apply (b : Fin 2) (h : Fin 4) (i : Fin 2048) (x : Fin 256) : val_main_v3 x0 (ix4 b i h x) = head (n := 2048) rfl x0 b h i x := by
  pointwise [val_main_v3, val_main_v0]
  rfl
theorem v4_apply (b : Fin 2) (h : Fin 4) (i : Fin 256) (x : Fin 256) : val_main_v4 x1 (ix4 b i h x) = head (n := 256) rfl x1 b h i x := by
  pointwise [val_main_v4, val_main_v1]
  rfl
theorem v42_apply (b : Fin 2) (h : Fin 4) (i : Fin 2048) (x : Fin 256) : val_main_v42 x3 (ix4 b h x i) = head (n := 2048) rfl x3 b h i x := by
  pointwise [val_main_v42, val_main_v41, val_main_v40]
  rfl

/-- The reference's gradient of the queries. -/
theorem v67_apply (hq : ∀ i, Fin' (x0 i)) (hk : ∀ i, Fin' (x1 i)) (b : Fin 2) (h : Fin 4) (i : Fin 2048) (x : Fin 256) :
    val_main_v67 x0 x1 x2 x3 (ix2 (⟨b * 2048 + i, by omega⟩ : Fin 4096) (⟨h * 256 + x, by omega⟩ : Fin 1024))
      = dq cst (head (n := 2048) rfl x0 b h) (head (n := 2048) rfl x3 b h) (head (n := 256) rfl x1 b h) (head (n := 256) rfl x2 b h) i x := by
  refine (dq_lay (val_main_v62 x0 x1 x2 x3) b h i x).trans ((dq_dot _ _ b h i x).trans (Finset.sum_congr rfl fun j _ => ?_))
  rw [v59_apply x0 x3 x1 x2 hq hk, v4_apply]

/-- The reference's gradient of the keys. -/
theorem v68_apply (hq : ∀ i, Fin' (x0 i)) (hk : ∀ i, Fin' (x1 i)) (b : Fin 2) (h : Fin 4) (j : Fin 256) (x : Fin 256) :
    val_main_v68 x0 x1 x2 x3 (ix2 (⟨b * 256 + j, by omega⟩ : Fin 512) (⟨h * 256 + x, by omega⟩ : Fin 1024))
      = dk cst (head (n := 2048) rfl x0 b h) (head (n := 2048) rfl x3 b h) (head (n := 256) rfl x1 b h) (head (n := 256) rfl x2 b h) j x := by
  refine (dk_lay (val_main_v60 x0 x1 x2 x3) b h j x).trans ((dk_dot _ _ b h j x).trans (Finset.sum_congr rfl fun i _ => ?_))
  rw [v59_apply x0 x3 x1 x2 hq hk, v3_apply]

/-- The reference's gradient of the values. -/
theorem v69_apply (b : Fin 2) (h : Fin 4) (j : Fin 256) (x : Fin 256) :
    val_main_v69 x0 x1 x3 (ix2 (⟨b * 256 + j, by omega⟩ : Fin 512) (⟨h * 256 + x, by omega⟩ : Fin 1024))
      = dv cst (head (n := 2048) rfl x0 b h) (head (n := 2048) rfl x3 b h) (head (n := 256) rfl x1 b h) j x := by
  refine (dv_lay (val_main_v44 x0 x1 x3) b h j x).trans ((dv_dot _ _ b h j x).trans (Finset.sum_congr rfl fun i _ => ?_))
  rw [v42_apply, v33_apply, mul_comm]

end Cert.ReferenceIdeal.Xa
-- ==== Proof.Xa.Equation.lean ====
/-
  The gradient of the cross attention: where the queries and the keys are finite, the three arrays of the kernel are the three
  results of the reference.
-/
module

public import proofs.«01_k».proof.Defs
public import proofs.«01_k».proof.Proof.Xa.Array
public import proofs.«01_k».proof.Proof.Xa.RefAt
public import proofs.«01_k».proof.Proof.Gen.ReferenceIdeal.Run
public import Idealize.ShloMosaic.Lib.Claim

@[expose] public section

set_option maxRecDepth 16384

noncomputable section

namespace Cert.XaClaim

open Idealize.ShloMosaic Idealize.ShloMosaic.TcCoe Idealize.ShloMosaic.Pointwise Cert.AttnGrad Idealize.SL.Sem

/-- A value whose magnitude is below infinity is finite. -/
theorem fin_of_lt (x : Ideal .bf16) (h : BitVec.ofBool (decide (FloatOps.absf (φ := .f32) (x : EReal) < Ideal.ofBits FTy.f32 0x7F800000#32)) = 1#1) : Fin' x := by
  have hinf : Ideal.ofBits .f32 0x7F800000#32 = ⊤ := by simp [Ideal.ofBits, Ideal.ieee]
  rw [hinf] at h
  simp only [Ideal.absf_def] at h
  have h' : max (x : EReal) (-x) < ⊤ := by
    by_contra hn
    simp only [hn, decide_false] at h
    exact absurd h (by decide)
  rw [max_lt_iff] at h'
  refine ⟨fun hb => ?_, h'.1.ne⟩
  have := h'.2
  rw [hb] at this
  simp at this

theorem algebraic [hPre : Cert.Pre_finite_qk.Facts] :
    Cert.algebraic_KernelIdeal_ReferenceIdeal_pre_finite_qk (hKernelIdeal := Cert.KernelIdeal.Gen.facts) (hReferenceIdeal := Cert.ReferenceIdeal.Gen.facts) (hPre_finite_qk := hPre) := by
  intro m g m' g' hpre harg
  have hq : ∀ (c : Dev Cert.KernelIdeal.nD) i, Fin' (m ((c.tc : Thread Cert.KernelIdeal.nD Cert.KernelIdeal.τ).loc Cert.KernelIdeal.main_arg0) i) := fun c i => by
    have h := congrFun (hpre c).1 i
    simp only [Cert.Pre_finite_qk.fn] at h
    pointwise at h
    exact fin_of_lt _ h
  have hk : ∀ (c : Dev Cert.KernelIdeal.nD) i, Fin' (m ((c.tc : Thread Cert.KernelIdeal.nD Cert.KernelIdeal.τ).loc Cert.KernelIdeal.main_arg1) i) := fun c i => by
    have h := congrFun (hpre c).2 i
    simp only [Cert.Pre_finite_qk.fn] at h
    pointwise at h
    exact fin_of_lt _ h
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g,
    (θ_run _ _ _).mono (fun r h c => ?_) (Cert.ReferenceIdeal.Value.run m' g')⟩
  obtain ⟨h0, h1, h2, hr⟩ := h c
  obtain ⟨e0, e1, e2, e3⟩ := harg c
  refine ⟨h0.trans ?_, h1.trans ?_, h2.trans ?_, hr⟩
  · rw [Cert.ReferenceIdeal.Read.val_main_v67_eq, e0, e1, e2, e3]
    funext j
    obtain ⟨b, h, i, x, rfl⟩ := idx_split (n := 2048) rfl j
    exact (Cert.ReferenceIdeal.Xa.v67_apply _ _ _ _ (hq c) (hk c) b h i x).trans (Cert.KernelIdeal.Xa.arr4 m c b h i x).symm
  · rw [Cert.ReferenceIdeal.Read.val_main_v68_eq, e0, e1, e2, e3]
    funext j
    obtain ⟨b, h, i, x, rfl⟩ := idx_split (n := 256) rfl j
    exact (Cert.ReferenceIdeal.Xa.v68_apply _ _ _ _ (hq c) (hk c) b h i x).trans (Cert.KernelIdeal.Xa.arr5 m c b h i x).symm
  · rw [Cert.ReferenceIdeal.Read.val_main_v69_eq, e0, e1, e3]
    funext j
    obtain ⟨b, h, i, x, rfl⟩ := idx_split (n := 256) rfl j
    exact (Cert.ReferenceIdeal.Xa.v69_apply _ _ _ b h i x).trans (Cert.KernelIdeal.Xa.arr6 m c b h i x).symm

end Cert.XaClaim

end
-- ==== Proof.Merge.Group.lean ====
/-
  The gradient of the grouped norm: the reference's arrays, and that the kernel's are the same where the product's gradient, its
  weight and the norm's weight are finite.
-/
module

public import proofs.«01_k».proof.Defs
public import proofs.«01_k».proof.Proof.Merge.GroupArray
public import proofs.«01_k».proof.Proof.Merge.GroupMath
public import proofs.«01_k».proof.Proof.Xa.Equation
public import proofs.«01_k».proof.Proof.Gen.Reference8Ideal.Run
public import proofs.«01_k».proof.Proof.Gen.Reference8Ideal.Read

@[expose] public section

set_option maxRecDepth 16384

noncomputable section

namespace Cert.GroupNormClaim

open Idealize.ShloMosaic Idealize.SL.Sem Idealize.ShloMosaic.Pointwise Cert.Reference8Ideal Cert.Reference8Ideal.Read Cert.Gate Cert.AttnGrad
open Cert.Kernel8Ideal.Group (col col0 col1 exists_col width2 width2_eq gated dprodA uA dnA duA dyA dzA dgA)
open Cert.Norm (dxK dxR dxK_eq coef root var)

/-- A column as the reference's reshapes write it. -/
theorem col_eq (q : Fin 2) (k : Fin 512) (h : q.val * 512 + k.val < 1024) : (⟨q.val * 512 + k.val, h⟩ : Fin 1024) = col q k := rfl

theorem sigR_eq (x : EReal) : Ideal.div (1 : EReal) (1 + Ideal.exp (-x)) = sigK x := by
  rw [sigK_eq]
  unfold sigR
  rw [one_eq]

section
variable (x0 : (⟨S4096x1024, .f32⟩ : BufTy).Contents (Elt Ideal)) (x1 : (⟨S1024x1024, .bf16⟩ : BufTy).Contents (Elt Ideal))
  (x2 x3 : (⟨S4096x1024, .f32⟩ : BufTy).Contents (Elt Ideal)) (x4 : (⟨S1024, .f32⟩ : BufTy).Contents (Elt Ideal))
  (p : Fin 4096) (q : Fin 2) (k : Fin 512) (j : Fin 1024)

theorem sig_apply : val_main_v0_2 x3 (ix2 p j) = sigK (x3 (ix2 p j)) := by
  pointwise [val_main_v0_2, val_main_call0_v4, val_main_call0_v3, val_main_call0_v2, val_main_call0_v1, val_main_call0_v0, val_main_call0_cst, val_main_call0_cst_0]
  exact sigR_eq _

theorem v2_apply : val_main_v2 x2 x3 (ix3 p q k) = uA x2 x3 p q k := by
  unfold val_main_v2 val_main_v1 val_main_v0_0
  pointwise
  rw [col_eq, sig_apply]
  rfl

theorem v11_apply : val_main_v11 x2 x3 (ix3 p q 0) = root width2 (uA x2 x3 p q) := by
  unfold val_main_v11 val_main_v10 val_main_v9 val_main_v8 val_main_v7 val_main_v6 val_main_v5 val_main_v4 val_main_cst val_main_cst_0 val_main_cst_1
  pointwise
  simp only [v2_apply]
  rfl

theorem v10_apply : val_main_v10 x2 x3 (ix3 p q 0) = var width2 (uA x2 x3 p q) := by
  unfold val_main_v10 val_main_v9 val_main_v8 val_main_v7 val_main_v6 val_main_v5 val_main_v4 val_main_cst val_main_cst_0 val_main_cst_1
  pointwise
  simp only [v2_apply]
  rfl

theorem v16_apply : val_main_v16 x2 x3 (ix3 p q k) = uA x2 x3 p q k * root width2 (uA x2 x3 p q) := by
  unfold val_main_v16 val_main_v15
  pointwise
  rw [v2_apply, v11_apply]

theorem v24_apply : val_main_v24 x0 x1 (ix3 p q k) = dprodA x0 x1 p (col q k) := by
  pointwise [val_main_v24, val_main_v23, val_main_v21]
  rfl

theorem v29_apply : val_main_v29 x0 x1 x4 (ix3 p q k) = dnA x0 x1 x4 p q k := by
  unfold val_main_v29 val_main_v28 val_main_v17 val_main_v3
  pointwise
  rw [v24_apply]
  rfl

theorem v39_apply : val_main_v39 x0 x1 x2 x3 x4 (ix2 p q) = coef width2 (dnA x0 x1 x4 p q) (uA x2 x3 p q) := by
  unfold val_main_v39 val_main_v38 val_main_v37 val_main_v36 val_main_v33 val_main_v32 val_main_v31 val_main_v14 val_main_v13 val_main_v12 val_main_cst_2 val_main_cst_5 val_main_cst_6 val_main_cst_7
  pointwise
  refine (Fin.sum_univ_one _).trans ?_
  simp only [v2_apply, v29_apply, v11_apply, v10_apply]
  rfl

theorem v44_apply : val_main_v44 x0 x1 x2 x3 x4 (ix3 p q k) = duA x0 x1 x2 x3 x4 p q k := by
  unfold val_main_v44 val_main_v43 val_main_v42 val_main_v41 val_main_v40 val_main_v35 val_main_v34
  pointwise
  rw [v2_apply, v29_apply, v11_apply, v39_apply, duA, dxK_eq width2_eq (by norm_num), dxR, zero_add]

theorem v46_apply : val_main_v46 x0 x1 x2 x3 x4 (ix2 p (col q k)) = duA x0 x1 x2 x3 x4 p q k := by
  rw [← v44_apply]
  have e1 : ∀ h, (⟨(col q k).val / 512, h⟩ : Fin 2) = q := fun h => Fin.ext (show (q.val * 512 + k.val) / 512 = q.val by omega)
  have e2 : ∀ h, (⟨(col q k).val % 512, h⟩ : Fin 512) = k := fun h => Fin.ext (show (q.val * 512 + k.val) % 512 = k.val by omega)
  unfold val_main_v46
  pointwise
  simp only [e1, e2]

theorem v48_apply : val_main_v48 x0 x1 x2 x3 x4 (ix2 p (col q k)) = dyA x0 x1 x2 x3 x4 p q k := by
  unfold val_main_v48 val_main_v0_0
  pointwise
  rw [v46_apply, sig_apply]
  rfl

theorem v49_apply : val_main_v49 x0 x1 x2 x3 x4 (ix2 p (col q k))
    = gateR (duA x0 x1 x2 x3 x4 p q k) (x3 (ix2 p (col q k))) (x2 (ix2 p (col q k))) := by
  unfold val_main_v49 val_main_call1_v2 val_main_call1_v1 val_main_call1_v0 val_main_v47 val_main_v0_1 val_main_call0_v7 val_main_call0_v6 val_main_call0_cst_1
  pointwise
  rw [v46_apply, sig_apply, sigK_eq, gateR, one_eq, mul_comm (G := EReal) (x2 _)]

theorem v50_apply : val_main_v50 x0 x1 x2 x3 (ix2 0 (col q k)) = ∑ p : Fin 4096, dgA x0 x1 x2 x3 q k p := by
  have e1 : ∀ h, (⟨(col q k).val / 512, h⟩ : Fin 2) = q := fun h => Fin.ext (show (q.val * 512 + k.val) / 512 = q.val by omega)
  have e2 : ∀ h, (⟨(col q k).val % 512, h⟩ : Fin 512) = k := fun h => Fin.ext (show (q.val * 512 + k.val) % 512 = k.val by omega)
  unfold val_main_v50 val_main_v45 val_main_v30 val_main_v27 val_main_v26 val_main_v25 val_main_cst_3 val_main_cst_4
  pointwise
  refine (Fin.sum_univ_one _).trans ?_
  simp only [e1, e2, v16_apply, v24_apply]
  exact Finset.sum_congr rfl fun p _ => mul_comm (G := EReal) _ _
end

theorem fin32 (x : Ideal .f32) (h : BitVec.ofBool (decide (FloatOps.absf (φ := .f32) (x : EReal) < Ideal.ofBits FTy.f32 0x7F800000#32)) = 1#1) : Fin' x :=
  Cert.XaClaim.fin_of_lt x h

/-- Kernel and reference compute the same three arrays. -/
theorem algebraic [hPre : Cert.Pre_finite_gated.Facts] :
    Cert.algebraic_Kernel8Ideal_Reference8Ideal_pre_finite_gated (hKernel8Ideal := Cert.Kernel8Ideal.Gen.facts)
      (hReference8Ideal := Cert.Reference8Ideal.Gen.facts) (hPre_finite_gated := hPre) := by
  intro m g m' g' hpre harg
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N, fun c => (Cert.Kernel8Ideal.Gen.dats m 0 c).arrAt 7 Cert.Kernel8Ideal.cfg0.N,
    Cert.Kernel8Ideal.Value.run_blocks m g, (θ_run _ _ _).mono (fun r h c => ?_) (Cert.Reference8Ideal.Value.run m' g')⟩
  obtain ⟨h0, h1, h2, hr⟩ := h c
  obtain ⟨e0, e1, e2, e3, e4⟩ := harg c
  refine ⟨h0.trans ?_, h1.trans ?_, h2.trans ?_, hr⟩
  · rw [Cert.Reference8Ideal.Read.val_main_v48_eq, e0, e1, e2, e3, e4]
    funext i
    obtain ⟨p, j, rfl⟩ : ∃ (p : Fin 4096) (j : Fin 1024), i = ix2 p j := ⟨i 0, i 1, by funext a; match a with | ⟨0, _⟩ => rfl | ⟨1, _⟩ => rfl⟩
    obtain ⟨q, k, rfl⟩ := exists_col j
    exact (v48_apply _ _ _ _ _ p q k).trans (Cert.Kernel8Ideal.Group.arr5 m c p q k).symm
  · rw [Cert.Reference8Ideal.Read.val_main_v49_eq, e0, e1, e2, e3, e4]
    funext i
    obtain ⟨p, j, rfl⟩ : ∃ (p : Fin 4096) (j : Fin 1024), i = ix2 p j := ⟨i 0, i 1, by funext a; match a with | ⟨0, _⟩ => rfl | ⟨1, _⟩ => rfl⟩
    obtain ⟨q, k, rfl⟩ := exists_col j
    refine (v49_apply _ _ _ _ _ p q k).trans ((Cert.GroupNorm.gate_eq width2_eq (by norm_num) _ _ (fun k => ?_) _ _ k rfl).symm.trans (Cert.Kernel8Ideal.Group.arr6 m c p q k).symm)
    have f0 (i) : Fin' ((m ((c.tc : Thread Cert.Kernel8Ideal.nD Cert.Kernel8Ideal.τ).loc Cert.Kernel8Ideal.main_arg0)) i) := by
      have h := congrFun (hpre c).1 i
      simp only [Cert.Pre_finite_gated.fn] at h
      pointwise at h
      exact fin32 _ h
    have f1 (i) : Fin' ((m ((c.tc : Thread Cert.Kernel8Ideal.nD Cert.Kernel8Ideal.τ).loc Cert.Kernel8Ideal.main_arg1)) i) := by
      have h := congrFun (hpre c).2.1 i
      simp only [Cert.Pre_finite_gated.fn] at h
      pointwise at h
      exact Cert.XaClaim.fin_of_lt _ h
    have f4 (i) : Fin' ((m ((c.tc : Thread Cert.Kernel8Ideal.nD Cert.Kernel8Ideal.τ).loc Cert.Kernel8Ideal.main_arg4)) i) := by
      have h := congrFun (hpre c).2.2 i
      simp only [Cert.Pre_finite_gated.fn] at h
      pointwise at h
      exact fin32 _ h
    exact (Fin'.sum _ _ fun l => (f0 _).mul (f1 _)).mul (f4 _)
  · rw [Cert.Reference8Ideal.Read.val_main_v50_eq, e0, e1, e2, e3]
    funext i
    obtain ⟨j, rfl⟩ : ∃ j : Fin 1024, i = ix2 (0 : Fin 1) j := ⟨i 1, by
      funext a
      match a with
      | ⟨0, _⟩ => exact Fin.ext (show (i 0).val = 0 by have : (i 0).val < 1 := (i 0).isLt; omega)
      | ⟨1, _⟩ => rfl⟩
    obtain ⟨q, k, rfl⟩ := exists_col j
    exact (v50_apply _ _ _ _ q k).trans (Cert.Kernel8Ideal.Group.arr7 m c q k).symm

end Cert.GroupNormClaim

end
-- ==== Proof.Adam.Block.lean ====
/-
  The optimiser's step of a feed-forward weight, one block of 176 rows: the four chips' gradients are summed, and the step is
  taken element by element.
-/
module

public import proofs.«01_k».proof.Proof.Gen.Kernel9Ideal.Value
public import Idealize.ShloMosaic.Lib.Pointwise
public import Idealize.ShloMosaic.Lib.Pipeline.ValueKit
public import Idealize.ShloMosaic.Lib.Tactic

@[expose] public section

set_option maxRecDepth 16384

noncomputable section

namespace Cert.Kernel9Ideal.Adam

open Cert.Kernel9Ideal Cert.Kernel9Ideal.Gen Cert.Kernel9Ideal.Value Idealize.ShloMosaic Idealize.ShloMosaic.TcCoe Idealize.SL.Sem Idealize.ShloMosaic.Pointwise

/-- The first moment after the step, of the gradient and the moment before. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The change of the weight: the corrected moments' quotient and the decay, scaled by the rate. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

variable (x0 : Vec Ideal S1x1x176x1024 .bf16) (x1 x2 x3 : Vec Ideal S1x1x1x176x1024 .bf16) (x4 x5 x6 : Vec Ideal S1x176x1024 .f32)
  (r : Fin 176) (j : Fin 1024)

/-- The sum of the four chips' gradients. -/
def total (x0 : Vec Ideal S1x1x176x1024 .bf16) (x1 x2 x3 : Vec Ideal S1x1x1x176x1024 .bf16) (r : Fin 176) (j : Fin 1024) : EReal :=
  x0 (ix4 0 0 r j) + x1 (ix5 0 0 0 r j) + x2 (ix5 0 0 0 r j) + x3 (ix5 0 0 0 r j)

theorem pay6_apply : k0_pay6 x0 x1 x2 x3 (ix2 r j) = total x0 x1 x2 x3 r j := by
  pointwise [k0_pay6]
  rfl

theorem pay9_apply : k0_pay9 x5 (ix2 r j) = x5 (ix3 0 r j) := by
  pointwise [k0_pay9]

theorem pay1_apply (a b : FVec Ideal S176x1024 .f32) : k0_pay1 a b (k0_pay11 (F := Ideal)) (ix2 r j) = newM (a (ix2 r j)) (b (ix2 r j)) := by
  pointwise [k0_pay1, k0_pay11]
  rfl

theorem pay2_apply (a b : FVec Ideal S176x1024 .f32) : k0_pay2 a b (ix2 r j) = newV (a (ix2 r j)) (b (ix2 r j)) := by
  pointwise [k0_pay2]
  rfl

theorem pay3_apply (a w b d : FVec Ideal S176x1024 .f32) :
    k0_pay3 a w b d (k0_pay11 (F := Ideal)) (ix3 0 r j) = delta (a (ix2 r j)) (w (ix2 r j)) (b (ix2 r j)) (d (ix2 r j)) := by
  unfold k0_pay3
  pointwise
  rw [pay1_apply, pay2_apply]
  rfl

theorem pay12_eq : k0_pay12 x0 x1 x2 x3 x4 x5 x6 = k0_pay6 x0 x1 x2 x3 := by
  unfold k0_pay12
  frame_out

theorem pay13_eq : k0_pay13 x0 x1 x2 x3 x4 x5 x6 = k0_pay9 x5 := by
  unfold k0_pay13
  frame_out

theorem pay14_eq : k0_pay14 x0 x1 x2 x3 x4 x5 x6 = k0_pay10 x6 := by
  unfold k0_pay14
  frame_out

theorem out7 : out0_7 x0 x1 x2 x3 x4 x5 x6 (ix3 0 r j) = total x0 x1 x2 x3 r j := by
  have h : out0_7 x0 x1 x2 x3 x4 x5 x6 = k0_pay7 x0 x1 x2 x3 := by frame_out
  rw [h]
  unfold k0_pay7
  pointwise
  exact pay6_apply x0 x1 x2 x3 r j

theorem out8 : out0_8 x0 x1 x2 x3 x4 x5 x6 (ix3 0 r j) = delta (total x0 x1 x2 x3 r j) (x4 (ix3 0 r j)) (x5 (ix3 0 r j)) (x6 (ix3 0 r j)) := by
  have h : out0_8 x0 x1 x2 x3 x4 x5 x6 = k0_pay3 (k0_pay6 x0 x1 x2 x3) (k0_pay8 x4) (k0_pay9 x5) (k0_pay10 x6) (k0_pay11 (F := Ideal)) := by
    rw [← pay12_eq x0 x1 x2 x3 x4 x5 x6, ← pay13_eq x0 x1 x2 x3 x4 x5 x6, ← pay14_eq x0 x1 x2 x3 x4 x5 x6]
    frame_out
    rfl
  rw [h, pay3_apply, pay6_apply]
  pointwise [k0_pay8, k0_pay9, k0_pay10]

theorem out9 : out0_9 x0 x1 x2 x3 x4 x5 x6 (ix3 0 r j) = newM (total x0 x1 x2 x3 r j) (x5 (ix3 0 r j)) := by
  have h : out0_9 x0 x1 x2 x3 x4 x5 x6 = k0_pay4 (k0_pay6 x0 x1 x2 x3) (k0_pay9 x5) (k0_pay11 (F := Ideal)) := by
    rw [← pay12_eq x0 x1 x2 x3 x4 x5 x6, ← pay13_eq x0 x1 x2 x3 x4 x5 x6]
    frame_out
    rfl
  rw [h]
  unfold k0_pay4
  pointwise
  rw [pay1_apply, pay6_apply]
  pointwise [k0_pay9]

theorem out10 : out0_10 x0 x1 x2 x3 x4 x5 x6 (ix3 0 r j) = newV (total x0 x1 x2 x3 r j) (x6 (ix3 0 r j)) := by
  have h : out0_10 x0 x1 x2 x3 x4 x5 x6 = k0_pay5 (k0_pay6 x0 x1 x2 x3) (k0_pay10 x6) := by
    rw [← pay12_eq x0 x1 x2 x3 x4 x5 x6, ← pay14_eq x0 x1 x2 x3 x4 x5 x6]
    frame_out
  rw [h]
  unfold k0_pay5
  pointwise
  rw [pay2_apply, pay6_apply]
  pointwise [k0_pay10]

end Cert.Kernel9Ideal.Adam

end
-- ==== Proof.Adam.Array.lean ====
/-
  The four arrays that the optimiser's kernel leaves: the summed gradient, the change of the weight and the two moments.
-/
module

public import proofs.«01_k».proof.Proof.Adam.Block

@[expose] public section

set_option maxRecDepth 16384

noncomputable section

namespace Cert.Kernel9Ideal.Adam

open Cert.Kernel9Ideal Cert.Kernel9Ideal.Gen Cert.Kernel9Ideal.Value Idealize.ShloMosaic Idealize.ShloMosaic.TcCoe Idealize.SL.Sem Idealize.ShloMosaic.Pointwise
open Idealize.ShloMosaic.Pipeline (Dat)

variable (m : (ℓ : Loc nD τ sig) → Buf (Elt Ideal) ℓ) (c : Dev nD)

theorem ind : ∀ t : Fin cfg0.N,
    (win0_0.index t 0 = 0 ∧ win0_0.index t 1 = t.val / 2 ∧ win0_0.index t 2 = t.val % 2 ∧ win0_0.index t 3 = 0)
    ∧ (win0_1.index t 0 = 0 ∧ win0_1.index t 1 = 0 ∧ win0_1.index t 2 = t.val / 2 ∧ win0_1.index t 3 = t.val % 2 ∧ win0_1.index t 4 = 0)
    ∧ (win0_2.index t 0 = 0 ∧ win0_2.index t 1 = 1 ∧ win0_2.index t 2 = t.val / 2 ∧ win0_2.index t 3 = t.val % 2 ∧ win0_2.index t 4 = 0)
    ∧ (win0_3.index t 0 = 0 ∧ win0_3.index t 1 = 2 ∧ win0_3.index t 2 = t.val / 2 ∧ win0_3.index t 3 = t.val % 2 ∧ win0_3.index t 4 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ (win0_8.index t 0 = 0 ∧ win0_8.index t 1 = t.val ∧ win0_8.index t 2 = 0)
    ∧ (win0_9.index t 0 = 0 ∧ win0_9.index t 1 = t.val ∧ win0_9.index t 2 = 0)
    ∧ (win0_10.index t 0 = 0 ∧ win0_10.index t 1 = t.val ∧ win0_10.index t 2 = 0) :=
  (by decide +kernel : ∀ t : Fin grid0.N,
    (win0_0.index t 0 = 0 ∧ win0_0.index t 1 = t.val / 2 ∧ win0_0.index t 2 = t.val % 2 ∧ win0_0.index t 3 = 0)
    ∧ (win0_1.index t 0 = 0 ∧ win0_1.index t 1 = 0 ∧ win0_1.index t 2 = t.val / 2 ∧ win0_1.index t 3 = t.val % 2 ∧ win0_1.index t 4 = 0)
    ∧ (win0_2.index t 0 = 0 ∧ win0_2.index t 1 = 1 ∧ win0_2.index t 2 = t.val / 2 ∧ win0_2.index t 3 = t.val % 2 ∧ win0_2.index t 4 = 0)
    ∧ (win0_3.index t 0 = 0 ∧ win0_3.index t 1 = 2 ∧ win0_3.index t 2 = t.val / 2 ∧ win0_3.index t 3 = t.val % 2 ∧ win0_3.index t 4 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ (win0_8.index t 0 = 0 ∧ win0_8.index t 1 = t.val ∧ win0_8.index t 2 = 0)
    ∧ (win0_9.index t 0 = 0 ∧ win0_9.index t 1 = t.val ∧ win0_9.index t 2 = 0)
    ∧ (win0_10.index t 0 = 0 ∧ win0_10.index t 1 = t.val ∧ win0_10.index t 2 = 0))

/-- The weight's row at a row of a grid point's block. -/
def row (t : ℕ) (ht : t < 4) (r : Fin 176) : Fin 704 := ⟨t * 176 + r, by omega⟩

theorem exists_row (p : Fin 704) : ∃ (t : ℕ) (ht : t < 4) (r : Fin 176), p = row t ht r :=
  ⟨p.val / 176, by omega, ⟨p.val % 176, by omega⟩, Fin.ext (show p.val = p.val / 176 * 176 + p.val % 176 by omega)⟩

/-- A row of the weight is a row of one of the two halves that the chips exchange. -/
def half (p : Fin 704) : Fin 2 := ⟨p.val / 352, by omega⟩
def inner (p : Fin 704) : Fin 352 := ⟨p.val % 352, by omega⟩

theorem iblk0 (t : Fin cfg0.N) (r : Fin 176) (j : Fin 1024) : iblk m c 0 t (ix4 0 0 r j)
    = m ((c : Thread nD τ).loc main_arg0) (ix4 0 ⟨(half (row t.val t.isLt r)).val, by omega⟩ (inner (row t.val t.isLt r)) j) := by
  have e := (ind t).1
  have ht : t.val < 4 := t.isLt
  unfold iblk
  rw [View.read_apply]
  show V m c main_arg0 _ = _
  rw [V_main_arg0]
  congr 1
  funext a
  apply Fin.ext
  match a with
  | ⟨0, _⟩ => show win0_0.index t 0 * 1 + 1 * 0 = 0; rw [e.1]
  | ⟨1, _⟩ => show win0_0.index t 1 * 1 + 1 * 0 = (t.val * 176 + r.val) / 352; rw [e.2.1]; omega
  | ⟨2, _⟩ => show win0_0.index t 2 * 176 + 1 * r.val = (t.val * 176 + r.val) % 352; rw [e.2.2.1]; omega
  | ⟨3, _⟩ => show win0_0.index t 3 * 1024 + 1 * j.val = j.val; rw [e.2.2.2]; omega

theorem iblk1 (t : Fin cfg0.N) (r : Fin 176) (j : Fin 1024) : iblk m c 1 t (ix5 0 0 0 r j)
    = m ((c : Thread nD τ).loc main_arg1) (ix5 0 0 (half (row t.val t.isLt r)) (inner (row t.val t.isLt r)) j) := by
  have e := (ind t).2.1
  have ht : t.val < 4 := t.isLt
  unfold iblk
  rw [View.read_apply]
  show V m c main_arg1 _ = _
  rw [V_main_arg1]
  congr 1
  funext a
  apply Fin.ext
  match a with
  | ⟨0, _⟩ => show win0_1.index t 0 * 1 + 1 * 0 = 0; rw [e.1]
  | ⟨1, _⟩ => show win0_1.index t 1 * 1 + 1 * 0 = 0; rw [e.2.1]
  | ⟨2, _⟩ => show win0_1.index t 2 * 1 + 1 * 0 = (t.val * 176 + r.val) / 352; rw [e.2.2.1]; omega
  | ⟨3, _⟩ => show win0_1.index t 3 * 176 + 1 * r.val = (t.val * 176 + r.val) % 352; rw [e.2.2.2.1]; omega
  | ⟨4, _⟩ => show win0_1.index t 4 * 1024 + 1 * j.val = j.val; rw [e.2.2.2.2]; omega

theorem iblk2 (t : Fin cfg0.N) (r : Fin 176) (j : Fin 1024) : iblk m c 2 t (ix5 0 0 0 r j)
    = m ((c : Thread nD τ).loc main_arg1) (ix5 0 1 (half (row t.val t.isLt r)) (inner (row t.val t.isLt r)) j) := by
  have e := (ind t).2.2.1
  have ht : t.val < 4 := t.isLt
  unfold iblk
  rw [View.read_apply]
  show V m c main_arg1 _ = _
  rw [V_main_arg1]
  congr 1
  funext a
  apply Fin.ext
  match a with
  | ⟨0, _⟩ => show win0_2.index t 0 * 1 + 1 * 0 = 0; rw [e.1]
  | ⟨1, _⟩ => show win0_2.index t 1 * 1 + 1 * 0 = 1; rw [e.2.1]
  | ⟨2, _⟩ => show win0_2.index t 2 * 1 + 1 * 0 = (t.val * 176 + r.val) / 352; rw [e.2.2.1]; omega
  | ⟨3, _⟩ => show win0_2.index t 3 * 176 + 1 * r.val = (t.val * 176 + r.val) % 352; rw [e.2.2.2.1]; omega
  | ⟨4, _⟩ => show win0_2.index t 4 * 1024 + 1 * j.val = j.val; rw [e.2.2.2.2]; omega

theorem iblk3 (t : Fin cfg0.N) (r : Fin 176) (j : Fin 1024) : iblk m c 3 t (ix5 0 0 0 r j)
    = m ((c : Thread nD τ).loc main_arg1) (ix5 0 2 (half (row t.val t.isLt r)) (inner (row t.val t.isLt r)) j) := by
  have e := (ind t).2.2.2.1
  have ht : t.val < 4 := t.isLt
  unfold iblk
  rw [View.read_apply]
  show V m c main_arg1 _ = _
  rw [V_main_arg1]
  congr 1
  funext a
  apply Fin.ext
  match a with
  | ⟨0, _⟩ => show win0_3.index t 0 * 1 + 1 * 0 = 0; rw [e.1]
  | ⟨1, _⟩ => show win0_3.index t 1 * 1 + 1 * 0 = 2; rw [e.2.1]
  | ⟨2, _⟩ => show win0_3.index t 2 * 1 + 1 * 0 = (t.val * 176 + r.val) / 352; rw [e.2.2.1]; omega
  | ⟨3, _⟩ => show win0_3.index t 3 * 176 + 1 * r.val = (t.val * 176 + r.val) % 352; rw [e.2.2.2.1]; omega
  | ⟨4, _⟩ => show win0_3.index t 4 * 1024 + 1 * j.val = j.val; rw [e.2.2.2.2]; omega

theorem iblk4 (t : Fin cfg0.N) (r : Fin 176) (j : Fin 1024) : iblk m c 4 t (ix3 0 r j)
    = m ((c : Thread nD τ).loc main_arg2) (ix3 0 (row t.val t.isLt r) j) := by
  have e := (ind t).2.2.2.2.1
  unfold iblk
  rw [View.read_apply]
  show V m c main_arg2 _ = _
  rw [V_main_arg2]
  congr 1
  funext a
  apply Fin.ext
  match a with
  | ⟨0, _⟩ => show win0_4.index t 0 * 1 + 1 * 0 = 0; rw [e.1]
  | ⟨1, _⟩ => show win0_4.index t 1 * 176 + 1 * r.val = t.val * 176 + r.val; rw [e.2.1]; omega
  | ⟨2, _⟩ => show win0_4.index t 2 * 1024 + 1 * j.val = j.val; rw [e.2.2]; omega

theorem iblk5 (t : Fin cfg0.N) (r : Fin 176) (j : Fin 1024) : iblk m c 5 t (ix3 0 r j)
    = m ((c : Thread nD τ).loc main_arg3) (ix3 0 (row t.val t.isLt r) j) := by
  have e := (ind t).2.2.2.2.2.1
  unfold iblk
  rw [View.read_apply]
  show V m c main_arg3 _ = _
  rw [V_main_arg3]
  congr 1
  funext a
  apply Fin.ext
  match a with
  | ⟨0, _⟩ => show win0_5.index t 0 * 1 + 1 * 0 = 0; rw [e.1]
  | ⟨1, _⟩ => show win0_5.index t 1 * 176 + 1 * r.val = t.val * 176 + r.val; rw [e.2.1]; omega
  | ⟨2, _⟩ => show win0_5.index t 2 * 1024 + 1 * j.val = j.val; rw [e.2.2]; omega

theorem iblk6 (t : Fin cfg0.N) (r : Fin 176) (j : Fin 1024) : iblk m c 6 t (ix3 0 r j)
    = m ((c : Thread nD τ).loc main_arg4) (ix3 0 (row t.val t.isLt r) j) := by
  have e := (ind t).2.2.2.2.2.2.1
  unfold iblk
  rw [View.read_apply]
  show V m c main_arg4 _ = _
  rw [V_main_arg4]
  congr 1
  funext a
  apply Fin.ext
  match a with
  | ⟨0, _⟩ => show win0_6.index t 0 * 1 + 1 * 0 = 0; rw [e.1]
  | ⟨1, _⟩ => show win0_6.index t 1 * 176 + 1 * r.val = t.val * 176 + r.val; rw [e.2.1]; omega
  | ⟨2, _⟩ => show win0_6.index t 2 * 1024 + 1 * j.val = j.val; rw [e.2.2]; omega

/-- The gradient of an element of the weight: the chip's own sum and the three others' contributions. -/
def grad (own : S1x5x352x1024.Idx → EReal) (land : S1x3x2x352x1024.Idx → EReal) (p : Fin 704) (j : Fin 1024) : EReal :=
  own (ix4 0 ⟨(half p).val, by omega⟩ (inner p) j) + ∑ s : Fin 3, land (ix5 0 s (half p) (inner p) j)

/-- The same at the kernel's arguments. -/
def gradM (p : Fin 704) (j : Fin 1024) : EReal :=
  grad (m ((c : Thread nD τ).loc main_arg0)) (m ((c : Thread nD τ).loc main_arg1)) p j

theorem total_iblk (t : Fin cfg0.N) (r : Fin 176) (j : Fin 1024) :
    total (iblk m c 0 t) (iblk m c 1 t) (iblk m c 2 t) (iblk m c 3 t) r j = gradM m c (row t.val t.isLt r) j := by
  unfold total gradM grad
  rw [Fin.sum_univ_three, iblk0, iblk1, iblk2, iblk3]
  simp only [add_assoc (G := EReal)]

/-- The array of the summed gradient. -/
theorem arr7 (p : Fin 704) (j : Fin 1024) : (dats m 0 c).arrAt 7 cfg0.N (ix3 0 p j) = gradM m c p j := by
  obtain ⟨t', ht, r, rfl⟩ := exists_row p
  obtain ⟨t, rfl⟩ : ∃ t : Fin cfg0.N, t.val = t' := ⟨⟨t', ht⟩, rfl⟩
  have hb := congrFun (blocks7 m c t (flush0_7 _)) (ix3 0 r j)
  rw [View.read_apply, flushed7] at hb
  have e := (ind t).2.2.2.2.2.2.2.1
  have hi : ((cfg0.win 7).blk t).view.emb (ix3 0 r j) = ix3 0 (row t.val t.isLt r) j := by
    funext a
    apply Fin.ext
    match a with
    | ⟨0, _⟩ => show win0_7.index t 0 * 1 + 1 * 0 = 0; rw [e.1]
    | ⟨1, _⟩ => show win0_7.index t 1 * 176 + 1 * r.val = t.val * 176 + r.val; rw [e.2.1]; omega
    | ⟨2, _⟩ => show win0_7.index t 2 * 1024 + 1 * j.val = j.val; rw [e.2.2]; omega
  rw [hi] at hb
  refine hb.trans ((out7 _ _ _ _ _ _ _ r j).trans ?_)
  rw [total_iblk]

/-- The array of the change of the weight. -/
theorem arr8 (p : Fin 704) (j : Fin 1024) : (dats m 0 c).arrAt 8 cfg0.N (ix3 0 p j) = delta (gradM m c p j) (m ((c : Thread nD τ).loc main_arg2) (ix3 0 p j)) (m ((c : Thread nD τ).loc main_arg3) (ix3 0 p j)) (m ((c : Thread nD τ).loc main_arg4) (ix3 0 p j)) := by
  obtain ⟨t', ht, r, rfl⟩ := exists_row p
  obtain ⟨t, rfl⟩ : ∃ t : Fin cfg0.N, t.val = t' := ⟨⟨t', ht⟩, rfl⟩
  have hb := congrFun (blocks8 m c t (flush0_8 _)) (ix3 0 r j)
  rw [View.read_apply, flushed8] at hb
  have e := (ind t).2.2.2.2.2.2.2.2.1
  have hi : ((cfg0.win 8).blk t).view.emb (ix3 0 r j) = ix3 0 (row t.val t.isLt r) j := by
    funext a
    apply Fin.ext
    match a with
    | ⟨0, _⟩ => show win0_8.index t 0 * 1 + 1 * 0 = 0; rw [e.1]
    | ⟨1, _⟩ => show win0_8.index t 1 * 176 + 1 * r.val = t.val * 176 + r.val; rw [e.2.1]; omega
    | ⟨2, _⟩ => show win0_8.index t 2 * 1024 + 1 * j.val = j.val; rw [e.2.2]; omega
  rw [hi] at hb
  refine hb.trans ((out8 _ _ _ _ _ _ _ r j).trans ?_)
  rw [total_iblk, iblk4, iblk5, iblk6]

/-- The array of the first moment. -/
theorem arr9 (p : Fin 704) (j : Fin 1024) : (dats m 0 c).arrAt 9 cfg0.N (ix3 0 p j) = newM (gradM m c p j) (m ((c : Thread nD τ).loc main_arg3) (ix3 0 p j)) := by
  obtain ⟨t', ht, r, rfl⟩ := exists_row p
  obtain ⟨t, rfl⟩ : ∃ t : Fin cfg0.N, t.val = t' := ⟨⟨t', ht⟩, rfl⟩
  have hb := congrFun (blocks9 m c t (flush0_9 _)) (ix3 0 r j)
  rw [View.read_apply, flushed9] at hb
  have e := (ind t).2.2.2.2.2.2.2.2.2.1
  have hi : ((cfg0.win 9).blk t).view.emb (ix3 0 r j) = ix3 0 (row t.val t.isLt r) j := by
    funext a
    apply Fin.ext
    match a with
    | ⟨0, _⟩ => show win0_9.index t 0 * 1 + 1 * 0 = 0; rw [e.1]
    | ⟨1, _⟩ => show win0_9.index t 1 * 176 + 1 * r.val = t.val * 176 + r.val; rw [e.2.1]; omega
    | ⟨2, _⟩ => show win0_9.index t 2 * 1024 + 1 * j.val = j.val; rw [e.2.2]; omega
  rw [hi] at hb
  refine hb.trans ((out9 _ _ _ _ _ _ _ r j).trans ?_)
  rw [total_iblk, iblk5]

/-- The array of the second moment. -/
theorem arr10 (p : Fin 704) (j : Fin 1024) : (dats m 0 c).arrAt 10 cfg0.N (ix3 0 p j) = newV (gradM m c p j) (m ((c : Thread nD τ).loc main_arg4) (ix3 0 p j)) := by
  obtain ⟨t', ht, r, rfl⟩ := exists_row p
  obtain ⟨t, rfl⟩ : ∃ t : Fin cfg0.N, t.val = t' := ⟨⟨t', ht⟩, rfl⟩
  have hb := congrFun (blocks10 m c t (flush0_10 _)) (ix3 0 r j)
  rw [View.read_apply, flushed10] at hb
  have e := (ind t).2.2.2.2.2.2.2.2.2.2
  have hi : ((cfg0.win 10).blk t).view.emb (ix3 0 r j) = ix3 0 (row t.val t.isLt r) j := by
    funext a
    apply Fin.ext
    match a with
    | ⟨0, _⟩ => show win0_10.index t 0 * 1 + 1 * 0 = 0; rw [e.1]
    | ⟨1, _⟩ => show win0_10.index t 1 * 176 + 1 * r.val = t.val * 176 + r.val; rw [e.2.1]; omega
    | ⟨2, _⟩ => show win0_10.index t 2 * 1024 + 1 * j.val = j.val; rw [e.2.2]; omega
  rw [hi] at hb
  refine hb.trans ((out10 _ _ _ _ _ _ _ r j).trans ?_)
  rw [total_iblk, iblk6]

end Cert.Kernel9Ideal.Adam

end
-- ==== Proof.Adam.Step.lean ====
/-
  The reference's step, stage by stage, and that kernel and reference agree.
-/
module

public import proofs.«01_k».proof.Defs
public import proofs.«01_k».proof.Proof.Adam.Array
public import proofs.«01_k».proof.Proof.Gen.Reference9Ideal.Run
public import proofs.«01_k».proof.Proof.Gen.Reference9Ideal.Read

@[expose] public section

set_option maxRecDepth 16384

noncomputable section

namespace Cert.AdamClaim

open Idealize.ShloMosaic Idealize.SL.Sem Idealize.ShloMosaic.Pointwise Cert.Reference9Ideal Cert.Reference9Ideal.Read Cert.Kernel9Ideal.Adam

section
variable (x0 : (⟨S1x5x352x1024, .bf16⟩ : BufTy).Contents (Elt Ideal)) (x1 : (⟨S1x3x2x352x1024, .bf16⟩ : BufTy).Contents (Elt Ideal))
  (x2 x3 x4 : (⟨S1x704x1024, .f32⟩ : BufTy).Contents (Elt Ideal)) (p : Fin 704) (j : Fin 1024)

theorem v4_apply (h : Fin 2) (q : Fin 352) : val_main_v4 x0 x1 (ix4 0 h q j) = x0 (ix4 0 ⟨h.val, by omega⟩ q j) + ∑ s : Fin 3, x1 (ix5 0 s h q j) := by
  pointwise [val_main_v4, val_main_v3, val_main_v2, val_main_v1, val_main_v0, val_main_cst]

theorem v5_apply : val_main_v5 x0 x1 (ix3 0 p j) = grad x0 x1 p j := by
  unfold val_main_v5 grad
  rw [← v4_apply]
  generalize val_main_v4 (F := Ideal) x0 x1 = y
  pointwise
  rfl

theorem v10_apply : val_main_v10 x0 x1 x3 (ix3 0 p j) = newM (grad x0 x1 p j) (x3 (ix3 0 p j)) := by
  rw [← v5_apply]
  unfold val_main_v10 val_main_v9 val_main_v8 val_main_v7 val_main_v6 val_main_cst_0 val_main_cst_1
  generalize val_main_v5 (F := Ideal) x0 x1 = y
  pointwise
  rfl

theorem v16_apply : val_main_v16 x0 x1 x4 (ix3 0 p j) = newV (grad x0 x1 p j) (x4 (ix3 0 p j)) := by
  rw [← v5_apply]
  unfold val_main_v16 val_main_v15 val_main_v14 val_main_v13 val_main_v12 val_main_v11 val_main_cst_2 val_main_cst_3
  generalize val_main_v5 (F := Ideal) x0 x1 = y
  pointwise
  rfl

theorem v29_apply : val_main_v29 x0 x1 x2 x3 x4 (ix3 0 p j) = delta (grad x0 x1 p j) (x2 (ix3 0 p j)) (x3 (ix3 0 p j)) (x4 (ix3 0 p j)) := by
  unfold delta
  rw [← v10_apply, ← v16_apply]
  unfold val_main_v29 val_main_v28 val_main_v27 val_main_v26 val_main_v25 val_main_v24 val_main_v23 val_main_v22 val_main_v21 val_main_v20 val_main_v19
    val_main_v18 val_main_v17 val_main_cst_4 val_main_cst_5 val_main_cst_6 val_main_cst_7 val_main_cst_8
  generalize val_main_v10 (F := Ideal) x0 x1 x3 = y
  generalize val_main_v16 (F := Ideal) x0 x1 x4 = z
  pointwise
end

/-- An index of the weight is its row and its column. -/
theorem exists_index (i : S1x704x1024.Idx) : ∃ (p : Fin 704) (j : Fin 1024), i = ix3 (0 : Fin 1) p j := ⟨i 1, i 2, by
  funext a
  match a with
  | ⟨0, _⟩ => exact Fin.ext (show (i 0).val = 0 by have : (i 0).val < 1 := (i 0).isLt; omega)
  | ⟨1, _⟩ => rfl
  | ⟨2, _⟩ => rfl⟩

/-- Kernel and reference compute the same gradient, change of the weight and moments. -/
theorem algebraic : Cert.algebraic_Kernel9Ideal_Reference9Ideal (hKernel9Ideal := Cert.Kernel9Ideal.Gen.facts)
      (hReference9Ideal := Cert.Reference9Ideal.Gen.facts) := by
  intro m g m' g' _ harg
  refine ⟨fun c => (Cert.Kernel9Ideal.Gen.dats m 0 c).arrAt 7 Cert.Kernel9Ideal.cfg0.N, fun c => (Cert.Kernel9Ideal.Gen.dats m 0 c).arrAt 8 Cert.Kernel9Ideal.cfg0.N,
    fun c => (Cert.Kernel9Ideal.Gen.dats m 0 c).arrAt 9 Cert.Kernel9Ideal.cfg0.N, fun c => (Cert.Kernel9Ideal.Gen.dats m 0 c).arrAt 10 Cert.Kernel9Ideal.cfg0.N,
    Cert.Kernel9Ideal.Value.run_blocks m g, (θ_run _ _ _).mono (fun r h c => ?_) (Cert.Reference9Ideal.Value.run m' g')⟩
  obtain ⟨h0, h1, h2, h3, hr⟩ := h c
  obtain ⟨e0, e1, e2, e3, e4⟩ := harg c
  refine ⟨h0.trans ?_, h1.trans ?_, h2.trans ?_, h3.trans ?_, hr⟩
  · rw [Cert.Reference9Ideal.Read.val_main_v5_eq, e0, e1]
    funext i
    obtain ⟨p, j, rfl⟩ := exists_index i
    exact (v5_apply _ _ p j).trans (arr7 m c p j).symm
  · rw [Cert.Reference9Ideal.Read.val_main_v29_eq, e0, e1, e2, e3, e4]
    funext i
    obtain ⟨p, j, rfl⟩ := exists_index i
    exact (v29_apply _ _ _ _ _ p j).trans (arr8 m c p j).symm
  · rw [Cert.Reference9Ideal.Read.val_main_v10_eq, e0, e1, e3]
    funext i
    obtain ⟨p, j, rfl⟩ := exists_index i
    exact (v10_apply _ _ _ p j).trans (arr9 m c p j).symm
  · rw [Cert.Reference9Ideal.Read.val_main_v16_eq, e0, e1, e4]
    funext i
    obtain ⟨p, j, rfl⟩ := exists_index i
    exact (v16_apply _ _ _ p j).trans (arr10 m c p j).symm

end Cert.AdamClaim

end
-- ==== Proof.Mix.InBlock.lean ====
/-
  The gradient that enters the mixer's input projection, one block of 256 rows: seven products are summed, the sum goes through
  the norm of each row, and the norm's weight collects one row of sums.
-/
module

public import proofs.«01_k».proof.Proof.Gen.Kernel10Ideal.Value
public import proofs.«01_k».proof.Proof.Ffn.NormMath
public import Idealize.ShloMosaic.Lib.Pointwise
public import Idealize.ShloMosaic.Lib.Pipeline.ValueKit
public import Idealize.ShloMosaic.Lib.Tactic

@[expose] public section

set_option maxRecDepth 16384

noncomputable section

namespace Cert.Kernel10Ideal.Mix

open Cert.Kernel10Ideal Cert.Kernel10Ideal.Gen Cert.Kernel10Ideal.Value Idealize.ShloMosaic Idealize.ShloMosaic.TcCoe Idealize.SL.Sem Idealize.ShloMosaic.Pointwise Cert.Norm
open Idealize.ShloMosaic.Pipeline (Dat)

section
variable (d0 : Vec Ideal S256x1024 .f32) (w0 : Vec Ideal S1024x1024 .bf16)
  (d1 : Vec Ideal S256x1536 .f32) (w1 : Vec Ideal S1536x1024 .bf16)
  (d2 : Vec Ideal S256x384 .f32) (w2 : Vec Ideal S384x1024 .bf16)
  (d3 : Vec Ideal S256x256 .f32) (w3 : Vec Ideal S256x1024 .bf16)
  (d4 : Vec Ideal S256x1024 .f32) (w4 : Vec Ideal S1024x1024 .bf16)
  (d5 : Vec Ideal S256x1024 .f32) (w5 : Vec Ideal S1024x1024 .bf16)
  (d6 : Vec Ideal S256x128 .f32) (w6 : Vec Ideal S128x1024 .bf16)
  (x y : Vec Ideal S256x1024 .f32) (g : Vec Ideal S1x1024 .f32) (r : Fin 256) (j : Fin 1024)

/-- The gradient of the normalised row, of seven products. -/
def dn (r : Fin 256) (j : Fin 1024) : EReal :=
  (∑ k : Fin 1024, d0 (ix2 r k) * w0 (ix2 k j)) + (∑ k : Fin 1536, d1 (ix2 r k) * w1 (ix2 k j)) + (∑ k : Fin 384, d2 (ix2 r k) * w2 (ix2 k j)) + (∑ k : Fin 256, d3 (ix2 r k) * w3 (ix2 k j)) + (∑ k : Fin 1024, d4 (ix2 r k) * w4 (ix2 k j)) + (∑ k : Fin 1024, d5 (ix2 r k) * w5 (ix2 k j)) + (∑ k : Fin 128, d6 (ix2 r k) * w6 (ix2 k j))

theorem pay4_apply : k0_pay4 (k0_pay3 d0 w0 d1 w1 d2 w2 d3 w3 d4 w4) d5 w5 d6 w6 (ix2 r j) = dn d0 w0 d1 w1 d2 w2 d3 w3 d4 w4 d5 w5 d6 w6 r j := by
  pointwise [k0_pay4, k0_pay3]
  rfl

theorem pay5_apply : k0_pay5 x (ix2 r 0) = root width fun k => x (ix2 r k) := by
  pointwise [k0_pay5]
  rfl

theorem pay6_apply : k0_pay6 x (ix2 r j) = x (ix2 r j) * root width fun k => x (ix2 r k) := by
  rw [← pay5_apply]
  unfold k0_pay6
  pointwise

theorem pay7_apply : k0_pay7 (k0_pay3 d0 w0 d1 w1 d2 w2 d3 w3 d4 w4) d5 w5 d6 w6 x y g (ix2 r j)
    = dxK width (fun k => dn d0 w0 d1 w1 d2 w2 d3 w3 d4 w4 d5 w5 d6 w6 r k * g (ix2 0 k)) (fun k => x (ix2 r k)) (y (ix2 r j)) j := by
  unfold k0_pay7 dxK
  pointwise
  simp only [pay4_apply, pay6_apply, pay5_apply]
  rfl

theorem pay2_apply (v : Vec Ideal S1x1024 .f32) : k0_pay2 (k0_pay4 (k0_pay3 d0 w0 d1 w1 d2 w2 d3 w3 d4 w4) d5 w5 d6 w6) (k0_pay6 x) v (ix2 0 j)
    = v (ix2 0 j) + ∑ r : Fin 256, dn d0 w0 d1 w1 d2 w2 d3 w3 d4 w4 d5 w5 d6 w6 r j * (x (ix2 r j) * root width fun k => x (ix2 r k)) := by
  unfold k0_pay2
  pointwise
  simp only [pay4_apply, pay6_apply]

end

section
variable (c : Dev nD) (i : grid0.Coords)
  (a3 : Memref sig .tc .vmem S256x1024 .f32) (h3 : a3.IsWhole)
  (a4 : Memref sig .tc .vmem S1024x1024 .bf16) (h4 : a4.IsWhole)
  (a5 : Memref sig .tc .vmem S256x1536 .f32) (h5 : a5.IsWhole)
  (a6 : Memref sig .tc .vmem S1536x1024 .bf16) (h6 : a6.IsWhole)
  (a7 : Memref sig .tc .vmem S256x384 .f32) (h7 : a7.IsWhole)
  (a8 : Memref sig .tc .vmem S384x1024 .bf16) (h8 : a8.IsWhole)
  (a9 : Memref sig .tc .vmem S256x256 .f32) (h9 : a9.IsWhole)
  (a10 : Memref sig .tc .vmem S256x1024 .bf16) (h10 : a10.IsWhole)
  (a11 : Memref sig .tc .vmem S256x1024 .f32) (h11 : a11.IsWhole)
  (a12 : Memref sig .tc .vmem S1024x1024 .bf16) (h12 : a12.IsWhole)
  (a13 : Memref sig .tc .vmem S256x1024 .f32) (h13 : a13.IsWhole)
  (a14 : Memref sig .tc .vmem S1024x1024 .bf16) (h14 : a14.IsWhole)
  (a15 : Memref sig .tc .vmem S256x128 .f32) (h15 : a15.IsWhole)
  (a16 : Memref sig .tc .vmem S128x1024 .bf16) (h16 : a16.IsWhole)
  (a17 : Memref sig .tc .vmem S256x1024 .f32) (h17 : a17.IsWhole)
  (a18 : Memref sig .tc .vmem S256x1024 .f32) (h18 : a18.IsWhole)
  (a19 : Memref sig .tc .vmem S1x1024 .f32) (h19 : a19.IsWhole)
  (a20 : Memref sig .tc .vmem S256x1024 .f32) (h20 : a20.IsWhole)
  (a21 : Memref sig .tc .vmem S1x1024 .f32) (h21 : a21.IsWhole)
  (d0 : Vec Ideal S256x1024 .f32) (w0 : Vec Ideal S1024x1024 .bf16)
  (d1 : Vec Ideal S256x1536 .f32) (w1 : Vec Ideal S1536x1024 .bf16)
  (d2 : Vec Ideal S256x384 .f32) (w2 : Vec Ideal S384x1024 .bf16)
  (d3 : Vec Ideal S256x256 .f32) (w3 : Vec Ideal S256x1024 .bf16)
  (d4 : Vec Ideal S256x1024 .f32) (w4 : Vec Ideal S1024x1024 .bf16)
  (d5 : Vec Ideal S256x1024 .f32) (w5 : Vec Ideal S1024x1024 .bf16)
  (d6 : Vec Ideal S256x128 .f32) (w6 : Vec Ideal S128x1024 .bf16)
  (x y : Vec Ideal S256x1024 .f32) (g v : Vec Ideal S1x1024 .f32)

theorem outA17 (q) : out0_A_17 (F := Ideal) c i a3 h3 a4 h4 a5 h5 a6 h6 a7 h7 a8 h8 a9 h9 a10 h10 a11 h11 a12 h12 a13 h13 a14 h14 a15 h15 a16 h16 a17 h17 a18 h18 a19 h19 a20 h20 a21 h21 q d0 w0 d1 w1 d2 w2 d3 w3 d4 w4 d5 w5 d6 w6 x y g
    = k0_pay7 (k0_pay3 d0 w0 d1 w1 d2 w2 d3 w3 d4 w4) d5 w5 d6 w6 x y g := by
  frame_out

theorem outB17 (q) : out0_B_17 (F := Ideal) c i a3 h3 a4 h4 a5 h5 a6 h6 a7 h7 a8 h8 a9 h9 a10 h10 a11 h11 a12 h12 a13 h13 a14 h14 a15 h15 a16 h16 a17 h17 a18 h18 a19 h19 a20 h20 a21 h21 q d0 w0 d1 w1 d2 w2 d3 w3 d4 w4 d5 w5 d6 w6 x y g v
    = k0_pay7 (k0_pay3 d0 w0 d1 w1 d2 w2 d3 w3 d4 w4) d5 w5 d6 w6 x y g := by
  frame_out

theorem outA18 (q) : out0_A_18 (F := Ideal) c i a3 h3 a4 h4 a5 h5 a6 h6 a7 h7 a8 h8 a9 h9 a10 h10 a11 h11 a12 h12 a13 h13 a14 h14 a15 h15 a16 h16 a17 h17 a18 h18 a19 h19 a20 h20 a21 h21 q d0 w0 d1 w1 d2 w2 d3 w3 d4 w4 d5 w5 d6 w6 x y g
    = k0_pay2 (k0_pay4 (k0_pay3 d0 w0 d1 w1 d2 w2 d3 w3 d4 w4) d5 w5 d6 w6) (k0_pay6 x) (k0_pay1 (F := Ideal)) := by
  frame_out

theorem outB18 (q) : out0_B_18 (F := Ideal) c i a3 h3 a4 h4 a5 h5 a6 h6 a7 h7 a8 h8 a9 h9 a10 h10 a11 h11 a12 h12 a13 h13 a14 h14 a15 h15 a16 h16 a17 h17 a18 h18 a19 h19 a20 h20 a21 h21 q d0 w0 d1 w1 d2 w2 d3 w3 d4 w4 d5 w5 d6 w6 x y g v
    = k0_pay2 (k0_pay4 (k0_pay3 d0 w0 d1 w1 d2 w2 d3 w3 d4 w4) d5 w5 d6 w6) (k0_pay6 x) v := by
  frame_out

end

end Cert.Kernel10Ideal.Mix

end
-- ==== Proof.Mix.InArray.lean ====
/-
  The two arrays that the kernel leaves: the gradient of the rows, tile by tile, and the gradient of the norm's weight, summed
  over the sixteen tiles of rows. The seven weights are slices of the one input weight; the last of them joins the slices of the
  two narrow outputs and is filled with zeros.
-/
module

public import proofs.«01_k».proof.Proof.Mix.InBlock
public import proofs.«01_k».proof.Proof.Merge.Tiles

@[expose] public section

set_option maxRecDepth 16384

noncomputable section

namespace Cert.Kernel10Ideal.Mix

open Cert.Kernel10Ideal Cert.Kernel10Ideal.Gen Cert.Kernel10Ideal.Value Idealize.ShloMosaic Idealize.ShloMosaic.TcCoe Idealize.SL.Sem Idealize.ShloMosaic.Pointwise Cert.Norm Cert.Tiles
open Idealize.ShloMosaic.Pipeline (Dat)

variable (m : (ℓ : Loc nD τ sig) → Buf (Elt Ideal) ℓ) (c : Dev nD)

theorem ind : ∀ t : Fin cfg0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = 0 ∧ win0_5.index t 1 = 0) ∧ (win0_6.index t 0 = t.val ∧ win0_6.index t 1 = 0) ∧ (win0_7.index t 0 = 0 ∧ win0_7.index t 1 = 0) ∧ (win0_8.index t 0 = t.val ∧ win0_8.index t 1 = 0) ∧ (win0_9.index t 0 = 0 ∧ win0_9.index t 1 = 0) ∧ (win0_10.index t 0 = t.val ∧ win0_10.index t 1 = 0) ∧ (win0_11.index t 0 = 0 ∧ win0_11.index t 1 = 0) ∧ (win0_12.index t 0 = t.val ∧ win0_12.index t 1 = 0) ∧ (win0_13.index t 0 = 0 ∧ win0_13.index t 1 = 0) ∧ (win0_14.index t 0 = t.val ∧ win0_14.index t 1 = 0) ∧ (win0_15.index t 0 = t.val ∧ win0_15.index t 1 = 0) ∧ (win0_16.index t 0 = 0 ∧ win0_16.index t 1 = 0) ∧ (win0_17.index t 0 = t.val ∧ win0_17.index t 1 = 0) ∧ (win0_18.index t 0 = 0 ∧ win0_18.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = 0 ∧ win0_5.index t 1 = 0) ∧ (win0_6.index t 0 = t.val ∧ win0_6.index t 1 = 0) ∧ (win0_7.index t 0 = 0 ∧ win0_7.index t 1 = 0) ∧ (win0_8.index t 0 = t.val ∧ win0_8.index t 1 = 0) ∧ (win0_9.index t 0 = 0 ∧ win0_9.index t 1 = 0) ∧ (win0_10.index t 0 = t.val ∧ win0_10.index t 1 = 0) ∧ (win0_11.index t 0 = 0 ∧ win0_11.index t 1 = 0) ∧ (win0_12.index t 0 = t.val ∧ win0_12.index t 1 = 0) ∧ (win0_13.index t 0 = 0 ∧ win0_13.index t 1 = 0) ∧ (win0_14.index t 0 = t.val ∧ win0_14.index t 1 = 0) ∧ (win0_15.index t 0 = t.val ∧ win0_15.index t 1 = 0) ∧ (win0_16.index t 0 = 0 ∧ win0_16.index t 1 = 0) ∧ (win0_17.index t 0 = t.val ∧ win0_17.index t 1 = 0) ∧ (win0_18.index t 0 = 0 ∧ win0_18.index t 1 = 0))

/-- A slice of the input weight: `n` rows from row `o`. -/
theorem V_slices :
    V m c main_v0 = extractStridedSlice S1024x1024 ![0, 0] (m ((c : Thread nD τ).loc main_arg8)) slices_S5296x1024_S1024x1024_0_0
    ∧ V m c main_v1 = extractStridedSlice S1536x1024 ![1024, 0] (m ((c : Thread nD τ).loc main_arg8)) slices_S5296x1024_S1536x1024_1024_0
    ∧ V m c main_v2 = extractStridedSlice S384x1024 ![2576, 0] (m ((c : Thread nD τ).loc main_arg8)) slices_S5296x1024_S384x1024_2576_0
    ∧ V m c main_v3 = extractStridedSlice S256x1024 ![2960, 0] (m ((c : Thread nD τ).loc main_arg8)) slices_S5296x1024_S256x1024_2960_0
    ∧ V m c main_v4 = extractStridedSlice S1024x1024 ![3248, 0] (m ((c : Thread nD τ).loc main_arg8)) slices_S5296x1024_S1024x1024_3248_0
    ∧ V m c main_v5 = extractStridedSlice S1024x1024 ![4272, 0] (m ((c : Thread nD τ).loc main_arg8)) slices_S5296x1024_S1024x1024_4272_0 := by
  unfold V hostOps0
  simp only [StableHlo.after_cons, StableHlo.after_nil]
  exact ⟨rfl, rfl, rfl, rfl, rfl, rfl⟩

theorem iblk0 (t : Fin cfg0.N) (r : Fin 256) (k : Fin 1024) : iblk m c 0 t (ix2 r k) = m ((c : Thread nD τ).loc main_arg0) (ix2 (row t.val t.isLt r) k) := by
  have e := (ind t).1
  unfold iblk
  rw [View.read_apply]
  have hi : ((cfg0.win 0).blk t).view.emb (ix2 r k) = ix2 (row t.val t.isLt r) k := by
    funext a
    apply Fin.ext
    match a with
    | ⟨0, _⟩ => show win0_0.index t 0 * 256 + 1 * r.val = _; rw [e.1]; show _ = t.val * 256 + r.val; omega
    | ⟨1, _⟩ => show win0_0.index t 1 * 1024 + 1 * k.val = k.val; rw [e.2]; omega
  rw [hi]
  show V m c main_arg0 _ = _
  rw [V_main_arg0]

theorem iblk2 (t : Fin cfg0.N) (r : Fin 256) (k : Fin 1536) : iblk m c 2 t (ix2 r k) = m ((c : Thread nD τ).loc main_arg1) (ix2 (row t.val t.isLt r) k) := by
  have e := (ind t).2.2.1
  unfold iblk
  rw [View.read_apply]
  have hi : ((cfg0.win 2).blk t).view.emb (ix2 r k) = ix2 (row t.val t.isLt r) k := by
    funext a
    apply Fin.ext
    match a with
    | ⟨0, _⟩ => show win0_2.index t 0 * 256 + 1 * r.val = _; rw [e.1]; show _ = t.val * 256 + r.val; omega
    | ⟨1, _⟩ => show win0_2.index t 1 * 1536 + 1 * k.val = k.val; rw [e.2]; omega
  rw [hi]
  show V m c main_arg1 _ = _
  rw [V_main_arg1]

theorem iblk4 (t : Fin cfg0.N) (r : Fin 256) (k : Fin 384) : iblk m c 4 t (ix2 r k) = m ((c : Thread nD τ).loc main_arg3) (ix2 (row t.val t.isLt r) k) := by
  have e := (ind t).2.2.2.2.1
  unfold iblk
  rw [View.read_apply]
  have hi : ((cfg0.win 4).blk t).view.emb (ix2 r k) = ix2 (row t.val t.isLt r) k := by
    funext a
    apply Fin.ext
    match a with
    | ⟨0, _⟩ => show win0_4.index t 0 * 256 + 1 * r.val = _; rw [e.1]; show _ = t.val * 256 + r.val; omega
    | ⟨1, _⟩ => show win0_4.index t 1 * 384 + 1 * k.val = k.val; rw [e.2]; omega
  rw [hi]
  show V m c main_arg3 _ = _
  rw [V_main_arg3]

theorem iblk6 (t : Fin cfg0.N) (r : Fin 256) (k : Fin 256) : iblk m c 6 t (ix2 r k) = m ((c : Thread nD τ).loc main_arg4) (ix2 (row t.val t.isLt r) k) := by
  have e := (ind t).2.2.2.2.2.2.1
  unfold iblk
  rw [View.read_apply]
  have hi : ((cfg0.win 6).blk t).view.emb (ix2 r k) = ix2 (row t.val t.isLt r) k := by
    funext a
    apply Fin.ext
    match a with
    | ⟨0, _⟩ => show win0_6.index t 0 * 256 + 1 * r.val = _; rw [e.1]; show _ = t.val * 256 + r.val; omega
    | ⟨1, _⟩ => show win0_6.index t 1 * 256 + 1 * k.val = k.val; rw [e.2]; omega
  rw [hi]
  show V m c main_arg4 _ = _
  rw [V_main_arg4]

theorem iblk8 (t : Fin cfg0.N) (r : Fin 256) (k : Fin 1024) : iblk m c 8 t (ix2 r k) = m ((c : Thread nD τ).loc main_arg6) (ix2 (row t.val t.isLt r) k) := by
  have e := (ind t).2.2.2.2.2.2.2.2.1
  unfold iblk
  rw [View.read_apply]
  have hi : ((cfg0.win 8).blk t).view.emb (ix2 r k) = ix2 (row t.val t.isLt r) k := by
    funext a
    apply Fin.ext
    match a with
    | ⟨0, _⟩ => show win0_8.index t 0 * 256 + 1 * r.val = _; rw [e.1]; show _ = t.val * 256 + r.val; omega
    | ⟨1, _⟩ => show win0_8.index t 1 * 1024 + 1 * k.val = k.val; rw [e.2]; omega
  rw [hi]
  show V m c main_arg6 _ = _
  rw [V_main_arg6]

theorem iblk10 (t : Fin cfg0.N) (r : Fin 256) (k : Fin 1024) : iblk m c 10 t (ix2 r k) = m ((c : Thread nD τ).loc main_arg7) (ix2 (row t.val t.isLt r) k) := by
  have e := (ind t).2.2.2.2.2.2.2.2.2.2.1
  unfold iblk
  rw [View.read_apply]
  have hi : ((cfg0.win 10).blk t).view.emb (ix2 r k) = ix2 (row t.val t.isLt r) k := by
    funext a
    apply Fin.ext
    match a with
    | ⟨0, _⟩ => show win0_10.index t 0 * 256 + 1 * r.val = _; rw [e.1]; show _ = t.val * 256 + r.val; omega
    | ⟨1, _⟩ => show win0_10.index t 1 * 1024 + 1 * k.val = k.val; rw [e.2]; omega
  rw [hi]
  show V m c main_arg7 _ = _
  rw [V_main_arg7]

theorem iblk14 (t : Fin cfg0.N) (r : Fin 256) (k : Fin 1024) : iblk m c 14 t (ix2 r k) = m ((c : Thread nD τ).loc main_arg9) (ix2 (row t.val t.isLt r) k) := by
  have e := (ind t).2.2.2.2.2.2.2.2.2.2.2.2.2.2.1
  unfold iblk
  rw [View.read_apply]
  have hi : ((cfg0.win 14).blk t).view.emb (ix2 r k) = ix2 (row t.val t.isLt r) k := by
    funext a
    apply Fin.ext
    match a with
    | ⟨0, _⟩ => show win0_14.index t 0 * 256 + 1 * r.val = _; rw [e.1]; show _ = t.val * 256 + r.val; omega
    | ⟨1, _⟩ => show win0_14.index t 1 * 1024 + 1 * k.val = k.val; rw [e.2]; omega
  rw [hi]
  show V m c main_arg9 _ = _
  rw [V_main_arg9]

theorem iblk15 (t : Fin cfg0.N) (r : Fin 256) (k : Fin 1024) : iblk m c 15 t (ix2 r k) = m ((c : Thread nD τ).loc main_arg10) (ix2 (row t.val t.isLt r) k) := by
  have e := (ind t).2.2.2.2.2.2.2.2.2.2.2.2.2.2.2.1
  unfold iblk
  rw [View.read_apply]
  have hi : ((cfg0.win 15).blk t).view.emb (ix2 r k) = ix2 (row t.val t.isLt r) k := by
    funext a
    apply Fin.ext
    match a with
    | ⟨0, _⟩ => show win0_15.index t 0 * 256 + 1 * r.val = _; rw [e.1]; show _ = t.val * 256 + r.val; omega
    | ⟨1, _⟩ => show win0_15.index t 1 * 1024 + 1 * k.val = k.val; rw [e.2]; omega
  rw [hi]
  show V m c main_arg10 _ = _
  rw [V_main_arg10]

theorem iblk1 (t : Fin cfg0.N) (k : Fin 1024) (j : Fin 1024) : iblk m c 1 t (ix2 k j) = m ((c : Thread nD τ).loc main_arg8) (ix2 ⟨k.val, by omega⟩ j) := by
  have e := (ind t).2.1
  unfold iblk
  rw [View.read_apply]
  have hi : ((cfg0.win 1).blk t).view.emb (ix2 k j) = ix2 k j := by
    funext a
    apply Fin.ext
    match a with
    | ⟨0, _⟩ => show win0_1.index t 0 * 1024 + 1 * k.val = _; rw [e.1]; show _ = k.val; omega
    | ⟨1, _⟩ => show win0_1.index t 1 * 1024 + 1 * j.val = j.val; rw [e.2]; omega
  rw [hi]
  show V m c main_v0 _ = _
  refine (congrFun (V_slices m c).1 _).trans ?_
  pointwise

theorem iblk3 (t : Fin cfg0.N) (k : Fin 1536) (j : Fin 1024) : iblk m c 3 t (ix2 k j) = m ((c : Thread nD τ).loc main_arg8) (ix2 ⟨1024 + k.val, by omega⟩ j) := by
  have e := (ind t).2.2.2.1
  unfold iblk
  rw [View.read_apply]
  have hi : ((cfg0.win 3).blk t).view.emb (ix2 k j) = ix2 k j := by
    funext a
    apply Fin.ext
    match a with
    | ⟨0, _⟩ => show win0_3.index t 0 * 1536 + 1 * k.val = _; rw [e.1]; show _ = k.val; omega
    | ⟨1, _⟩ => show win0_3.index t 1 * 1024 + 1 * j.val = j.val; rw [e.2]; omega
  rw [hi]
  show V m c main_v1 _ = _
  refine (congrFun (V_slices m c).2.1 _).trans ?_
  pointwise

theorem iblk5 (t : Fin cfg0.N) (k : Fin 384) (j : Fin 1024) : iblk m c 5 t (ix2 k j) = m ((c : Thread nD τ).loc main_arg8) (ix2 ⟨2576 + k.val, by omega⟩ j) := by
  have e := (ind t).2.2.2.2.2.1
  unfold iblk
  rw [View.read_apply]
  have hi : ((cfg0.win 5).blk t).view.emb (ix2 k j) = ix2 k j := by
    funext a
    apply Fin.ext
    match a with
    | ⟨0, _⟩ => show win0_5.index t 0 * 384 + 1 * k.val = _; rw [e.1]; show _ = k.val; omega
    | ⟨1, _⟩ => show win0_5.index t 1 * 1024 + 1 * j.val = j.val; rw [e.2]; omega
  rw [hi]
  show V m c main_v2 _ = _
  refine (congrFun (V_slices m c).2.2.1 _).trans ?_
  pointwise

theorem iblk7 (t : Fin cfg0.N) (k : Fin 256) (j : Fin 1024) : iblk m c 7 t (ix2 k j) = m ((c : Thread nD τ).loc main_arg8) (ix2 ⟨2960 + k.val, by omega⟩ j) := by
  have e := (ind t).2.2.2.2.2.2.2.1
  unfold iblk
  rw [View.read_apply]
  have hi : ((cfg0.win 7).blk t).view.emb (ix2 k j) = ix2 k j := by
    funext a
    apply Fin.ext
    match a with
    | ⟨0, _⟩ => show win0_7.index t 0 * 256 + 1 * k.val = _; rw [e.1]; show _ = k.val; omega
    | ⟨1, _⟩ => show win0_7.index t 1 * 1024 + 1 * j.val = j.val; rw [e.2]; omega
  rw [hi]
  show V m c main_v3 _ = _
  refine (congrFun (V_slices m c).2.2.2.1 _).trans ?_
  pointwise

theorem iblk9 (t : Fin cfg0.N) (k : Fin 1024) (j : Fin 1024) : iblk m c 9 t (ix2 k j) = m ((c : Thread nD τ).loc main_arg8) (ix2 ⟨3248 + k.val, by omega⟩ j) := by
  have e := (ind t).2.2.2.2.2.2.2.2.2.1
  unfold iblk
  rw [View.read_apply]
  have hi : ((cfg0.win 9).blk t).view.emb (ix2 k j) = ix2 k j := by
    funext a
    apply Fin.ext
    match a with
    | ⟨0, _⟩ => show win0_9.index t 0 * 1024 + 1 * k.val = _; rw [e.1]; show _ = k.val; omega
    | ⟨1, _⟩ => show win0_9.index t 1 * 1024 + 1 * j.val = j.val; rw [e.2]; omega
  rw [hi]
  show V m c main_v4 _ = _
  refine (congrFun (V_slices m c).2.2.2.2.1 _).trans ?_
  pointwise

theorem iblk11 (t : Fin cfg0.N) (k : Fin 1024) (j : Fin 1024) : iblk m c 11 t (ix2 k j) = m ((c : Thread nD τ).loc main_arg8) (ix2 ⟨4272 + k.val, by omega⟩ j) := by
  have e := (ind t).2.2.2.2.2.2.2.2.2.2.2.1
  unfold iblk
  rw [View.read_apply]
  have hi : ((cfg0.win 11).blk t).view.emb (ix2 k j) = ix2 k j := by
    funext a
    apply Fin.ext
    match a with
    | ⟨0, _⟩ => show win0_11.index t 0 * 1024 + 1 * k.val = _; rw [e.1]; show _ = k.val; omega
    | ⟨1, _⟩ => show win0_11.index t 1 * 1024 + 1 * j.val = j.val; rw [e.2]; omega
  rw [hi]
  show V m c main_v5 _ = _
  refine (congrFun (V_slices m c).2.2.2.2.2 _).trans ?_
  pointwise

/-- The norm's weight, laid out as one row by the host. -/
theorem iblk16 (t : Fin cfg0.N) (j : Fin 1024) : iblk m c 16 t (ix2 0 j) = m ((c : Thread nD τ).loc main_arg11) (ix1 j) := by
  have e := (ind t).2.2.2.2.2.2.2.2.2.2.2.2.2.2.2.2.1
  unfold iblk
  rw [View.read_apply]
  have hi : ((cfg0.win 16).blk t).view.emb (ix2 0 j) = ix2 (0 : Fin 1) j := by
    funext a
    apply Fin.ext
    match a with
    | ⟨0, _⟩ => show win0_16.index t 0 * 1 + 1 * 0 = _; rw [e.1]; simp
    | ⟨1, _⟩ => show win0_16.index t 1 * 1024 + 1 * j.val = j.val; rw [e.2]; omega
  rw [hi]
  show V m c main_v12 _ = _
  have hv : V m c main_v12 = shapeCast S1x1024 (m ((c : Thread nD τ).loc main_arg11)) shapeCasts_S1024_S1x1024 := by
    unfold V hostOps0
    simp only [StableHlo.after_cons, StableHlo.after_nil]
    rfl
  refine (congrFun hv _).trans ?_
  pointwise

/-- The two narrow gradients and zeros, side by side. -/
theorem V_v11 : V m c main_v11 = concatenate S4096x128 1 [⟨S4096x16, ((m ((c : Thread nD τ).loc main_arg2)) : Vec Ideal S4096x16 .f32)⟩, ⟨S4096x32, ((m ((c : Thread nD τ).loc main_arg5)) : Vec Ideal S4096x32 .f32)⟩,
    ⟨S4096x80, broadcastInDim S4096x80 ![] bcast_S_S4096x80 (constant (F := Ideal) S_ .f32 0x00000000#32)⟩] concatenates_S4096x16_S4096x32_S4096x80_S4096x128_d1 := by
  unfold V hostOps0
  simp only [StableHlo.after_cons, StableHlo.after_nil]
  rfl

/-- The two narrow slices of the weight and zeros, one below the other. -/
theorem V_v9 : V m c main_v9 = concatenate S128x1024 0
    [⟨S16x1024, extractStridedSlice S16x1024 ![2560, 0] (m ((c : Thread nD τ).loc main_arg8)) slices_S5296x1024_S16x1024_2560_0⟩,
    ⟨S32x1024, extractStridedSlice S32x1024 ![3216, 0] (m ((c : Thread nD τ).loc main_arg8)) slices_S5296x1024_S32x1024_3216_0⟩,
    ⟨S80x1024, broadcastInDim S80x1024 ![] bcast_S_S80x1024 (constant (F := Ideal) S_ .bf16 0x0000#16)⟩] concatenates_S16x1024_S32x1024_S80x1024_S128x1024_d0 := by
  unfold V hostOps0
  simp only [StableHlo.after_cons, StableHlo.after_nil]
  rfl

theorem iblk12 (t : Fin cfg0.N) (r : Fin 256) (k : Fin 128) : iblk m c 12 t (ix2 r k) = V m c main_v11 (ix2 (row t.val t.isLt r) k) := by
  have e := (ind t).2.2.2.2.2.2.2.2.2.2.2.2.1
  unfold iblk
  rw [View.read_apply]
  have hi : ((cfg0.win 12).blk t).view.emb (ix2 r k) = ix2 (row t.val t.isLt r) k := by
    funext a
    apply Fin.ext
    match a with
    | ⟨0, _⟩ => show win0_12.index t 0 * 256 + 1 * r.val = _; rw [e.1]; show _ = t.val * 256 + r.val; omega
    | ⟨1, _⟩ => show win0_12.index t 1 * 128 + 1 * k.val = k.val; rw [e.2]; omega
  rw [hi]
  rfl

theorem iblk13 (t : Fin cfg0.N) (k : Fin 128) (j : Fin 1024) : iblk m c 13 t (ix2 k j) = V m c main_v9 (ix2 k j) := by
  have e := (ind t).2.2.2.2.2.2.2.2.2.2.2.2.2.1
  unfold iblk
  rw [View.read_apply]
  have hi : ((cfg0.win 13).blk t).view.emb (ix2 k j) = ix2 k j := by
    funext a
    apply Fin.ext
    match a with
    | ⟨0, _⟩ => show win0_13.index t 0 * 128 + 1 * k.val = _; rw [e.1]; show _ = k.val; omega
    | ⟨1, _⟩ => show win0_13.index t 1 * 1024 + 1 * j.val = j.val; rw [e.2]; omega
  rw [hi]
  rfl

/-- A sum over a range, cut in two. -/
theorem sum_cut {N} (n l : ℕ) (h : N = n + l) (f : Fin N → EReal) :
    ∑ k, f k = (∑ k : Fin n, f ⟨k.val, by omega⟩) + ∑ k : Fin l, f ⟨n + k.val, by omega⟩ := by
  subst h
  exact Fin.sum_univ_add f

theorem narrow_dt (p : Fin 4096) (k : Fin 16) : (V m c main_v11 : Vec Ideal S4096x128 .f32) (ix2 p ⟨k.val, by omega⟩) = (m ((c : Thread nD τ).loc main_arg2)) (ix2 p k) := by
  rw [V_v11]
  pointwise

theorem narrow_kr (p : Fin 4096) (k : Fin 32) : (V m c main_v11 : Vec Ideal S4096x128 .f32) (ix2 p ⟨16 + k.val, by omega⟩) = (m ((c : Thread nD τ).loc main_arg5)) (ix2 p k) := by
  rw [V_v11]
  pointwise

theorem narrow_zero (p : Fin 4096) (k : Fin 80) : (V m c main_v11 : Vec Ideal S4096x128 .f32) (ix2 p ⟨48 + k.val, by omega⟩) = (0 : EReal) := by
  rw [V_v11]
  pointwise
  rw [dif_neg (by omega), dif_neg (by omega)]

theorem narrow_w_dt (k : Fin 16) (j : Fin 1024) : (V m c main_v9 : Vec Ideal S128x1024 .bf16) (ix2 ⟨k.val, by omega⟩ j) = (m ((c : Thread nD τ).loc main_arg8)) (ix2 ⟨2560 + k.val, by omega⟩ j) := by
  rw [V_v9]
  pointwise

theorem narrow_w_kr (k : Fin 32) (j : Fin 1024) : (V m c main_v9 : Vec Ideal S128x1024 .bf16) (ix2 ⟨16 + k.val, by omega⟩ j) = (m ((c : Thread nD τ).loc main_arg8)) (ix2 ⟨3216 + k.val, by omega⟩ j) := by
  rw [V_v9]
  pointwise

/-- The narrow gradient and its weight. -/
def nar : S4096x128.Idx → EReal := V m c main_v11
def narW : S128x1024.Idx → EReal := V m c main_v9

/-- The narrow product is that of its two pieces; the zeros add nothing. -/
theorem narrow (d : S4096x16.Idx → EReal) (e : S4096x32.Idx → EReal) (w : S5296x1024.Idx → EReal)
    (hd : (m ((c : Thread nD τ).loc main_arg2)) = d) (he : (m ((c : Thread nD τ).loc main_arg5)) = e) (hw : (m ((c : Thread nD τ).loc main_arg8)) = w) (p : Fin 4096) (j : Fin 1024) :
    ∑ k : Fin 128, nar m c (ix2 p k) * narW m c (ix2 k j)
      = (∑ k : Fin 16, d (ix2 p k) * w (ix2 ⟨2560 + k.val, by omega⟩ j)) + ∑ k : Fin 32, e (ix2 p k) * w (ix2 ⟨3216 + k.val, by omega⟩ j) := by
  subst hd he hw
  refine (sum_cut 48 80 rfl _).trans ?_
  refine (congrArg₂ (· + ·) (sum_cut 16 32 rfl _) (Finset.sum_eq_zero fun k _ => ?_)).trans ?_
  · exact (congrArg (fun a : EReal => a * _) (narrow_zero m c p k)).trans (zero_mul (M₀ := EReal) _)
  · refine (add_zero _).trans ?_
    refine congrArg₂ (· + ·) (Finset.sum_congr rfl fun k _ => ?_) (Finset.sum_congr rfl fun k _ => ?_)
    · exact congrArg₂ (fun a b : EReal => a * b) (narrow_dt m c p k) (narrow_w_dt m c k j)
    · exact congrArg₂ (fun a b : EReal => a * b) (narrow_kr m c p k) (narrow_w_kr m c k j)

/-- The gradient of the normalised rows, of the eight gradients of the projection's pieces and its stored weight. -/
def dnA (dz : S4096x1024.Idx → EReal) (dxbc : S4096x1536.Idx → EReal) (ddt : S4096x16.Idx → EReal) (dq : S4096x384.Idx → EReal) (dkv : S4096x256.Idx → EReal) (dkr : S4096x32.Idx → EReal) (dgs : S4096x1024.Idx → EReal) (dgm : S4096x1024.Idx → EReal)
    (w : S5296x1024.Idx → EReal) (p : Fin 4096) (j : Fin 1024) : EReal :=
  (∑ k : Fin 1024, dz (ix2 p k) * w (ix2 ⟨k.val, by omega⟩ j)) + (∑ k : Fin 1536, dxbc (ix2 p k) * w (ix2 ⟨1024 + k.val, by omega⟩ j)) + (∑ k : Fin 384, dq (ix2 p k) * w (ix2 ⟨2576 + k.val, by omega⟩ j)) + (∑ k : Fin 256, dkv (ix2 p k) * w (ix2 ⟨2960 + k.val, by omega⟩ j)) + (∑ k : Fin 1024, dgs (ix2 p k) * w (ix2 ⟨3248 + k.val, by omega⟩ j)) + (∑ k : Fin 1024, dgm (ix2 p k) * w (ix2 ⟨4272 + k.val, by omega⟩ j))
    + ((∑ k : Fin 16, ddt (ix2 p k) * w (ix2 ⟨2560 + k.val, by omega⟩ j)) + (∑ k : Fin 32, dkr (ix2 p k) * w (ix2 ⟨3216 + k.val, by omega⟩ j)))

/-- The gradient of the rows, and what a row adds to the gradient of the norm's weight. -/
def dxA (dz : S4096x1024.Idx → EReal) (dxbc : S4096x1536.Idx → EReal) (ddt : S4096x16.Idx → EReal) (dq : S4096x384.Idx → EReal) (dkv : S4096x256.Idx → EReal) (dkr : S4096x32.Idx → EReal) (dgs : S4096x1024.Idx → EReal) (dgm : S4096x1024.Idx → EReal)
    (w : S5296x1024.Idx → EReal) (x y : S4096x1024.Idx → EReal) (g : S1024.Idx → EReal) (p : Fin 4096) (j : Fin 1024) : EReal :=
  dxK width (fun k => dnA dz dxbc ddt dq dkv dkr dgs dgm w p k * g (ix1 k)) (fun k => x (ix2 p k)) (y (ix2 p j)) j

def dgTerm (dz : S4096x1024.Idx → EReal) (dxbc : S4096x1536.Idx → EReal) (ddt : S4096x16.Idx → EReal) (dq : S4096x384.Idx → EReal) (dkv : S4096x256.Idx → EReal) (dkr : S4096x32.Idx → EReal) (dgs : S4096x1024.Idx → EReal) (dgm : S4096x1024.Idx → EReal)
    (w : S5296x1024.Idx → EReal) (x : S4096x1024.Idx → EReal) (j : Fin 1024) (p : Fin 4096) : EReal :=
  dnA dz dxbc ddt dq dkv dkr dgs dgm w p j * (x (ix2 p j) * root width fun k => x (ix2 p k))

/-- These three at the kernel's arguments. -/
def dnM (p : Fin 4096) (j : Fin 1024) : EReal :=
  dnA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p j

def dxM (p : Fin 4096) (j : Fin 1024) : EReal :=
  dxA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) p j

def termM (j : Fin 1024) (p : Fin 4096) : EReal :=
  dgTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) j p

theorem dn_iblk (t : Fin cfg0.N) (r : Fin 256) (j : Fin 1024) :
    dn (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j = dnM m c (row t.val t.isLt r) j :=
  congrArg₂ (· + ·) (congrArg₂ (· + ·) (congrArg₂ (· + ·) (congrArg₂ (· + ·) (congrArg₂ (· + ·) (congrArg₂ (· + ·) (Finset.sum_congr rfl fun k _ => congrArg₂ (· * ·) (iblk0 m c t r k) (iblk1 m c t k j))
    (Finset.sum_congr rfl fun k _ => congrArg₂ (· * ·) (iblk2 m c t r k) (iblk3 m c t k j)))
    (Finset.sum_congr rfl fun k _ => congrArg₂ (· * ·) (iblk4 m c t r k) (iblk5 m c t k j)))
    (Finset.sum_congr rfl fun k _ => congrArg₂ (· * ·) (iblk6 m c t r k) (iblk7 m c t k j)))
    (Finset.sum_congr rfl fun k _ => congrArg₂ (· * ·) (iblk8 m c t r k) (iblk9 m c t k j)))
    (Finset.sum_congr rfl fun k _ => congrArg₂ (· * ·) (iblk10 m c t r k) (iblk11 m c t k j)))
    ((Finset.sum_congr rfl fun k _ => congrArg₂ (fun a b : EReal => a * b) (iblk12 m c t r k) (iblk13 m c t k j)).trans (narrow m c _ _ _ rfl rfl rfl _ j))

theorem pay7_iblk (t : Fin cfg0.N) (r : Fin 256) (j : Fin 1024) :
    k0_pay7 (F := Ideal) (k0_pay3 (iblk m c 0 t) (iblk m c 1 t) (iblk m c 2 t) (iblk m c 3 t) (iblk m c 4 t) (iblk m c 5 t) (iblk m c 6 t) (iblk m c 7 t) (iblk m c 8 t) (iblk m c 9 t))
      (iblk m c 10 t) (iblk m c 11 t) (iblk m c 12 t) (iblk m c 13 t) (iblk m c 14 t) (iblk m c 15 t) (iblk m c 16 t) (ix2 r j) = dxM m c (row t.val t.isLt r) j := by
  refine (pay7_apply _ _ _ _ _ _ _ _ _ _ _ _ _ _ _ _ _ r j).trans ?_
  simp only [dn_iblk, iblk14, iblk15, iblk16]
  rfl

theorem pay2_iblk (t : Fin cfg0.N) (v : Vec Ideal S1x1024 .f32) (j : Fin 1024) :
    k0_pay2 (F := Ideal) (k0_pay4 (k0_pay3 (iblk m c 0 t) (iblk m c 1 t) (iblk m c 2 t) (iblk m c 3 t) (iblk m c 4 t) (iblk m c 5 t) (iblk m c 6 t) (iblk m c 7 t) (iblk m c 8 t) (iblk m c 9 t))
      (iblk m c 10 t) (iblk m c 11 t) (iblk m c 12 t) (iblk m c 13 t)) (k0_pay6 (iblk m c 14 t)) v (ix2 0 j)
      = v (ix2 0 j) + ∑ r : Fin 256, termM m c j (row t.val t.isLt r) := by
  refine (pay2_apply _ _ _ _ _ _ _ _ _ _ _ _ _ _ _ j v).trans ?_
  simp only [dn_iblk, iblk14]
  rfl

/-- The array of the rows' gradient. -/
theorem arr17 (p : Fin 4096) (j : Fin 1024) : (dats m 0 c).arrAt 17 cfg0.N (ix2 p j) = dxM m c p j := by
  obtain ⟨t', ht, r, rfl⟩ := exists_row p
  obtain ⟨t, rfl⟩ : ∃ t : Fin cfg0.N, t.val = t' := ⟨⟨t', ht⟩, rfl⟩
  have hb := congrFun (blocks17 m c t (flush0_17 _)) (ix2 r j)
  rw [View.read_apply] at hb
  have e := (ind t).2.2.2.2.2.2.2.2.2.2.2.2.2.2.2.2.2.1
  have hi : ((cfg0.win 17).blk t).view.emb (ix2 r j) = ix2 (row t.val t.isLt r) j := by
    funext a
    apply Fin.ext
    match a with
    | ⟨0, _⟩ => show win0_17.index t 0 * 256 + 1 * r.val = _; rw [e.1]; show _ = t.val * 256 + r.val; omega
    | ⟨1, _⟩ => show win0_17.index t 1 * 1024 + 1 * j.val = j.val; rw [e.2]; omega
  rw [hi] at hb
  refine hb.trans ?_
  by_cases h : t.val % 16 = 0
  · rw [flushed17_A m c t h, outA17]
    exact pay7_iblk m c t r j
  · rw [flushed17_B m c t h, outB17]
    exact pay7_iblk m c t r j

/-- After a point the weight's row holds the sum of the tiles so far. -/
theorem partials (j : Fin 1024) : ∀ (n : ℕ) (hn : n < cfg0.N), (outsAt0 m c n hn).2 (ix2 0 j) = ∑ i ∈ Finset.range (n + 1), tile (termM m c j) i
  | 0, hn => by
    rw [outsAt0_A m c ⟨0, hn⟩ rfl]
    dsimp only
    rw [outA18]
    refine (pay2_iblk m c ⟨0, hn⟩ _ j).trans ?_
    rw [Finset.sum_range_one, tile_eq _ (by omega)]
    have : (k0_pay1 (F := Ideal)) (ix2 0 j) = 0 := by pointwise [k0_pay1]
    rw [this, zero_add]
  | n + 1, hn => by
    have h16 : n + 1 < 16 := hn
    rw [outsAt0_B m c ⟨n + 1, hn⟩ (by show ¬(n + 1) % 16 = 0; omega)]
    dsimp only
    rw [outB18]
    refine (pay2_iblk m c ⟨n + 1, hn⟩ _ j).trans ?_
    rw [Finset.sum_range_succ, tile_eq _ h16]
    exact congrArg (· + _) (partials j n _)

/-- The array of the gradient of the norm's weight. -/
theorem arr18 (j : Fin 1024) : (dats m 0 c).arrAt 18 cfg0.N (ix2 0 j) = ∑ p : Fin 4096, termM m c j p := by
  obtain ⟨t, ht⟩ : ∃ t : Fin cfg0.N, t.val = 15 := ⟨⟨15, show 15 < 16 by omega⟩, rfl⟩
  have hd : ∀ t t' : Fin cfg0.N, (cfg0.win 18).flush t = true → (cfg0.win 18).flush t' = true → t ≠ t' →
      Disjoint ((cfg0.win 18).blk t).view.set ((cfg0.win 18).blk t').view.set := fun t t' h h' hne => by
    have a := (flush0_18 t).1 h
    have b := (flush0_18 t').1 h'
    have ha : t.val < 16 := t.isLt
    have hb : t'.val < 16 := t'.isLt
    exact absurd (Fin.ext (by omega)) hne
  have hb := congrFun ((dats m 0 c).read_blk_arrAt_eq_flushed 18 hd cfg0.N t t.isLt ((flush0_18 t).2 (by omega))) (ix2 0 j)
  rw [View.read_apply, flushed18] at hb
  have e := (ind t).2.2.2.2.2.2.2.2.2.2.2.2.2.2.2.2.2.2
  have hi : ((cfg0.win 18).blk t).view.emb (ix2 0 j) = ix2 (0 : Fin 1) j := by
    funext a
    apply Fin.ext
    match a with
    | ⟨0, _⟩ => show win0_18.index t 0 * 1 + 1 * 0 = _; rw [e.1]; simp
    | ⟨1, _⟩ => show win0_18.index t 1 * 1024 + 1 * j.val = j.val; rw [e.2]; omega
  rw [hi] at hb
  refine hb.trans ((partials m c j t.val t.isLt).trans ?_)
  rw [ht, sum_tiles]

end Cert.Kernel10Ideal.Mix

end
-- ==== Proof.Mix.In.lean ====
/-
  The reference's gradient at the entry of the mixer, stage by stage, and that kernel and reference agree: the sum over the 5296
  outputs of the input projection is cut into the eight pieces, which the kernel adds in another order.
-/
module

public import proofs.«01_k».proof.Defs
public import proofs.«01_k».proof.Proof.Mix.InArray
public import proofs.«01_k».proof.Proof.Gen.Reference10Ideal.Run
public import proofs.«01_k».proof.Proof.Gen.Reference10Ideal.Read

@[expose] public section

set_option maxRecDepth 16384

noncomputable section

namespace Cert.MixClaim

open Idealize.ShloMosaic Idealize.SL.Sem Idealize.ShloMosaic.Pointwise Cert.Reference10Ideal Cert.Reference10Ideal.Read Cert.Norm Cert.Kernel10Ideal.Mix

section
variable (x0 : (⟨S4096x1024, .f32⟩ : BufTy).Contents (Elt Ideal))
  (x1 : (⟨S4096x1536, .f32⟩ : BufTy).Contents (Elt Ideal))
  (x2 : (⟨S4096x16, .f32⟩ : BufTy).Contents (Elt Ideal))
  (x3 : (⟨S4096x384, .f32⟩ : BufTy).Contents (Elt Ideal))
  (x4 : (⟨S4096x256, .f32⟩ : BufTy).Contents (Elt Ideal))
  (x5 : (⟨S4096x32, .f32⟩ : BufTy).Contents (Elt Ideal))
  (x6 : (⟨S4096x1024, .f32⟩ : BufTy).Contents (Elt Ideal))
  (x7 : (⟨S4096x1024, .f32⟩ : BufTy).Contents (Elt Ideal))
  (x8 : (⟨S5296x1024, .bf16⟩ : BufTy).Contents (Elt Ideal))
  (x9 x10 : (⟨S4096x1024, .f32⟩ : BufTy).Contents (Elt Ideal)) (x11 : (⟨S1024, .f32⟩ : BufTy).Contents (Elt Ideal)) (p : Fin 4096) (j : Fin 1024)

theorem v6_apply : val_main_v6 x9 (ix2 p 0) = var width fun k => x9 (ix2 p k) := by
  pointwise [val_main_v6, val_main_v5, val_main_v4, val_main_v3, val_main_v2, val_main_v1, val_main_v0, val_main_cst, val_main_cst_0, val_main_cst_1]
  rfl

theorem v7_apply : val_main_v7 x9 (ix2 p 0) = root width fun k => x9 (ix2 p k) := by
  unfold root
  rw [← v6_apply]
  rfl

theorem v12_apply : val_main_v12 x9 (ix2 p j) = x9 (ix2 p j) * root width fun k => x9 (ix2 p k) := by
  rw [← v7_apply]
  unfold val_main_v12 val_main_v11
  generalize val_main_v7 (F := Ideal) x9 = y
  pointwise

theorem v10_apply : val_main_v10 x9 (ix2 p 0) = mhalf * Ideal.div (root width fun k => x9 (ix2 p k)) (var width fun k => x9 (ix2 p k)) := by
  rw [← v7_apply, ← v6_apply]
  unfold val_main_v10 val_main_v9 val_main_v8 val_main_cst_2
  generalize val_main_v7 (F := Ideal) x9 = y
  generalize val_main_v6 (F := Ideal) x9 = z
  pointwise
  rfl

theorem piece0 (k : Fin 1024) : val_main_v27 (F := Ideal) x0 x1 x2 x3 x4 x5 x6 x7 (ix2 p ⟨k.val, by omega⟩) = x0 (ix2 p k) := by
  pointwise [val_main_v27]

theorem piece1 (k : Fin 1536) : val_main_v27 (F := Ideal) x0 x1 x2 x3 x4 x5 x6 x7 (ix2 p ⟨1024 + k.val, by omega⟩) = x1 (ix2 p k) := by
  pointwise [val_main_v27]

theorem piece2 (k : Fin 16) : val_main_v27 (F := Ideal) x0 x1 x2 x3 x4 x5 x6 x7 (ix2 p ⟨2560 + k.val, by omega⟩) = x2 (ix2 p k) := by
  pointwise [val_main_v27]
  rw [dif_neg (by omega), dif_neg (by omega), dif_pos (by omega)]
  refine congrArg (fun q => x2 (ix2 p q)) (Fin.ext ?_)
  show 2560 + k.val - 1024 - 1536 = k.val
  omega

theorem piece3 (k : Fin 384) : val_main_v27 (F := Ideal) x0 x1 x2 x3 x4 x5 x6 x7 (ix2 p ⟨2576 + k.val, by omega⟩) = x3 (ix2 p k) := by
  pointwise [val_main_v27]
  rw [dif_neg (by omega), dif_neg (by omega), dif_neg (by omega), dif_pos (by omega)]
  refine congrArg (fun q => x3 (ix2 p q)) (Fin.ext ?_)
  show 2576 + k.val - 1024 - 1536 - 16 = k.val
  omega

theorem piece4 (k : Fin 256) : val_main_v27 (F := Ideal) x0 x1 x2 x3 x4 x5 x6 x7 (ix2 p ⟨2960 + k.val, by omega⟩) = x4 (ix2 p k) := by
  pointwise [val_main_v27]
  rw [dif_neg (by omega), dif_neg (by omega), dif_neg (by omega), dif_neg (by omega), dif_pos (by omega)]
  refine congrArg (fun q => x4 (ix2 p q)) (Fin.ext ?_)
  show 2960 + k.val - 1024 - 1536 - 16 - 384 = k.val
  omega

theorem piece5 (k : Fin 32) : val_main_v27 (F := Ideal) x0 x1 x2 x3 x4 x5 x6 x7 (ix2 p ⟨3216 + k.val, by omega⟩) = x5 (ix2 p k) := by
  pointwise [val_main_v27]
  rw [dif_neg (by omega), dif_neg (by omega), dif_neg (by omega), dif_neg (by omega), dif_neg (by omega), dif_pos (by omega)]
  refine congrArg (fun q => x5 (ix2 p q)) (Fin.ext ?_)
  show 3216 + k.val - 1024 - 1536 - 16 - 384 - 256 = k.val
  omega

theorem piece6 (k : Fin 1024) : val_main_v27 (F := Ideal) x0 x1 x2 x3 x4 x5 x6 x7 (ix2 p ⟨3248 + k.val, by omega⟩) = x6 (ix2 p k) := by
  pointwise [val_main_v27]
  rw [dif_neg (by omega), dif_neg (by omega), dif_neg (by omega), dif_neg (by omega), dif_neg (by omega), dif_neg (by omega), dif_pos (by omega)]
  refine congrArg (fun q => x6 (ix2 p q)) (Fin.ext ?_)
  show 3248 + k.val - 1024 - 1536 - 16 - 384 - 256 - 32 = k.val
  omega

theorem piece7 (k : Fin 1024) : val_main_v27 (F := Ideal) x0 x1 x2 x3 x4 x5 x6 x7 (ix2 p ⟨4272 + k.val, by omega⟩) = x7 (ix2 p k) := by
  pointwise [val_main_v27]
  rw [dif_neg (by omega), dif_neg (by omega), dif_neg (by omega), dif_neg (by omega), dif_neg (by omega), dif_neg (by omega), dif_neg (by omega)]
  refine congrArg (fun q => x7 (ix2 p q)) (Fin.ext ?_)
  show 4272 + k.val - 1024 - 1536 - 16 - 384 - 256 - 32 - 1024 = k.val
  omega

/-- A sum over the projection's outputs is the sum over its eight pieces. -/
theorem sum_pieces (f : Fin 5296 → EReal) : ∑ k, f k =
    (∑ k : Fin 1024, f ⟨k.val, by omega⟩) + (∑ k : Fin 1536, f ⟨1024 + k.val, by omega⟩) + (∑ k : Fin 16, f ⟨2560 + k.val, by omega⟩) + (∑ k : Fin 384, f ⟨2576 + k.val, by omega⟩) + (∑ k : Fin 256, f ⟨2960 + k.val, by omega⟩) + (∑ k : Fin 32, f ⟨3216 + k.val, by omega⟩) + (∑ k : Fin 1024, f ⟨3248 + k.val, by omega⟩) + (∑ k : Fin 1024, f ⟨4272 + k.val, by omega⟩) :=
  (sum_cut 4272 1024 rfl _).trans (congrArg (· + _) ((sum_cut 3248 1024 rfl _).trans (congrArg (· + _) ((sum_cut 3216 32 rfl _).trans (congrArg (· + _) ((sum_cut 2960 256 rfl _).trans (congrArg (· + _) ((sum_cut 2576 384 rfl _).trans (congrArg (· + _) ((sum_cut 2560 16 rfl _).trans (congrArg (· + _) (sum_cut 1024 1536 rfl _))))))))))))

theorem weight_apply (k : Fin 5296) : val_main_v17 (F := Ideal) x8 (ix2 j k) = x8 (ix2 k j) := by
  pointwise [val_main_v17, val_main_v16]

theorem v28_apply : val_main_v28 x0 x1 x2 x3 x4 x5 x6 x7 x8 (ix2 p j) = dnA x0 x1 x2 x3 x4 x5 x6 x7 x8 p j := by
  have h : val_main_v28 (F := Ideal) x0 x1 x2 x3 x4 x5 x6 x7 x8 (ix2 p j)
      = ∑ k : Fin 5296, val_main_v27 (F := Ideal) x0 x1 x2 x3 x4 x5 x6 x7 (ix2 p k) * val_main_v17 (F := Ideal) x8 (ix2 j k) := by
    unfold val_main_v28
    generalize val_main_v27 (F := Ideal) x0 x1 x2 x3 x4 x5 x6 x7 = a
    generalize val_main_v17 (F := Ideal) x8 = b
    pointwise
  refine h.trans ((sum_pieces _).trans ?_)
  simp only [weight_apply, piece0, piece1, piece2, piece3, piece4, piece5, piece6, piece7]
  unfold dnA
  ac_rfl

theorem v33_apply : val_main_v33 x0 x1 x2 x3 x4 x5 x6 x7 x8 x11 (ix2 p j) = dnA x0 x1 x2 x3 x4 x5 x6 x7 x8 p j * x11 (ix1 j) := by
  rw [← v28_apply]
  unfold val_main_v33 val_main_v32 val_main_v13
  generalize val_main_v28 (F := Ideal) x0 x1 x2 x3 x4 x5 x6 x7 x8 = y
  pointwise

theorem v45_apply : val_main_v45 x0 x1 x2 x3 x4 x5 x6 x7 x8 x9 x11 (ix2 p j) = coef width (fun k => dnA x0 x1 x2 x3 x4 x5 x6 x7 x8 p k * x11 (ix1 k)) (fun k => x9 (ix2 p k)) := by
  unfold coef val_main_v45 val_main_v44 val_main_v43 val_main_v42 val_main_v41 val_main_v37 val_main_v36 val_main_v35 val_main_cst_5 val_main_cst_6 val_main_cst_7
  pointwise
  refine (Fin.sum_univ_one _).trans ?_
  refine congrArg₂ Ideal.div (congrArg₂ (· * ·) (Finset.sum_congr rfl fun k _ => congrArg (x9 (ix2 p k) * ·) ?_) ?_) rfl
  · exact v33_apply x0 x1 x2 x3 x4 x5 x6 x7 x8 x11 p k
  · exact v10_apply x9 p

theorem v49_apply : val_main_v49 x0 x1 x2 x3 x4 x5 x6 x7 x8 x9 x10 x11 (ix2 p j) = dxA x0 x1 x2 x3 x4 x5 x6 x7 x8 x9 x10 x11 p j := by
  unfold dxA
  rw [dxK_eq width_eq (by norm_num)]
  unfold dxR
  beta_reduce
  rw [← v45_apply x0 x1 x2 x3 x4 x5 x6 x7 x8 x9 x11 p j, ← v33_apply, ← v7_apply]
  unfold val_main_v49 val_main_v48 val_main_v47 val_main_v46 val_main_v40 val_main_v39 val_main_v38
  generalize val_main_v7 (F := Ideal) x9 = y
  generalize val_main_v33 (F := Ideal) x0 x1 x2 x3 x4 x5 x6 x7 x8 x11 = z
  generalize val_main_v45 (F := Ideal) x0 x1 x2 x3 x4 x5 x6 x7 x8 x9 x11 = w
  pointwise

theorem v50_apply : val_main_v50 x0 x1 x2 x3 x4 x5 x6 x7 x8 x9 (ix2 0 j) = ∑ p : Fin 4096, dgTerm x0 x1 x2 x3 x4 x5 x6 x7 x8 x9 j p := by
  unfold val_main_v50 val_main_v34 val_main_v31 val_main_v30 val_main_v29 val_main_cst_3 val_main_cst_4
  pointwise
  refine (Fin.sum_univ_one _).trans (Finset.sum_congr rfl fun p _ => ?_)
  refine (congrArg₂ (· * ·) (v12_apply x9 p j) (v28_apply x0 x1 x2 x3 x4 x5 x6 x7 x8 p j)).trans ?_
  exact mul_comm (G := EReal) _ _
end

/-- Kernel and reference compute the same gradient of the rows and of the norm's weight. -/
theorem algebraic : Cert.algebraic_Kernel10Ideal_Reference10Ideal (hKernel10Ideal := Cert.Kernel10Ideal.Gen.facts)
      (hReference10Ideal := Cert.Reference10Ideal.Gen.facts) := by
  intro m g m' g' _ harg
  refine ⟨fun c => (Cert.Kernel10Ideal.Gen.dats m 0 c).arrAt 17 Cert.Kernel10Ideal.cfg0.N, fun c => (Cert.Kernel10Ideal.Gen.dats m 0 c).arrAt 18 Cert.Kernel10Ideal.cfg0.N,
    Cert.Kernel10Ideal.Value.run_blocks m g, (θ_run _ _ _).mono (fun r h c => ?_) (Cert.Reference10Ideal.Value.run m' g')⟩
  obtain ⟨h0, h1, hr⟩ := h c
  obtain ⟨e0, e1, e2, e3, e4, e5, e6, e7, e8, e9, e10, e11⟩ := harg c
  refine ⟨h0.trans ?_, h1.trans ?_, hr⟩
  · rw [Cert.Reference10Ideal.Read.val_main_v49_eq, e0, e1, e2, e3, e4, e5, e6, e7, e8, e9, e10, e11]
    funext i
    obtain ⟨p, j, rfl⟩ : ∃ (p : Fin 4096) (j : Fin 1024), i = ix2 p j := ⟨i 0, i 1, by funext a; match a with | ⟨0, _⟩ => rfl | ⟨1, _⟩ => rfl⟩
    exact (v49_apply _ _ _ _ _ _ _ _ _ _ _ _ p j).trans (arr17 m c p j).symm
  · rw [Cert.Reference10Ideal.Read.val_main_v50_eq, e0, e1, e2, e3, e4, e5, e6, e7, e8, e9]
    funext i
    obtain ⟨j, rfl⟩ : ∃ (j : Fin 1024), i = ix2 (0 : Fin 1) j := ⟨i 1, by
      funext a
      match a with
      | ⟨0, _⟩ => exact Fin.ext (show (i 0).val = 0 by have : (i 0).val < 1 := (i 0).isLt; omega)
      | ⟨1, _⟩ => rfl⟩
    exact (v50_apply _ _ _ _ _ _ _ _ _ _ j).trans (arr18 m c j).symm

end Cert.MixClaim

end
-- ==== Proof.Product.Shared.lean ====
/-
  What the plain products share: an index of a matrix from its two coordinates, and a sum over the 4096 rows in two halves.
-/
module

public import Idealize.ShloMosaic.Lib.Pointwise

@[expose] public section

noncomputable section

namespace Cert.Product

open Idealize.ShloMosaic Idealize.ShloMosaic.Pointwise

/-- An index of a matrix is its row and its column. -/
theorem ix2_eq {a b : ℕ} (i : Shape.Idx ⟨2, ![a, b]⟩) (p : Fin a) (q : Fin b) (h0 : (i 0).val = p.val) (h1 : (i 1).val = q.val) : i = ix2 p q := by
  funext d
  match d with
  | ⟨0, _⟩ => exact Fin.ext h0
  | ⟨1, _⟩ => exact Fin.ext h1

theorem exists_ix2 {a b : ℕ} (i : Shape.Idx ⟨2, ![a, b]⟩) : ∃ (p : Fin a) (q : Fin b), i = ix2 p q :=
  ⟨i 0, i 1, ix2_eq i _ _ rfl rfl⟩

/-- The two halves of a sum over the rows. -/
theorem sum_halves (f : Fin 4096 → EReal) :
    ∑ k : Fin 4096, f k = ∑ k : Fin 2048, f ⟨0 * 2048 + k, by omega⟩ + ∑ k : Fin 2048, f ⟨1 * 2048 + k, by omega⟩ := by
  rw [show (∑ k : Fin 4096, f k) = ∑ k : Fin (2048 + 2048), f k from rfl, Fin.sum_univ_add]
  refine congrArg₂ (· + ·) (Finset.sum_congr rfl fun k _ => congrArg f (Fin.ext ?_)) (Finset.sum_congr rfl fun k _ => congrArg f (Fin.ext ?_))
  · show k.val = 0 * 2048 + k.val
    omega
  · show 2048 + k.val = 1 * 2048 + k.val
    omega

/-- The three forms of a product: of two matrices, of a matrix and a transposed one, and of a transposed one and a matrix. -/
def nn {n k m : ℕ} (x : Shape.Idx ⟨2, ![n, k]⟩ → EReal) (y : Shape.Idx ⟨2, ![k, m]⟩ → EReal) (r : Fin n) (s : Fin m) : EReal :=
  ∑ d : Fin k, x (ix2 r d) * y (ix2 d s)

def nt {n k m : ℕ} (x : Shape.Idx ⟨2, ![n, k]⟩ → EReal) (y : Shape.Idx ⟨2, ![m, k]⟩ → EReal) (r : Fin n) (s : Fin m) : EReal :=
  ∑ d : Fin k, x (ix2 r d) * y (ix2 s d)

def tn {n k m : ℕ} (x : Shape.Idx ⟨2, ![k, n]⟩ → EReal) (y : Shape.Idx ⟨2, ![k, m]⟩ → EReal) (r : Fin n) (s : Fin m) : EReal :=
  ∑ d : Fin k, x (ix2 d r) * y (ix2 d s)

/-- A product over the 4096 rows is the sum of the products over its two halves. -/
theorem tn_halves {n m : ℕ} (x : Shape.Idx ⟨2, ![4096, n]⟩ → EReal) (y : Shape.Idx ⟨2, ![4096, m]⟩ → EReal) (r : Fin n) (s : Fin m) :
    tn x y r s = ∑ k : Fin 2048, x (ix2 ⟨0 * 2048 + k, by omega⟩ r) * y (ix2 ⟨0 * 2048 + k, by omega⟩ s)
      + ∑ k : Fin 2048, x (ix2 ⟨1 * 2048 + k, by omega⟩ r) * y (ix2 ⟨1 * 2048 + k, by omega⟩ s) :=
  sum_halves fun k => x (ix2 k r) * y (ix2 k s)

end Cert.Product

end
-- ==== Proof.Product.OutWeight.lean ====
/-
  The gradient of a square weight of which both factors are bf16 (the output projection's, and the cross attention's query and
  output projections'): a product contracted over the 4096 rows, summed in two halves in a scratch.
-/
module

public import proofs.«01_k».proof.Defs
public import proofs.«01_k».proof.Proof.Product.Shared
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel11Ideal.Product

open Cert.Kernel11Ideal Cert.Kernel11Ideal.Gen Cert.Kernel11Ideal.Value Idealize.ShloMosaic Idealize.ShloMosaic.TcCoe Idealize.SL.Sem Idealize.ShloMosaic.Pointwise Cert.Product
open Idealize.ShloMosaic.Pipeline (Dat)

section
variable (c : Dev nD) (i : grid0.Coords)
  (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (y : Vec Ideal S2048x1024 .bf16) (z : Vec Ideal S1024x1024 .f32) (r : Fin 1024) (s : Fin 1024)

/-- After the first half of the rows the scratch holds that half's product. -/
theorem sout_first (q0 q1 q2) : sout0_A_0 (F := Ideal) c i a3 h3 a4 h4 a5 h5 a6 h6 q0 q1 q2 x y = k0_pay1 x y := by
  frame_out

/-- After the second half the output's block holds what the scratch held before it and that half's product. -/
theorem out_second (q0 q1 q2) : out0_B_2 (F := Ideal) c i a3 h3 a4 h4 a5 h5 a6 h6 q0 q1 q2 x y z = k0_pay3 (k0_pay2 x y z) := by
  frame_out

theorem pay1_apply : k0_pay1 x y (ix2 r s) = ∑ k : Fin 2048, x (ix2 k r) * y (ix2 k s) := by
  pointwise [k0_pay1]

theorem pay3_apply : k0_pay3 (k0_pay2 x y z) (ix2 r s) = z (ix2 r s) + ∑ k : Fin 2048, x (ix2 k r) * y (ix2 k s) := by
  pointwise [k0_pay3, k0_pay2]

end

variable (m : (ℓ : Loc nD τ sig) → Buf (Elt Ideal) ℓ) (c : Dev nD)

theorem ind : ∀ t : Fin cfg0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0))

/-- A grid point's rows of the first factor, at that point's columns. -/
theorem iblk0 (t : Fin cfg0.N) (k : Fin 2048) (r : Fin 1024) :
    iblk m c 0 t (ix2 k r) = m ((c : Thread nD τ).loc main_arg0) (ix2 (⟨t.val % 2 * 2048 + k, by omega⟩ : Fin 4096)
      (⟨t.val / 2 * 1024 + r, by have : t.val < 2 := t.isLt; omega⟩ : Fin 1024)) := by
  have e := (ind t).1
  unfold iblk
  rw [View.read_apply]
  refine congrArg (m ((c : Thread nD τ).loc main_arg0)) (ix2_eq _ _ _ ?_ ?_)
  · show win0_0.index t 0 * 2048 + 1 * k.val = t.val % 2 * 2048 + k.val
    rw [e.1]; omega
  · show win0_0.index t 1 * 1024 + 1 * r.val = t.val / 2 * 1024 + r.val
    rw [e.2]; omega

theorem iblk1 (t : Fin cfg0.N) (k : Fin 2048) (s : Fin 1024) :
    iblk m c 1 t (ix2 k s) = m ((c : Thread nD τ).loc main_arg1) (ix2 (⟨t.val % 2 * 2048 + k, by omega⟩ : Fin 4096) s) := by
  have e := (ind t).2.1
  unfold iblk
  rw [View.read_apply]
  refine congrArg (m ((c : Thread nD τ).loc main_arg1)) (ix2_eq _ _ _ ?_ ?_)
  · show win0_1.index t 0 * 2048 + 1 * k.val = t.val % 2 * 2048 + k.val
    rw [e.1]; omega
  · show win0_1.index t 1 * 1024 + 1 * s.val = s.val
    rw [e.2]; omega

/-- At an even point the scratch is left with the first half's product. -/
theorem scratch_even (n : ℕ) (hn : n < cfg0.N) (h : n % 2 = 0) :
    (outsAt0 m c n hn).2 = k0_pay1 (iblk m c 0 ⟨n, hn⟩) (iblk m c 1 ⟨n, hn⟩) := by
  rw [outsAt0_A m c ⟨n, hn⟩ h (by show ¬n % 2 = 1; omega) (by show ¬n % 2 = 1; omega)]
  dsimp only
  rw [sout_first]

/-- The gradient at the kernel's arguments. -/
def dw (p : Fin 1024) (s : Fin 1024) : EReal := tn (m ((c : Thread nD τ).loc main_arg0)) (m ((c : Thread nD τ).loc main_arg1)) p s

/-- What an odd point writes back, at an index of its block. -/
theorem flushed_odd (t : Fin cfg0.N) (h : t.val % 2 = 1) (r : Fin 1024) (s : Fin 1024) :
    (dats m 0 c).flushed 2 t (ix2 r s) = dw m c (⟨t.val / 2 * 1024 + r, by have : t.val < 2 := t.isLt; omega⟩ : Fin 1024) s := by
  have ht : t.val < 2 := t.isLt
  have hN : t.val - 1 < cfg0.N := show t.val - 1 < 2 by omega
  rw [flushed2_B m c t (by omega) h h, out_second, scratch_even m c (t.val - 1) hN (by omega)]
  refine (pay3_apply _ _ _ r s).trans ?_
  rw [pay1_apply]
  unfold dw
  rw [tn_halves]
  have e0 : (t.val - 1) % 2 = 0 := by omega
  have e1 : (t.val - 1) / 2 = t.val / 2 := by omega
  refine congrArg₂ (· + ·) (Finset.sum_congr rfl fun k _ => ?_) (Finset.sum_congr rfl fun k _ => ?_)
  · rw [iblk0, iblk1]
    simp only [e0, e1]
  · rw [iblk0, iblk1]
    simp only [h]

/-- The array that the kernel leaves. -/
theorem arr2 (p : Fin 1024) (s : Fin 1024) : (dats m 0 c).arrAt 2 cfg0.N (ix2 p s) = dw m c p s := by
  obtain ⟨t, h, ht⟩ : ∃ t : Fin cfg0.N, t.val % 2 = 1 ∧ t.val / 2 = p.val / 1024 :=
    ⟨⟨2 * (p.val / 1024) + 1, show _ < 2 by omega⟩, show (2 * (p.val / 1024) + 1) % 2 = 1 by omega, show (2 * (p.val / 1024) + 1) / 2 = _ by omega⟩
  have hb := congrFun (flushed2_eq m c t ((flush0_2 t).mpr h)) (ix2 ⟨p.val % 1024, by omega⟩ s)
  rw [View.read_apply, ← final2, flushed_odd m c t h] at hb
  have e := (ind t).2.2
  have hi : ((cfg0.win 2).blk t).view.emb (ix2 ⟨p.val % 1024, by omega⟩ s) = ix2 p s := by
    refine ix2_eq _ _ _ ?_ ?_
    · show win0_2.index t 0 * 1024 + 1 * (p.val % 1024) = p.val
      rw [e.1, ht]; omega
    · show win0_2.index t 1 * 1024 + 1 * s.val = s.val
      rw [e.2]; omega
  rw [hi] at hb
  refine hb.symm.trans (congrArg (fun q => dw m c q s) (Fin.ext ?_))
  show t.val / 2 * 1024 + p.val % 1024 = p.val
  rw [ht]; omega

end Cert.Kernel11Ideal.Product

namespace Cert.OutWeightClaim

open Idealize.ShloMosaic Idealize.SL.Sem Idealize.ShloMosaic.Pointwise Cert.Reference11Ideal.Read Cert.Product

/-- The reference's result at an index. -/
theorem ref_apply (x0 : (⟨Cert.Reference11Ideal.S4096x1024, .bf16⟩ : BufTy).Contents (Elt Ideal)) (x1 : (⟨Cert.Reference11Ideal.S4096x1024, .bf16⟩ : BufTy).Contents (Elt Ideal))
    (r : Fin 1024) (s : Fin 1024) : val_main_v6 x0 x1 (ix2 r s) = tn x0 x1 r s := by
  unfold val_main_v6 val_main_v5 val_main_v4 val_main_v3 val_main_v1
  pointwise
  exact Finset.sum_congr rfl fun k _ => mul_comm _ _

/-- Kernel and reference compute the same gradient. -/
theorem algebraic :
    Cert.algebraic_Kernel11Ideal_Reference11Ideal (hKernel11Ideal := Cert.Kernel11Ideal.Gen.facts) (hReference11Ideal := Cert.Reference11Ideal.Gen.facts) := by
  intro m g m' g' _ harg
  refine ⟨fun c => (Cert.Kernel11Ideal.Gen.dats m 0 c).arrAt 2 Cert.Kernel11Ideal.cfg0.N, Cert.Kernel11Ideal.Value.run_blocks m g,
    (θ_run _ _ _).mono (fun r h c => ?_) (Cert.Reference11Ideal.Value.run m' g')⟩
  obtain ⟨h0, hr⟩ := h c
  obtain ⟨e0, e1⟩ := harg c
  refine ⟨h0.trans ?_, hr⟩
  rw [val_main_v6_eq, e0, e1]
  funext j
  obtain ⟨p, s, rfl⟩ := exists_ix2 j
  exact (ref_apply _ _ p s).trans (Cert.Kernel11Ideal.Product.arr2 m c p s).symm

end Cert.OutWeightClaim

end
-- ==== Proof.Product.InWeight.lean ====
/-
  The gradient of one of the input projection's three pieces of 1024 columns, transposed: the pieces' incoming gradient against
  the normalised rows, contracted over the 4096 rows in two halves.
-/
module

public import proofs.«01_k».proof.Defs
public import proofs.«01_k».proof.Proof.Product.Shared
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel12Ideal.Product

open Cert.Kernel12Ideal Cert.Kernel12Ideal.Gen Cert.Kernel12Ideal.Value Idealize.ShloMosaic Idealize.ShloMosaic.TcCoe Idealize.SL.Sem Idealize.ShloMosaic.Pointwise Cert.Product
open Idealize.ShloMosaic.Pipeline (Dat)

section
variable (c : Dev nD) (i : grid0.Coords)
  (a3 : Memref sig .tc .vmem S2048x1024 .f32) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S2048x1024 .f32) (y : Vec Ideal S2048x1024 .bf16) (z : Vec Ideal S1024x1024 .f32) (r : Fin 1024) (s : Fin 1024)

/-- After the first half of the rows the scratch holds that half's product. -/
theorem sout_first (q0 q1 q2) : sout0_A_0 (F := Ideal) c i a3 h3 a4 h4 a5 h5 a6 h6 q0 q1 q2 x y = k0_pay1 x y := by
  frame_out

/-- After the second half the output's block holds what the scratch held before it and that half's product. -/
theorem out_second (q0 q1 q2) : out0_B_2 (F := Ideal) c i a3 h3 a4 h4 a5 h5 a6 h6 q0 q1 q2 x y z = k0_pay3 (k0_pay2 x y z) := by
  frame_out

theorem pay1_apply : k0_pay1 x y (ix2 r s) = ∑ k : Fin 2048, x (ix2 k r) * y (ix2 k s) := by
  pointwise [k0_pay1]

theorem pay3_apply : k0_pay3 (k0_pay2 x y z) (ix2 r s) = z (ix2 r s) + ∑ k : Fin 2048, x (ix2 k r) * y (ix2 k s) := by
  pointwise [k0_pay3, k0_pay2]

end

variable (m : (ℓ : Loc nD τ sig) → Buf (Elt Ideal) ℓ) (c : Dev nD)

theorem ind : ∀ t : Fin cfg0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0))

/-- A grid point's rows of the first factor, at that point's columns. -/
theorem iblk0 (t : Fin cfg0.N) (k : Fin 2048) (r : Fin 1024) :
    iblk m c 0 t (ix2 k r) = m ((c : Thread nD τ).loc main_arg0) (ix2 (⟨t.val % 2 * 2048 + k, by omega⟩ : Fin 4096)
      (⟨t.val / 2 * 1024 + r, by have : t.val < 2 := t.isLt; omega⟩ : Fin 1024)) := by
  have e := (ind t).1
  unfold iblk
  rw [View.read_apply]
  refine congrArg (m ((c : Thread nD τ).loc main_arg0)) (ix2_eq _ _ _ ?_ ?_)
  · show win0_0.index t 0 * 2048 + 1 * k.val = t.val % 2 * 2048 + k.val
    rw [e.1]; omega
  · show win0_0.index t 1 * 1024 + 1 * r.val = t.val / 2 * 1024 + r.val
    rw [e.2]; omega

theorem iblk1 (t : Fin cfg0.N) (k : Fin 2048) (s : Fin 1024) :
    iblk m c 1 t (ix2 k s) = m ((c : Thread nD τ).loc main_arg1) (ix2 (⟨t.val % 2 * 2048 + k, by omega⟩ : Fin 4096) s) := by
  have e := (ind t).2.1
  unfold iblk
  rw [View.read_apply]
  refine congrArg (m ((c : Thread nD τ).loc main_arg1)) (ix2_eq _ _ _ ?_ ?_)
  · show win0_1.index t 0 * 2048 + 1 * k.val = t.val % 2 * 2048 + k.val
    rw [e.1]; omega
  · show win0_1.index t 1 * 1024 + 1 * s.val = s.val
    rw [e.2]; omega

/-- At an even point the scratch is left with the first half's product. -/
theorem scratch_even (n : ℕ) (hn : n < cfg0.N) (h : n % 2 = 0) :
    (outsAt0 m c n hn).2 = k0_pay1 (iblk m c 0 ⟨n, hn⟩) (iblk m c 1 ⟨n, hn⟩) := by
  rw [outsAt0_A m c ⟨n, hn⟩ h (by show ¬n % 2 = 1; omega) (by show ¬n % 2 = 1; omega)]
  dsimp only
  rw [sout_first]

/-- The gradient at the kernel's arguments. -/
def dw (p : Fin 1024) (s : Fin 1024) : EReal := tn (m ((c : Thread nD τ).loc main_arg0)) (m ((c : Thread nD τ).loc main_arg1)) p s

/-- What an odd point writes back, at an index of its block. -/
theorem flushed_odd (t : Fin cfg0.N) (h : t.val % 2 = 1) (r : Fin 1024) (s : Fin 1024) :
    (dats m 0 c).flushed 2 t (ix2 r s) = dw m c (⟨t.val / 2 * 1024 + r, by have : t.val < 2 := t.isLt; omega⟩ : Fin 1024) s := by
  have ht : t.val < 2 := t.isLt
  have hN : t.val - 1 < cfg0.N := show t.val - 1 < 2 by omega
  rw [flushed2_B m c t (by omega) h h, out_second, scratch_even m c (t.val - 1) hN (by omega)]
  refine (pay3_apply _ _ _ r s).trans ?_
  rw [pay1_apply]
  unfold dw
  rw [tn_halves]
  have e0 : (t.val - 1) % 2 = 0 := by omega
  have e1 : (t.val - 1) / 2 = t.val / 2 := by omega
  refine congrArg₂ (· + ·) (Finset.sum_congr rfl fun k _ => ?_) (Finset.sum_congr rfl fun k _ => ?_)
  · rw [iblk0, iblk1]
    simp only [e0, e1]
  · rw [iblk0, iblk1]
    simp only [h]

/-- The array that the kernel leaves. -/
theorem arr2 (p : Fin 1024) (s : Fin 1024) : (dats m 0 c).arrAt 2 cfg0.N (ix2 p s) = dw m c p s := by
  obtain ⟨t, h, ht⟩ : ∃ t : Fin cfg0.N, t.val % 2 = 1 ∧ t.val / 2 = p.val / 1024 :=
    ⟨⟨2 * (p.val / 1024) + 1, show _ < 2 by omega⟩, show (2 * (p.val / 1024) + 1) % 2 = 1 by omega, show (2 * (p.val / 1024) + 1) / 2 = _ by omega⟩
  have hb := congrFun (flushed2_eq m c t ((flush0_2 t).mpr h)) (ix2 ⟨p.val % 1024, by omega⟩ s)
  rw [View.read_apply, ← final2, flushed_odd m c t h] at hb
  have e := (ind t).2.2
  have hi : ((cfg0.win 2).blk t).view.emb (ix2 ⟨p.val % 1024, by omega⟩ s) = ix2 p s := by
    refine ix2_eq _ _ _ ?_ ?_
    · show win0_2.index t 0 * 1024 + 1 * (p.val % 1024) = p.val
      rw [e.1, ht]; omega
    · show win0_2.index t 1 * 1024 + 1 * s.val = s.val
      rw [e.2]; omega
  rw [hi] at hb
  refine hb.symm.trans (congrArg (fun q => dw m c q s) (Fin.ext ?_))
  show t.val / 2 * 1024 + p.val % 1024 = p.val
  rw [ht]; omega

end Cert.Kernel12Ideal.Product

namespace Cert.InWeightClaim

open Idealize.ShloMosaic Idealize.SL.Sem Idealize.ShloMosaic.Pointwise Cert.Reference12Ideal.Read Cert.Product

/-- The reference's result at an index. -/
theorem ref_apply (x0 : (⟨Cert.Reference12Ideal.S4096x1024, .f32⟩ : BufTy).Contents (Elt Ideal)) (x1 : (⟨Cert.Reference12Ideal.S4096x1024, .bf16⟩ : BufTy).Contents (Elt Ideal))
    (r : Fin 1024) (s : Fin 1024) : val_main_v7 x0 x1 (ix2 r s) = tn x0 x1 r s := by
  unfold val_main_v7 val_main_v6 val_main_v5 val_main_v4 val_main_v1
  pointwise
  rfl

/-- Kernel and reference compute the same gradient. -/
theorem algebraic :
    Cert.algebraic_Kernel12Ideal_Reference12Ideal (hKernel12Ideal := Cert.Kernel12Ideal.Gen.facts) (hReference12Ideal := Cert.Reference12Ideal.Gen.facts) := by
  intro m g m' g' _ harg
  refine ⟨fun c => (Cert.Kernel12Ideal.Gen.dats m 0 c).arrAt 2 Cert.Kernel12Ideal.cfg0.N, Cert.Kernel12Ideal.Value.run_blocks m g,
    (θ_run _ _ _).mono (fun r h c => ?_) (Cert.Reference12Ideal.Value.run m' g')⟩
  obtain ⟨h0, hr⟩ := h c
  obtain ⟨e0, e1⟩ := harg c
  refine ⟨h0.trans ?_, hr⟩
  rw [val_main_v7_eq, e0, e1]
  funext j
  obtain ⟨p, s, rfl⟩ := exists_ix2 j
  exact (ref_apply _ _ p s).trans (Cert.Kernel12Ideal.Product.arr2 m c p s).symm

end Cert.InWeightClaim

end
-- ==== Proof.Product.In.lean ====
/-
  The input projection of the normalised rows on one of its three pieces of 1024 columns, eight blocks of 512 rows.
-/
module

public import proofs.«01_k».proof.Defs
public import proofs.«01_k».proof.Proof.Product.Shared
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel13Ideal.Product

open Cert.Kernel13Ideal Cert.Kernel13Ideal.Gen Cert.Kernel13Ideal.Value Idealize.ShloMosaic Idealize.ShloMosaic.TcCoe Idealize.SL.Sem Idealize.ShloMosaic.Pointwise Cert.Product
open Idealize.ShloMosaic.Pipeline (Dat)

/-- A block of the product. -/
theorem out_apply (x : Vec Ideal S512x1024 .bf16) (w : Vec Ideal S1024x1024 .bf16) (r : Fin 512) (s : Fin 1024) :
    out0_2 x w (ix2 r s) = nt x w r s := by
  have h : out0_2 x w = k0_pay1 x w := by frame_out
  rw [h]
  pointwise [k0_pay1]
  rfl

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0) ∧ (win0_2.index t 0 = t.val ∧ win0_2.index t 1 = 0))

theorem iblk0 (t : Fin cfg0.N) (r : Fin 512) (k : Fin 1024) :
    iblk m c 0 t (ix2 r k) = m ((c : Thread nD τ).loc main_arg0) (ix2 (⟨t.val * 512 + r, by have : t.val < 8 := t.isLt; omega⟩ : Fin 4096) k) := by
  have e := (ind t).1
  unfold iblk
  rw [View.read_apply]
  refine congrArg (m ((c : Thread nD τ).loc main_arg0)) (ix2_eq _ _ _ ?_ ?_)
  · show win0_0.index t 0 * 512 + 1 * r.val = t.val * 512 + r.val
    rw [e.1]; omega
  · show win0_0.index t 1 * 1024 + 1 * k.val = k.val
    rw [e.2]; omega

theorem iblk1 (t : Fin cfg0.N) (r : Fin 1024) (k : Fin 1024) : iblk m c 1 t (ix2 r k) = m ((c : Thread nD τ).loc main_arg1) (ix2 r k) := by
  have e := (ind t).2.1
  unfold iblk
  rw [View.read_apply]
  refine congrArg (m ((c : Thread nD τ).loc main_arg1)) (ix2_eq _ _ _ ?_ ?_)
  · show win0_1.index t 0 * 1024 + 1 * r.val = r.val
    rw [e.1]; omega
  · show win0_1.index t 1 * 1024 + 1 * k.val = k.val
    rw [e.2]; omega

/-- The array that the kernel leaves. -/
theorem arr2 (p : Fin 4096) (s : Fin 1024) : (dats m 0 c).arrAt 2 cfg0.N (ix2 p s)
    = nt (m ((c : Thread nD τ).loc main_arg0)) (m ((c : Thread nD τ).loc main_arg1)) p s := by
  obtain ⟨t, ht⟩ : ∃ t : Fin cfg0.N, t.val = p.val / 512 := ⟨⟨p.val / 512, show _ < 8 by omega⟩, rfl⟩
  have hb := congrFun (blocks2 m c t (flush0_2 _)) (ix2 ⟨p.val % 512, by omega⟩ s)
  rw [View.read_apply, flushed2] at hb
  have e := (ind t).2.2
  have hi : ((cfg0.win 2).blk t).view.emb (ix2 ⟨p.val % 512, by omega⟩ s) = ix2 p s := by
    refine ix2_eq _ _ _ ?_ ?_
    · show win0_2.index t 0 * 512 + 1 * (p.val % 512) = p.val
      rw [e.1, ht]; omega
    · show win0_2.index t 1 * 1024 + 1 * s.val = s.val
      rw [e.2]; omega
  rw [hi] at hb
  refine hb.trans ((out_apply _ _ _ s).trans (Finset.sum_congr rfl fun k _ => ?_))
  rw [iblk0, iblk1]
  have hp : (⟨t.val * 512 + p.val % 512, by omega⟩ : Fin 4096) = p := Fin.ext (show t.val * 512 + p.val % 512 = p.val by omega)
  exact congrArg (fun y : EReal => y * _) (congrArg (fun q => m ((c : Thread nD τ).loc main_arg0) (ix2 q k)) hp)

end Cert.Kernel13Ideal.Product

namespace Cert.InProductClaim

open Idealize.ShloMosaic Idealize.SL.Sem Idealize.ShloMosaic.Pointwise Cert.Reference13Ideal.Read Cert.Product

/-- The reference's result at an index. -/
theorem ref_apply (x0 : (⟨Cert.Reference13Ideal.S4096x1024, .bf16⟩ : BufTy).Contents (Elt Ideal)) (x1 : (⟨Cert.Reference13Ideal.S1024x1024, .bf16⟩ : BufTy).Contents (Elt Ideal))
    (r : Fin 4096) (s : Fin 1024) : val_main_v3 x0 x1 (ix2 r s) = nt x0 x1 r s := by
  unfold val_main_v3 val_main_v2 val_main_v1 val_main_v0
  pointwise
  rfl

/-- Kernel and reference compute the same product. -/
theorem algebraic :
    Cert.algebraic_Kernel13Ideal_Reference13Ideal (hKernel13Ideal := Cert.Kernel13Ideal.Gen.facts) (hReference13Ideal := Cert.Reference13Ideal.Gen.facts) := by
  intro m g m' g' _ harg
  refine ⟨fun c => (Cert.Kernel13Ideal.Gen.dats m 0 c).arrAt 2 Cert.Kernel13Ideal.cfg0.N, Cert.Kernel13Ideal.Value.run_blocks m g,
    (θ_run _ _ _).mono (fun r h c => ?_) (Cert.Reference13Ideal.Value.run m' g')⟩
  obtain ⟨h0, hr⟩ := h c
  obtain ⟨e0, e1⟩ := harg c
  refine ⟨h0.trans ?_, hr⟩
  rw [val_main_v3_eq, e0, e1]
  funext j
  obtain ⟨p, s, rfl⟩ := exists_ix2 j
  exact (ref_apply _ _ p s).trans (Cert.Kernel13Ideal.Product.arr2 m c p s).symm

end Cert.InProductClaim

end
-- ==== Proof.Product.OutBlock.lean ====
/-
  The output product (of the gated merge, and of the cross attention) with the norm and the residual that follow it, one block
  of 512 rows: the kernel forms it in two pieces of 256 rows, and each piece holds the same function of the block's inputs.
-/
module

public import proofs.«01_k».proof.Proof.Gen.Kernel14Ideal.Value
public import proofs.«01_k».proof.Proof.Ffn.NormMath
public import Idealize.ShloMosaic.Lib.Pointwise
public import Idealize.ShloMosaic.Lib.Pipeline.ValueKit
public import Idealize.ShloMosaic.Lib.Tactic

@[expose] public section

set_option maxRecDepth 16384

noncomputable section

namespace Cert.Kernel14Ideal.Product

open Cert.Kernel14Ideal Cert.Kernel14Ideal.Gen Cert.Kernel14Ideal.Value Idealize.ShloMosaic Idealize.ShloMosaic.TcCoe Idealize.SL.Sem Idealize.ShloMosaic.Pointwise Cert.Norm
open Idealize.ShloMosaic.Pipeline (Dat)

/-- The residual plus the normalised row `h`, weighted, at entry `j`. -/
def post (h : Fin 1024 → EReal) (x g : EReal) (j : Fin 1024) : EReal := x + h j * root width h * g

/-! The payloads of the two pieces, read at an index. -/

section
variable (a : Vec Ideal S256x1024 .bf16) (w : Vec Ideal S1024x1024 .bf16) (x : Vec Ideal S256x1024 .f32) (g : Vec Ideal S1x1024 .f32)
  (r : Fin 256) (j : Fin 1024)

theorem pay2_apply : k0_pay2 a w (ix2 r j) = ∑ k : Fin 1024, a (ix2 r k) * w (ix2 k j) := by
  pointwise [k0_pay2]

theorem pay4_apply : k0_pay4 a w (ix2 r j) = ∑ k : Fin 1024, a (ix2 r k) * w (ix2 k j) := by
  pointwise [k0_pay4]

theorem pay3_apply : k0_pay3 a w x g (ix2 r j)
    = post (fun j => ∑ k : Fin 1024, a (ix2 r k) * w (ix2 k j)) (x (ix2 r j)) (g (ix2 0 j)) j := by
  unfold k0_pay3 post
  pointwise
  simp only [pay2_apply]
  rfl

theorem pay1_apply : k0_pay1 (k0_pay4 a w) x (k0_pay5 g) (ix2 r j)
    = post (fun j => ∑ k : Fin 1024, a (ix2 r k) * w (ix2 k j)) (x (ix2 r j)) (g (ix2 0 j)) j := by
  unfold k0_pay1 k0_pay5 post
  pointwise
  simp only [pay4_apply]
  rfl
end

/-- The product in a block. -/
def prodB (a : Vec Ideal S512x1024 .bf16) (w : Vec Ideal S1024x1024 .bf16) : Vec Ideal S512x1024 .f32 :=
  fun y => ∑ k : Fin 1024, a (ix2 (y 0 : Fin 512) k) * w (ix2 k (y 1 : Fin 1024))

/-- The result in a block. -/
def postB (a : Vec Ideal S512x1024 .bf16) (w : Vec Ideal S1024x1024 .bf16) (x : Vec Ideal S512x1024 .f32) (g : Vec Ideal S1x1024 .f32) :
    Vec Ideal S512x1024 .f32 :=
  fun y => post (fun j => prodB a w (ix2 (y 0 : Fin 512) j)) (x y) (g (ix2 0 (y 1 : Fin 1024))) (y 1)

/-- The two pieces cover the block. -/
theorem covered (y : S512x1024.Idx) : y ∈ r0_3.set ∨ y ∈ r0_0.set := by
  have h0 : (y 0).val < 512 := (y 0).isLt
  have h1 : (y 1).val < 1024 := (y 1).isLt
  by_cases c1 : 256 ≤ (y 0).val
  · exact .inl (Rect.mem_set_unit.2 fun a => match a with
      | ⟨0, _⟩ => show 256 ≤ (y 0).val ∧ (y 0).val < 256 + 256 by omega
      | ⟨1, _⟩ => show 0 ≤ (y 1).val ∧ (y 1).val < 0 + 1024 by omega)
  · exact .inr (Rect.mem_set_unit.2 fun a => match a with
      | ⟨0, _⟩ => show 0 ≤ (y 0).val ∧ (y 0).val < 0 + 256 by omega
      | ⟨1, _⟩ => show 0 ≤ (y 1).val ∧ (y 1).val < 0 + 1024 by omega)

section
variable (a : Vec Ideal S512x1024 .bf16) (w : Vec Ideal S1024x1024 .bf16) (x : Vec Ideal S512x1024 .f32) (g : Vec Ideal S1x1024 .f32)

/-- The product at an index of a piece: the product of the rows of `a` that the piece loads. -/
theorem prod_piece {o : ℕ} (inb : ∀ a, (![o, 0] : Fin 2 → ℕ) a + (![256, 1024] : Fin 2 → ℕ) a ≤ S512x1024.size a)
    (ina : ∀ a, (![o, 0] : Fin 2 → ℕ) a + (![256, 1024] : Fin 2 → ℕ) a ≤ S512x1024.size a) (r : Fin 256) (i j : Fin 1024) :
    (∑ k : Fin 1024, View.ld a (Rect.unit ![o, 0] ![256, 1024] ina) (ix2 r k) * View.ld w r0_1 (ix2 k j))
      = prodB a w (ix2 ((Rect.unit (s := S512x1024) ![o, 0] ![256, 1024] inb).emb (ix2 r i) 0 : Fin 512) j) := by
  unfold prodB
  refine Finset.sum_congr rfl fun k _ => congrArg₂ (· * ·) (congrArg a ?_) (congrArg w ?_)
  · funext b
    apply Fin.ext
    match b with
    | ⟨0, _⟩ => rfl
    | ⟨1, _⟩ => show 0 + 1 * k.val = k.val; omega
  · funext b
    apply Fin.ext
    match b with
    | ⟨0, _⟩ => show 0 + 1 * k.val = k.val; omega
    | ⟨1, _⟩ => show 0 + 1 * j.val = j.val; omega

theorem g_piece (j : Fin 1024) : View.ld g r0_2 (ix2 0 j) = g (ix2 0 j) :=
  congrArg g (by
    funext b
    apply Fin.ext
    match b with
    | ⟨0, _⟩ => rfl
    | ⟨1, _⟩ => show 0 + 1 * j.val = j.val; omega)

theorem emb1 {o : ℕ} (inb : ∀ a, (![o, 0] : Fin 2 → ℕ) a + (![256, 1024] : Fin 2 → ℕ) a ≤ S512x1024.size a) (r : Fin 256) (j : Fin 1024) :
    ((Rect.unit (s := S512x1024) ![o, 0] ![256, 1024] inb).emb (ix2 r j) 1 : Fin 1024) = j :=
  Fin.ext (show 0 + 1 * j.val = j.val by omega)

theorem out_y (y : S512x1024.Idx) : out0_4 (F := Ideal) a w x g y = postB a w x g y := by
  unfold out0_4 k0_pay6
  refine View.canon_apply_of_pieces (postB a w x g) _ (fun p hp z => ?_) y ?_
  · simp only [List.mem_cons, List.not_mem_nil, or_false] at hp
    rcases hp with rfl | rfl
    · obtain ⟨r, j, rfl⟩ : ∃ (r : Fin 256) (j : Fin 1024), z = ix2 r j := ⟨z 0, z 1, by funext a; match a with | ⟨0, _⟩ => rfl | ⟨1, _⟩ => rfl⟩
      refine (pay1_apply _ _ _ _ r j).trans ?_
      rw [g_piece]
      simp only [prod_piece (o := 256) a w inb_S512x1024_S256x1024_256_0 inb_S512x1024_S256x1024_256_0 r j]
      unfold postB
      rw [emb1]
      rfl
    · obtain ⟨r, j, rfl⟩ : ∃ (r : Fin 256) (j : Fin 1024), z = ix2 r j := ⟨z 0, z 1, by funext a; match a with | ⟨0, _⟩ => rfl | ⟨1, _⟩ => rfl⟩
      refine (pay3_apply _ _ _ _ r j).trans ?_
      rw [g_piece]
      simp only [prod_piece (o := 0) a w inb_S512x1024_S256x1024_0_0 inb_S512x1024_S256x1024_0_0 r j]
      unfold postB
      rw [emb1]
      rfl
  · rcases covered y with h | h
    · exact ⟨_, .head _, h⟩
    · exact ⟨_, .tail _ (.head _), h⟩

theorem out_h (y : S512x1024.Idx) : out0_5 (F := Ideal) a w x g y = prodB a w y := by
  unfold out0_5 k0_pay6
  refine View.canon_apply_of_pieces (prodB a w) _ (fun p hp z => ?_) y ?_
  · simp only [List.mem_cons, List.not_mem_nil, or_false] at hp
    rcases hp with rfl | rfl
    · obtain ⟨r, j, rfl⟩ : ∃ (r : Fin 256) (j : Fin 1024), z = ix2 r j := ⟨z 0, z 1, by funext a; match a with | ⟨0, _⟩ => rfl | ⟨1, _⟩ => rfl⟩
      refine (pay4_apply _ _ r j).trans ?_
      rw [prod_piece (o := 256) a w inb_S512x1024_S256x1024_256_0 inb_S512x1024_S256x1024_256_0 r j]
      exact congrArg (prodB a w) (by
        funext b
        apply Fin.ext
        match b with
        | ⟨0, _⟩ => rfl
        | ⟨1, _⟩ => show j.val = 0 + 1 * j.val; omega)
    · obtain ⟨r, j, rfl⟩ : ∃ (r : Fin 256) (j : Fin 1024), z = ix2 r j := ⟨z 0, z 1, by funext a; match a with | ⟨0, _⟩ => rfl | ⟨1, _⟩ => rfl⟩
      refine (pay2_apply _ _ r j).trans ?_
      rw [prod_piece (o := 0) a w inb_S512x1024_S256x1024_0_0 inb_S512x1024_S256x1024_0_0 r j]
      exact congrArg (prodB a w) (by
        funext b
        apply Fin.ext
        match b with
        | ⟨0, _⟩ => rfl
        | ⟨1, _⟩ => show j.val = 0 + 1 * j.val; omega)
  · rcases covered y with h | h
    · exact ⟨_, .head _, h⟩
    · exact ⟨_, .tail _ (.head _), h⟩

end

end Cert.Kernel14Ideal.Product

end
-- ==== Proof.Product.Out.lean ====
/-
  The output product with the norm and the residual: the two arrays that the kernel leaves, the
  reference's two results, and that they agree on all extended reals.
-/
module

public import proofs.«01_k».proof.Defs
public import proofs.«01_k».proof.Proof.Product.OutBlock
public import proofs.«01_k».proof.Proof.Gen.Reference14Ideal.Run
public import proofs.«01_k».proof.Proof.Gen.Reference14Ideal.Read

@[expose] public section

set_option maxRecDepth 16384

noncomputable section

namespace Cert.Kernel14Ideal.Product

open Cert.Kernel14Ideal Cert.Kernel14Ideal.Gen Cert.Kernel14Ideal.Value Idealize.ShloMosaic Idealize.ShloMosaic.TcCoe Idealize.SL.Sem Idealize.ShloMosaic.Pointwise Cert.Norm
open Idealize.ShloMosaic.Pipeline (Dat)

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0))

/-- The array's row at a row of a grid point's block. -/
def row (t : Fin cfg0.N) (r : Fin 512) : Fin 4096 := ⟨t.val * 512 + r, by have : t.val < 8 := t.isLt; omega⟩

theorem iblk0 (t : Fin cfg0.N) (r : Fin 512) (k : Fin 1024) : iblk m c 0 t (ix2 r k) = m ((c : Thread nD τ).loc main_arg0) (ix2 (row t r) k) := by
  have e := (ind t).1
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e.1]; omega
  | ⟨1, _⟩ => show win0_0.index t 1 * 1024 + 1 * k.val = k.val; rw [e.2]; omega

theorem iblk1 (t : Fin cfg0.N) (r : Fin 1024) (k : Fin 1024) : iblk m c 1 t (ix2 r k) = m ((c : Thread nD τ).loc main_arg1) (ix2 r k) := by
  have e := (ind t).2.1
  unfold iblk
  rw [View.read_apply]
  show V m c main_arg1 _ = _
  rw [V_main_arg1]
  congr 1
  funext a
  apply Fin.ext
  match a with
  | ⟨0, _⟩ => show win0_1.index t 0 * 1024 + 1 * r.val = r.val; rw [e.1]; omega
  | ⟨1, _⟩ => show win0_1.index t 1 * 1024 + 1 * k.val = k.val; rw [e.2]; omega

theorem iblk2 (t : Fin cfg0.N) (r : Fin 512) (k : Fin 1024) : iblk m c 2 t (ix2 r k) = m ((c : Thread nD τ).loc main_arg2) (ix2 (row t r) k) := by
  have e := (ind t).2.2.1
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [e.1]; omega
  | ⟨1, _⟩ => show win0_2.index t 1 * 1024 + 1 * k.val = k.val; rw [e.2]; omega

/-- The norm's weight, laid out as one row by the host. -/
theorem iblk3 (t : Fin cfg0.N) (j : Fin 1024) : iblk m c 3 t (ix2 0 j) = m ((c : Thread nD τ).loc main_arg3) (ix1 j) := by
  have e := (ind t).2.2.2.1
  unfold iblk
  rw [View.read_apply]
  have hi : ((cfg0.win 3).blk t).view.emb (ix2 0 j) = ix2 (0 : Fin 1) j := by
    funext a
    apply Fin.ext
    match a with
    | ⟨0, _⟩ => show win0_3.index t 0 * 1 + 1 * 0 = 0; rw [e.1]
    | ⟨1, _⟩ => show win0_3.index t 1 * 1024 + 1 * j.val = j.val; rw [e.2]; omega
  rw [hi]
  show V m c main_v0 _ = _
  have hv : V m c main_v0 = shapeCast S1x1024 (m ((c : Thread nD τ).loc main_arg3)) shapeCasts_S1024_S1x1024 := by
    unfold V hostOps0
    simp only [StableHlo.after_cons, StableHlo.after_nil]
    rfl
  refine (congrFun hv _).trans ?_
  pointwise

/-- The product at an index of the array; and the result. -/
def prod (a : S4096x1024.Idx → EReal) (w : S1024x1024.Idx → EReal) (p : Fin 4096) (j : Fin 1024) : EReal :=
  ∑ k : Fin 1024, a (ix2 p k) * w (ix2 k j)

def res (a : S4096x1024.Idx → EReal) (w : S1024x1024.Idx → EReal) (x : S4096x1024.Idx → EReal) (g : S1024.Idx → EReal)
    (p : Fin 4096) (j : Fin 1024) : EReal :=
  post (prod a w p) (x (ix2 p j)) (g (ix1 j)) j

theorem prod_iblk (t : Fin cfg0.N) (r : Fin 512) (j : Fin 1024) : prodB (iblk m c 0 t) (iblk m c 1 t) (ix2 r j)
    = prod (m ((c : Thread nD τ).loc main_arg0)) (m ((c : Thread nD τ).loc main_arg1)) (row t r) j :=
  Finset.sum_congr rfl fun k _ => congrArg₂ (· * ·) (iblk0 m c t r k) (iblk1 m c t k j)

theorem exists_row (p : Fin 4096) : ∃ (t : Fin cfg0.N) (r : Fin 512), p = row t r :=
  ⟨⟨p.val / 512, show _ < 8 by omega⟩, ⟨p.val % 512, by omega⟩, Fin.ext (show p.val = p.val / 512 * 512 + p.val % 512 by omega)⟩

/-- The array of the result. -/
theorem arr4 (p : Fin 4096) (j : Fin 1024) : (dats m 0 c).arrAt 4 cfg0.N (ix2 p j) = res (m ((c : Thread nD τ).loc main_arg0)) (m ((c : Thread nD τ).loc main_arg1)) (m ((c : Thread nD τ).loc main_arg2)) (m ((c : Thread nD τ).loc main_arg3)) p j := by
  obtain ⟨t, r, hp⟩ := exists_row p
  have hb := congrFun (blocks4 m c t (flush0_4 _)) (ix2 r j)
  rw [View.read_apply, flushed4] at hb
  have e := (ind t).2.2.2.2.1
  have hi : ((cfg0.win 4).blk t).view.emb (ix2 r j) = ix2 (row t r) j := by
    funext a
    apply Fin.ext
    match a with
    | ⟨0, _⟩ => show win0_4.index t 0 * 512 + 1 * r.val = t.val * 512 + r.val; rw [e.1]; omega
    | ⟨1, _⟩ => show win0_4.index t 1 * 1024 + 1 * j.val = j.val; rw [e.2]; omega
  rw [hi] at hb
  rw [hp]
  refine hb.trans ((out_y _ _ _ _ (ix2 r j)).trans ?_)
  show post (fun k => prodB _ _ (ix2 r k)) (iblk m c 2 t (ix2 r j)) (iblk m c 3 t (ix2 0 j)) j = _
  simp only [prod_iblk]
  rw [iblk2, iblk3]
  rfl

/-- The array of the product. -/
theorem arr5 (p : Fin 4096) (j : Fin 1024) : (dats m 0 c).arrAt 5 cfg0.N (ix2 p j) = prod (m ((c : Thread nD τ).loc main_arg0)) (m ((c : Thread nD τ).loc main_arg1)) p j := by
  obtain ⟨t, r, hp⟩ := exists_row p
  have hb := congrFun (blocks5 m c t (flush0_5 _)) (ix2 r j)
  rw [View.read_apply, flushed5] at hb
  have e := (ind t).2.2.2.2.2
  have hi : ((cfg0.win 5).blk t).view.emb (ix2 r j) = ix2 (row t r) j := by
    funext a
    apply Fin.ext
    match a with
    | ⟨0, _⟩ => show win0_5.index t 0 * 512 + 1 * r.val = t.val * 512 + r.val; rw [e.1]; omega
    | ⟨1, _⟩ => show win0_5.index t 1 * 1024 + 1 * j.val = j.val; rw [e.2]; omega
  rw [hi] at hb
  rw [hp]
  refine hb.trans ((out_h _ _ _ _ (ix2 r j)).trans ?_)
  rw [prod_iblk]

end Cert.Kernel14Ideal.Product

namespace Cert.OutClaim

open Idealize.ShloMosaic Idealize.SL.Sem Idealize.ShloMosaic.Pointwise Cert.Reference14Ideal Cert.Reference14Ideal.Read Cert.Norm
open Cert.Kernel14Ideal.Product (prod res post)

section
variable (x0 : (⟨S4096x1024, .bf16⟩ : BufTy).Contents (Elt Ideal)) (x1 : (⟨S1024x1024, .bf16⟩ : BufTy).Contents (Elt Ideal))
  (x2 : (⟨S4096x1024, .f32⟩ : BufTy).Contents (Elt Ideal)) (x3 : (⟨S1024, .f32⟩ : BufTy).Contents (Elt Ideal)) (p : Fin 4096) (j : Fin 1024)

theorem v2_apply : val_main_v2 x0 x1 (ix2 p j) = prod x0 x1 p j := by
  pointwise [val_main_v2, val_main_v1, val_main_v0]
  rfl

theorem v10_apply : val_main_v10 x0 x1 (ix2 p 0) = root width (prod x0 x1 p) := by
  unfold val_main_v10 val_main_v9 val_main_v8 val_main_v7 val_main_v6 val_main_v5 val_main_v4 val_main_v3 val_main_cst val_main_cst_0 val_main_cst_1
  pointwise
  simp only [v2_apply]
  rfl

theorem v16_apply : val_main_v16 x0 x1 x2 x3 (ix2 p j) = res x0 x1 x2 x3 p j := by
  unfold val_main_v16 val_main_v15 val_main_v14 val_main_v13 val_main_v12 val_main_v11
  pointwise
  simp only [v2_apply, v10_apply]
  rfl
end

/-- Kernel and reference compute the same two arrays. -/
theorem algebraic :
    Cert.algebraic_Kernel14Ideal_Reference14Ideal (hKernel14Ideal := Cert.Kernel14Ideal.Gen.facts)
      (hReference14Ideal := Cert.Reference14Ideal.Gen.facts) := by
  intro m g m' g' _ harg
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N,
    Cert.Kernel14Ideal.Value.run_blocks m g, (θ_run _ _ _).mono (fun r h c => ?_) (Cert.Reference14Ideal.Value.run m' g')⟩
  obtain ⟨h0, h1, hr⟩ := h c
  obtain ⟨e0, e1, e2, e3⟩ := harg c
  refine ⟨h0.trans ?_, h1.trans ?_, hr⟩
  · rw [Cert.Reference14Ideal.Read.val_main_v16_eq, e0, e1, e2, e3]
    funext i
    obtain ⟨p, j, rfl⟩ : ∃ (p : Fin 4096) (j : Fin 1024), i = ix2 p j := ⟨i 0, i 1, by funext a; match a with | ⟨0, _⟩ => rfl | ⟨1, _⟩ => rfl⟩
    exact (v16_apply _ _ _ _ p j).trans (Cert.Kernel14Ideal.Product.arr4 m c p j).symm
  · rw [Cert.Reference14Ideal.Read.val_main_v2_eq, e0, e1]
    funext i
    obtain ⟨p, j, rfl⟩ : ∃ (p : Fin 4096) (j : Fin 1024), i = ix2 p j := ⟨i 0, i 1, by funext a; match a with | ⟨0, _⟩ => rfl | ⟨1, _⟩ => rfl⟩
    exact (v2_apply _ _ p j).trans (Cert.Kernel14Ideal.Product.arr5 m c p j).symm

end Cert.OutClaim

end
-- ==== Proof.Product.InConv.lean ====
/-
  The input projection of the normalised rows on its piece of 1536 columns, eight blocks of 512 rows.
-/
module

public import proofs.«01_k».proof.Defs
public import proofs.«01_k».proof.Proof.Product.Shared
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel15Ideal.Product

open Cert.Kernel15Ideal Cert.Kernel15Ideal.Gen Cert.Kernel15Ideal.Value Idealize.ShloMosaic Idealize.ShloMosaic.TcCoe Idealize.SL.Sem Idealize.ShloMosaic.Pointwise Cert.Product
open Idealize.ShloMosaic.Pipeline (Dat)

/-- A block of the product. -/
theorem out_apply (x : Vec Ideal S512x1024 .bf16) (w : Vec Ideal S1536x1024 .bf16) (r : Fin 512) (s : Fin 1536) :
    out0_2 x w (ix2 r s) = nt x w r s := by
  have h : out0_2 x w = k0_pay1 x w := by frame_out
  rw [h]
  pointwise [k0_pay1]
  rfl

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0) ∧ (win0_2.index t 0 = t.val ∧ win0_2.index t 1 = 0))

theorem iblk0 (t : Fin cfg0.N) (r : Fin 512) (k : Fin 1024) :
    iblk m c 0 t (ix2 r k) = m ((c : Thread nD τ).loc main_arg0) (ix2 (⟨t.val * 512 + r, by have : t.val < 8 := t.isLt; omega⟩ : Fin 4096) k) := by
  have e := (ind t).1
  unfold iblk
  rw [View.read_apply]
  refine congrArg (m ((c : Thread nD τ).loc main_arg0)) (ix2_eq _ _ _ ?_ ?_)
  · show win0_0.index t 0 * 512 + 1 * r.val = t.val * 512 + r.val
    rw [e.1]; omega
  · show win0_0.index t 1 * 1024 + 1 * k.val = k.val
    rw [e.2]; omega

theorem iblk1 (t : Fin cfg0.N) (r : Fin 1536) (k : Fin 1024) : iblk m c 1 t (ix2 r k) = m ((c : Thread nD τ).loc main_arg1) (ix2 r k) := by
  have e := (ind t).2.1
  unfold iblk
  rw [View.read_apply]
  refine congrArg (m ((c : Thread nD τ).loc main_arg1)) (ix2_eq _ _ _ ?_ ?_)
  · show win0_1.index t 0 * 1536 + 1 * r.val = r.val
    rw [e.1]; omega
  · show win0_1.index t 1 * 1024 + 1 * k.val = k.val
    rw [e.2]; omega

/-- The array that the kernel leaves. -/
theorem arr2 (p : Fin 4096) (s : Fin 1536) : (dats m 0 c).arrAt 2 cfg0.N (ix2 p s)
    = nt (m ((c : Thread nD τ).loc main_arg0)) (m ((c : Thread nD τ).loc main_arg1)) p s := by
  obtain ⟨t, ht⟩ : ∃ t : Fin cfg0.N, t.val = p.val / 512 := ⟨⟨p.val / 512, show _ < 8 by omega⟩, rfl⟩
  have hb := congrFun (blocks2 m c t (flush0_2 _)) (ix2 ⟨p.val % 512, by omega⟩ s)
  rw [View.read_apply, flushed2] at hb
  have e := (ind t).2.2
  have hi : ((cfg0.win 2).blk t).view.emb (ix2 ⟨p.val % 512, by omega⟩ s) = ix2 p s := by
    refine ix2_eq _ _ _ ?_ ?_
    · show win0_2.index t 0 * 512 + 1 * (p.val % 512) = p.val
      rw [e.1, ht]; omega
    · show win0_2.index t 1 * 1536 + 1 * s.val = s.val
      rw [e.2]; omega
  rw [hi] at hb
  refine hb.trans ((out_apply _ _ _ s).trans (Finset.sum_congr rfl fun k _ => ?_))
  rw [iblk0, iblk1]
  have hp : (⟨t.val * 512 + p.val % 512, by omega⟩ : Fin 4096) = p := Fin.ext (show t.val * 512 + p.val % 512 = p.val by omega)
  exact congrArg (fun y : EReal => y * _) (congrArg (fun q => m ((c : Thread nD τ).loc main_arg0) (ix2 q k)) hp)

end Cert.Kernel15Ideal.Product

namespace Cert.InConvClaim

open Idealize.ShloMosaic Idealize.SL.Sem Idealize.ShloMosaic.Pointwise Cert.Reference15Ideal.Read Cert.Product

/-- The reference's result at an index. -/
theorem ref_apply (x0 : (⟨Cert.Reference15Ideal.S4096x1024, .bf16⟩ : BufTy).Contents (Elt Ideal)) (x1 : (⟨Cert.Reference15Ideal.S1536x1024, .bf16⟩ : BufTy).Contents (Elt Ideal))
    (r : Fin 4096) (s : Fin 1536) : val_main_v3 x0 x1 (ix2 r s) = nt x0 x1 r s := by
  unfold val_main_v3 val_main_v2 val_main_v1 val_main_v0
  pointwise
  rfl

/-- Kernel and reference compute the same product. -/
theorem algebraic :
    Cert.algebraic_Kernel15Ideal_Reference15Ideal (hKernel15Ideal := Cert.Kernel15Ideal.Gen.facts) (hReference15Ideal := Cert.Reference15Ideal.Gen.facts) := by
  intro m g m' g' _ harg
  refine ⟨fun c => (Cert.Kernel15Ideal.Gen.dats m 0 c).arrAt 2 Cert.Kernel15Ideal.cfg0.N, Cert.Kernel15Ideal.Value.run_blocks m g,
    (θ_run _ _ _).mono (fun r h c => ?_) (Cert.Reference15Ideal.Value.run m' g')⟩
  obtain ⟨h0, hr⟩ := h c
  obtain ⟨e0, e1⟩ := harg c
  refine ⟨h0.trans ?_, hr⟩
  rw [val_main_v3_eq, e0, e1]
  funext j
  obtain ⟨p, s, rfl⟩ := exists_ix2 j
  exact (ref_apply _ _ p s).trans (Cert.Kernel15Ideal.Product.arr2 m c p s).symm

end Cert.InConvClaim

end
-- ==== Proof.Product.ConvWeight.lean ====
/-
  The gradient of the input projection's piece of 1536 columns, transposed: two blocks of 768 columns, each a product contracted
  over the 4096 rows in two halves.
-/
module

public import proofs.«01_k».proof.Defs
public import proofs.«01_k».proof.Proof.Product.Shared
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel16Ideal.Product

open Cert.Kernel16Ideal Cert.Kernel16Ideal.Gen Cert.Kernel16Ideal.Value Idealize.ShloMosaic Idealize.ShloMosaic.TcCoe Idealize.SL.Sem Idealize.ShloMosaic.Pointwise Cert.Product
open Idealize.ShloMosaic.Pipeline (Dat)

section
variable (c : Dev nD) (i : grid0.Coords)
  (a3 : Memref sig .tc .vmem S2048x768 .f32) (h3 : a3.IsWhole) (a4 : Memref sig .tc .vmem S2048x1024 .bf16) (h4 : a4.IsWhole)
  (a5 : Memref sig .tc .vmem S768x1024 .bf16) (h5 : a5.IsWhole) (a6 : Memref sig .tc .vmem S768x1024 .f32) (h6 : a6.IsWhole)
  (x : Vec Ideal S2048x768 .f32) (y : Vec Ideal S2048x1024 .bf16) (z : Vec Ideal S768x1024 .f32) (r : Fin 768) (s : Fin 1024)

/-- After the first half of the rows the scratch holds that half's product. -/
theorem sout_first (q0 q1 q2) : sout0_A_0 (F := Ideal) c i a3 h3 a4 h4 a5 h5 a6 h6 q0 q1 q2 x y = k0_pay1 x y := by
  frame_out

/-- After the second half the output's block holds what the scratch held before it and that half's product. -/
theorem out_second (q0 q1 q2) : out0_B_2 (F := Ideal) c i a3 h3 a4 h4 a5 h5 a6 h6 q0 q1 q2 x y z = k0_pay3 (k0_pay2 x y z) := by
  frame_out

theorem pay1_apply : k0_pay1 x y (ix2 r s) = ∑ k : Fin 2048, x (ix2 k r) * y (ix2 k s) := by
  pointwise [k0_pay1]

theorem pay3_apply : k0_pay3 (k0_pay2 x y z) (ix2 r s) = z (ix2 r s) + ∑ k : Fin 2048, x (ix2 k r) * y (ix2 k s) := by
  pointwise [k0_pay3, k0_pay2]

end

variable (m : (ℓ : Loc nD τ sig) → Buf (Elt Ideal) ℓ) (c : Dev nD)

theorem ind : ∀ t : Fin cfg0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0))

/-- A grid point's rows of the first factor, at that point's columns. -/
theorem iblk0 (t : Fin cfg0.N) (k : Fin 2048) (r : Fin 768) :
    iblk m c 0 t (ix2 k r) = m ((c : Thread nD τ).loc main_arg0) (ix2 (⟨t.val % 2 * 2048 + k, by omega⟩ : Fin 4096)
      (⟨t.val / 2 * 768 + r, by have : t.val < 4 := t.isLt; omega⟩ : Fin 1536)) := by
  have e := (ind t).1
  unfold iblk
  rw [View.read_apply]
  refine congrArg (m ((c : Thread nD τ).loc main_arg0)) (ix2_eq _ _ _ ?_ ?_)
  · show win0_0.index t 0 * 2048 + 1 * k.val = t.val % 2 * 2048 + k.val
    rw [e.1]; omega
  · show win0_0.index t 1 * 768 + 1 * r.val = t.val / 2 * 768 + r.val
    rw [e.2]; omega

theorem iblk1 (t : Fin cfg0.N) (k : Fin 2048) (s : Fin 1024) :
    iblk m c 1 t (ix2 k s) = m ((c : Thread nD τ).loc main_arg1) (ix2 (⟨t.val % 2 * 2048 + k, by omega⟩ : Fin 4096) s) := by
  have e := (ind t).2.1
  unfold iblk
  rw [View.read_apply]
  refine congrArg (m ((c : Thread nD τ).loc main_arg1)) (ix2_eq _ _ _ ?_ ?_)
  · show win0_1.index t 0 * 2048 + 1 * k.val = t.val % 2 * 2048 + k.val
    rw [e.1]; omega
  · show win0_1.index t 1 * 1024 + 1 * s.val = s.val
    rw [e.2]; omega

/-- At an even point the scratch is left with the first half's product. -/
theorem scratch_even (n : ℕ) (hn : n < cfg0.N) (h : n % 2 = 0) :
    (outsAt0 m c n hn).2 = k0_pay1 (iblk m c 0 ⟨n, hn⟩) (iblk m c 1 ⟨n, hn⟩) := by
  rw [outsAt0_A m c ⟨n, hn⟩ h (by show ¬n % 2 = 1; omega) (by show ¬n % 2 = 1; omega)]
  dsimp only
  rw [sout_first]

/-- The gradient at the kernel's arguments. -/
def dw (p : Fin 1536) (s : Fin 1024) : EReal := tn (m ((c : Thread nD τ).loc main_arg0)) (m ((c : Thread nD τ).loc main_arg1)) p s

/-- What an odd point writes back, at an index of its block. -/
theorem flushed_odd (t : Fin cfg0.N) (h : t.val % 2 = 1) (r : Fin 768) (s : Fin 1024) :
    (dats m 0 c).flushed 2 t (ix2 r s) = dw m c (⟨t.val / 2 * 768 + r, by have : t.val < 4 := t.isLt; omega⟩ : Fin 1536) s := by
  have ht : t.val < 4 := t.isLt
  have hN : t.val - 1 < cfg0.N := show t.val - 1 < 4 by omega
  rw [flushed2_B m c t (by omega) h h, out_second, scratch_even m c (t.val - 1) hN (by omega)]
  refine (pay3_apply _ _ _ r s).trans ?_
  rw [pay1_apply]
  unfold dw
  rw [tn_halves]
  have e0 : (t.val - 1) % 2 = 0 := by omega
  have e1 : (t.val - 1) / 2 = t.val / 2 := by omega
  refine congrArg₂ (· + ·) (Finset.sum_congr rfl fun k _ => ?_) (Finset.sum_congr rfl fun k _ => ?_)
  · rw [iblk0, iblk1]
    simp only [e0, e1]
  · rw [iblk0, iblk1]
    simp only [h]

/-- The array that the kernel leaves. -/
theorem arr2 (p : Fin 1536) (s : Fin 1024) : (dats m 0 c).arrAt 2 cfg0.N (ix2 p s) = dw m c p s := by
  obtain ⟨t, h, ht⟩ : ∃ t : Fin cfg0.N, t.val % 2 = 1 ∧ t.val / 2 = p.val / 768 :=
    ⟨⟨2 * (p.val / 768) + 1, show _ < 4 by omega⟩, show (2 * (p.val / 768) + 1) % 2 = 1 by omega, show (2 * (p.val / 768) + 1) / 2 = _ by omega⟩
  have hb := congrFun (flushed2_eq m c t ((flush0_2 t).mpr h)) (ix2 ⟨p.val % 768, by omega⟩ s)
  rw [View.read_apply, ← final2, flushed_odd m c t h] at hb
  have e := (ind t).2.2
  have hi : ((cfg0.win 2).blk t).view.emb (ix2 ⟨p.val % 768, by omega⟩ s) = ix2 p s := by
    refine ix2_eq _ _ _ ?_ ?_
    · show win0_2.index t 0 * 768 + 1 * (p.val % 768) = p.val
      rw [e.1, ht]; omega
    · show win0_2.index t 1 * 1024 + 1 * s.val = s.val
      rw [e.2]; omega
  rw [hi] at hb
  refine hb.symm.trans (congrArg (fun q => dw m c q s) (Fin.ext ?_))
  show t.val / 2 * 768 + p.val % 768 = p.val
  rw [ht]; omega

end Cert.Kernel16Ideal.Product

namespace Cert.ConvWeightClaim

open Idealize.ShloMosaic Idealize.SL.Sem Idealize.ShloMosaic.Pointwise Cert.Reference16Ideal.Read Cert.Product

/-- The reference's result at an index. -/
theorem ref_apply (x0 : (⟨Cert.Reference16Ideal.S4096x1536, .f32⟩ : BufTy).Contents (Elt Ideal)) (x1 : (⟨Cert.Reference16Ideal.S4096x1024, .bf16⟩ : BufTy).Contents (Elt Ideal))
    (r : Fin 1536) (s : Fin 1024) : val_main_v7 x0 x1 (ix2 r s) = tn x0 x1 r s := by
  unfold val_main_v7 val_main_v6 val_main_v5 val_main_v4 val_main_v1
  pointwise
  rfl

/-- Kernel and reference compute the same gradient. -/
theorem algebraic :
    Cert.algebraic_Kernel16Ideal_Reference16Ideal (hKernel16Ideal := Cert.Kernel16Ideal.Gen.facts) (hReference16Ideal := Cert.Reference16Ideal.Gen.facts) := by
  intro m g m' g' _ harg
  refine ⟨fun c => (Cert.Kernel16Ideal.Gen.dats m 0 c).arrAt 2 Cert.Kernel16Ideal.cfg0.N, Cert.Kernel16Ideal.Value.run_blocks m g,
    (θ_run _ _ _).mono (fun r h c => ?_) (Cert.Reference16Ideal.Value.run m' g')⟩
  obtain ⟨h0, hr⟩ := h c
  obtain ⟨e0, e1⟩ := harg c
  refine ⟨h0.trans ?_, hr⟩
  rw [val_main_v7_eq, e0, e1]
  funext j
  obtain ⟨p, s, rfl⟩ := exists_ix2 j
  exact (ref_apply _ _ p s).trans (Cert.Kernel16Ideal.Product.arr2 m c p s).symm

end Cert.ConvWeightClaim

end
-- ==== Proof.Product.Ssd.lean ====
/-
  The projection of the state-space branch, eight blocks of 512 rows.
-/
module

public import proofs.«01_k».proof.Defs
public import proofs.«01_k».proof.Proof.Product.Shared
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel17Ideal.Product

open Cert.Kernel17Ideal Cert.Kernel17Ideal.Gen Cert.Kernel17Ideal.Value Idealize.ShloMosaic Idealize.ShloMosaic.TcCoe Idealize.SL.Sem Idealize.ShloMosaic.Pointwise Cert.Product
open Idealize.ShloMosaic.Pipeline (Dat)

/-- A block of the product. -/
theorem out_apply (x : Vec Ideal S512x1024 .bf16) (w : Vec Ideal S1024x1024 .bf16) (r : Fin 512) (s : Fin 1024) :
    out0_2 x w (ix2 r s) = nn x w r s := by
  have h : out0_2 x w = k0_pay1 x w := by frame_out
  rw [h]
  pointwise [k0_pay1]
  rfl

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0) ∧ (win0_2.index t 0 = t.val ∧ win0_2.index t 1 = 0))

theorem iblk0 (t : Fin cfg0.N) (r : Fin 512) (k : Fin 1024) :
    iblk m c 0 t (ix2 r k) = m ((c : Thread nD τ).loc main_arg0) (ix2 (⟨t.val * 512 + r, by have : t.val < 8 := t.isLt; omega⟩ : Fin 4096) k) := by
  have e := (ind t).1
  unfold iblk
  rw [View.read_apply]
  refine congrArg (m ((c : Thread nD τ).loc main_arg0)) (ix2_eq _ _ _ ?_ ?_)
  · show win0_0.index t 0 * 512 + 1 * r.val = t.val * 512 + r.val
    rw [e.1]; omega
  · show win0_0.index t 1 * 1024 + 1 * k.val = k.val
    rw [e.2]; omega

theorem iblk1 (t : Fin cfg0.N) (r : Fin 1024) (k : Fin 1024) : iblk m c 1 t (ix2 r k) = m ((c : Thread nD τ).loc main_arg1) (ix2 r k) := by
  have e := (ind t).2.1
  unfold iblk
  rw [View.read_apply]
  refine congrArg (m ((c : Thread nD τ).loc main_arg1)) (ix2_eq _ _ _ ?_ ?_)
  · show win0_1.index t 0 * 1024 + 1 * r.val = r.val
    rw [e.1]; omega
  · show win0_1.index t 1 * 1024 + 1 * k.val = k.val
    rw [e.2]; omega

/-- The array that the kernel leaves. -/
theorem arr2 (p : Fin 4096) (s : Fin 1024) : (dats m 0 c).arrAt 2 cfg0.N (ix2 p s)
    = nn (m ((c : Thread nD τ).loc main_arg0)) (m ((c : Thread nD τ).loc main_arg1)) p s := by
  obtain ⟨t, ht⟩ : ∃ t : Fin cfg0.N, t.val = p.val / 512 := ⟨⟨p.val / 512, show _ < 8 by omega⟩, rfl⟩
  have hb := congrFun (blocks2 m c t (flush0_2 _)) (ix2 ⟨p.val % 512, by omega⟩ s)
  rw [View.read_apply, flushed2] at hb
  have e := (ind t).2.2
  have hi : ((cfg0.win 2).blk t).view.emb (ix2 ⟨p.val % 512, by omega⟩ s) = ix2 p s := by
    refine ix2_eq _ _ _ ?_ ?_
    · show win0_2.index t 0 * 512 + 1 * (p.val % 512) = p.val
      rw [e.1, ht]; omega
    · show win0_2.index t 1 * 1024 + 1 * s.val = s.val
      rw [e.2]; omega
  rw [hi] at hb
  refine hb.trans ((out_apply _ _ _ s).trans (Finset.sum_congr rfl fun k _ => ?_))
  rw [iblk0, iblk1]
  have hp : (⟨t.val * 512 + p.val % 512, by omega⟩ : Fin 4096) = p := Fin.ext (show t.val * 512 + p.val % 512 = p.val by omega)
  exact congrArg (fun y : EReal => y * _) (congrArg (fun q => m ((c : Thread nD τ).loc main_arg0) (ix2 q k)) hp)

end Cert.Kernel17Ideal.Product

namespace Cert.SsdProductClaim

open Idealize.ShloMosaic Idealize.SL.Sem Idealize.ShloMosaic.Pointwise Cert.Reference17Ideal.Read Cert.Product

/-- The reference's result at an index. -/
theorem ref_apply (x0 : (⟨Cert.Reference17Ideal.S4096x1024, .bf16⟩ : BufTy).Contents (Elt Ideal)) (x1 : (⟨Cert.Reference17Ideal.S1024x1024, .bf16⟩ : BufTy).Contents (Elt Ideal))
    (r : Fin 4096) (s : Fin 1024) : val_main_v2 x0 x1 (ix2 r s) = nn x0 x1 r s := by
  unfold val_main_v2 val_main_v1 val_main_v0
  pointwise
  rfl

/-- Kernel and reference compute the same product. -/
theorem algebraic :
    Cert.algebraic_Kernel17Ideal_Reference17Ideal (hKernel17Ideal := Cert.Kernel17Ideal.Gen.facts) (hReference17Ideal := Cert.Reference17Ideal.Gen.facts) := by
  intro m g m' g' _ harg
  refine ⟨fun c => (Cert.Kernel17Ideal.Gen.dats m 0 c).arrAt 2 Cert.Kernel17Ideal.cfg0.N, Cert.Kernel17Ideal.Value.run_blocks m g,
    (θ_run _ _ _).mono (fun r h c => ?_) (Cert.Reference17Ideal.Value.run m' g')⟩
  obtain ⟨h0, hr⟩ := h c
  obtain ⟨e0, e1⟩ := harg c
  refine ⟨h0.trans ?_, hr⟩
  rw [val_main_v2_eq, e0, e1]
  funext j
  obtain ⟨p, s, rfl⟩ := exists_ix2 j
  exact (ref_apply _ _ p s).trans (Cert.Kernel17Ideal.Product.arr2 m c p s).symm

end Cert.SsdProductClaim

end
-- ==== Proof.Product.OutInput.lean ====
/-
  The gradient of what the output projection of the cross attention takes, eight blocks of 512 rows.
-/
module

public import proofs.«01_k».proof.Defs
public import proofs.«01_k».proof.Proof.Product.Shared
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel18Ideal.Product

open Cert.Kernel18Ideal Cert.Kernel18Ideal.Gen Cert.Kernel18Ideal.Value Idealize.ShloMosaic Idealize.ShloMosaic.TcCoe Idealize.SL.Sem Idealize.ShloMosaic.Pointwise Cert.Product
open Idealize.ShloMosaic.Pipeline (Dat)

/-- A block of the product. -/
theorem out_apply (x : Vec Ideal S512x1024 .bf16) (w : Vec Ideal S1024x1024 .bf16) (r : Fin 512) (s : Fin 1024) :
    out0_2 x w (ix2 r s) = nt x w r s := by
  have h : out0_2 x w = k0_pay1 x w := by frame_out
  rw [h]
  pointwise [k0_pay1]
  rfl

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0) ∧ (win0_2.index t 0 = t.val ∧ win0_2.index t 1 = 0))

theorem iblk0 (t : Fin cfg0.N) (r : Fin 512) (k : Fin 1024) :
    iblk m c 0 t (ix2 r k) = m ((c : Thread nD τ).loc main_arg0) (ix2 (⟨t.val * 512 + r, by have : t.val < 8 := t.isLt; omega⟩ : Fin 4096) k) := by
  have e := (ind t).1
  unfold iblk
  rw [View.read_apply]
  refine congrArg (m ((c : Thread nD τ).loc main_arg0)) (ix2_eq _ _ _ ?_ ?_)
  · show win0_0.index t 0 * 512 + 1 * r.val = t.val * 512 + r.val
    rw [e.1]; omega
  · show win0_0.index t 1 * 1024 + 1 * k.val = k.val
    rw [e.2]; omega

theorem iblk1 (t : Fin cfg0.N) (r : Fin 1024) (k : Fin 1024) : iblk m c 1 t (ix2 r k) = m ((c : Thread nD τ).loc main_arg1) (ix2 r k) := by
  have e := (ind t).2.1
  unfold iblk
  rw [View.read_apply]
  refine congrArg (m ((c : Thread nD τ).loc main_arg1)) (ix2_eq _ _ _ ?_ ?_)
  · show win0_1.index t 0 * 1024 + 1 * r.val = r.val
    rw [e.1]; omega
  · show win0_1.index t 1 * 1024 + 1 * k.val = k.val
    rw [e.2]; omega

/-- The array that the kernel leaves. -/
theorem arr2 (p : Fin 4096) (s : Fin 1024) : (dats m 0 c).arrAt 2 cfg0.N (ix2 p s)
    = nt (m ((c : Thread nD τ).loc main_arg0)) (m ((c : Thread nD τ).loc main_arg1)) p s := by
  obtain ⟨t, ht⟩ : ∃ t : Fin cfg0.N, t.val = p.val / 512 := ⟨⟨p.val / 512, show _ < 8 by omega⟩, rfl⟩
  have hb := congrFun (blocks2 m c t (flush0_2 _)) (ix2 ⟨p.val % 512, by omega⟩ s)
  rw [View.read_apply, flushed2] at hb
  have e := (ind t).2.2
  have hi : ((cfg0.win 2).blk t).view.emb (ix2 ⟨p.val % 512, by omega⟩ s) = ix2 p s := by
    refine ix2_eq _ _ _ ?_ ?_
    · show win0_2.index t 0 * 512 + 1 * (p.val % 512) = p.val
      rw [e.1, ht]; omega
    · show win0_2.index t 1 * 1024 + 1 * s.val = s.val
      rw [e.2]; omega
  rw [hi] at hb
  refine hb.trans ((out_apply _ _ _ s).trans (Finset.sum_congr rfl fun k _ => ?_))
  rw [iblk0, iblk1]
  have hp : (⟨t.val * 512 + p.val % 512, by omega⟩ : Fin 4096) = p := Fin.ext (show t.val * 512 + p.val % 512 = p.val by omega)
  exact congrArg (fun y : EReal => y * _) (congrArg (fun q => m ((c : Thread nD τ).loc main_arg0) (ix2 q k)) hp)

end Cert.Kernel18Ideal.Product

namespace Cert.OutInputClaim

open Idealize.ShloMosaic Idealize.SL.Sem Idealize.ShloMosaic.Pointwise Cert.Reference18Ideal.Read Cert.Product

/-- The reference's result at an index. -/
theorem ref_apply (x0 : (⟨Cert.Reference18Ideal.S4096x1024, .bf16⟩ : BufTy).Contents (Elt Ideal)) (x1 : (⟨Cert.Reference18Ideal.S1024x1024, .bf16⟩ : BufTy).Contents (Elt Ideal))
    (r : Fin 4096) (s : Fin 1024) : val_main_v5 x0 x1 (ix2 r s) = nt x0 x1 r s := by
  unfold val_main_v5 val_main_v4 val_main_v3 val_main_v1
  pointwise
  rfl

/-- Kernel and reference compute the same product. -/
theorem algebraic :
    Cert.algebraic_Kernel18Ideal_Reference18Ideal (hKernel18Ideal := Cert.Kernel18Ideal.Gen.facts) (hReference18Ideal := Cert.Reference18Ideal.Gen.facts) := by
  intro m g m' g' _ harg
  refine ⟨fun c => (Cert.Kernel18Ideal.Gen.dats m 0 c).arrAt 2 Cert.Kernel18Ideal.cfg0.N, Cert.Kernel18Ideal.Value.run_blocks m g,
    (θ_run _ _ _).mono (fun r h c => ?_) (Cert.Reference18Ideal.Value.run m' g')⟩
  obtain ⟨h0, hr⟩ := h c
  obtain ⟨e0, e1⟩ := harg c
  refine ⟨h0.trans ?_, hr⟩
  rw [val_main_v5_eq, e0, e1]
  funext j
  obtain ⟨p, s, rfl⟩ := exists_ix2 j
  exact (ref_apply _ _ p s).trans (Cert.Kernel18Ideal.Product.arr2 m c p s).symm

end Cert.OutInputClaim

end
-- ==== Proof.Product.SsdWeight.lean ====
/-
  The gradient of the weight of the state-space branch's projection: a product contracted over the 4096 rows in two halves.
-/
module

public import proofs.«01_k».proof.Defs
public import proofs.«01_k».proof.Proof.Product.Shared
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel19Ideal.Product

open Cert.Kernel19Ideal Cert.Kernel19Ideal.Gen Cert.Kernel19Ideal.Value Idealize.ShloMosaic Idealize.ShloMosaic.TcCoe Idealize.SL.Sem Idealize.ShloMosaic.Pointwise Cert.Product
open Idealize.ShloMosaic.Pipeline (Dat)

section
variable (c : Dev nD) (i : grid0.Coords)
  (a3 : Memref sig .tc .vmem S2048x1024 .bf16) (h3 : a3.IsWhole) (a4 : Memref sig .tc .vmem S2048x1024 .f32) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (y : Vec Ideal S2048x1024 .f32) (z : Vec Ideal S1024x1024 .f32) (r : Fin 1024) (s : Fin 1024)

/-- After the first half of the rows the scratch holds that half's product. -/
theorem sout_first (q0 q1 q2) : sout0_A_0 (F := Ideal) c i a3 h3 a4 h4 a5 h5 a6 h6 q0 q1 q2 x y = k0_pay1 x y := by
  frame_out

/-- After the second half the output's block holds what the scratch held before it and that half's product. -/
theorem out_second (q0 q1 q2) : out0_B_2 (F := Ideal) c i a3 h3 a4 h4 a5 h5 a6 h6 q0 q1 q2 x y z = k0_pay3 (k0_pay2 x y z) := by
  frame_out

theorem pay1_apply : k0_pay1 x y (ix2 r s) = ∑ k : Fin 2048, x (ix2 k r) * y (ix2 k s) := by
  pointwise [k0_pay1]

theorem pay3_apply : k0_pay3 (k0_pay2 x y z) (ix2 r s) = z (ix2 r s) + ∑ k : Fin 2048, x (ix2 k r) * y (ix2 k s) := by
  pointwise [k0_pay3, k0_pay2]

end

variable (m : (ℓ : Loc nD τ sig) → Buf (Elt Ideal) ℓ) (c : Dev nD)

theorem ind : ∀ t : Fin cfg0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0))

/-- A grid point's rows of the first factor, at that point's columns. -/
theorem iblk0 (t : Fin cfg0.N) (k : Fin 2048) (r : Fin 1024) :
    iblk m c 0 t (ix2 k r) = m ((c : Thread nD τ).loc main_arg0) (ix2 (⟨t.val % 2 * 2048 + k, by omega⟩ : Fin 4096)
      (⟨t.val / 2 * 1024 + r, by have : t.val < 2 := t.isLt; omega⟩ : Fin 1024)) := by
  have e := (ind t).1
  unfold iblk
  rw [View.read_apply]
  refine congrArg (m ((c : Thread nD τ).loc main_arg0)) (ix2_eq _ _ _ ?_ ?_)
  · show win0_0.index t 0 * 2048 + 1 * k.val = t.val % 2 * 2048 + k.val
    rw [e.1]; omega
  · show win0_0.index t 1 * 1024 + 1 * r.val = t.val / 2 * 1024 + r.val
    rw [e.2]; omega

theorem iblk1 (t : Fin cfg0.N) (k : Fin 2048) (s : Fin 1024) :
    iblk m c 1 t (ix2 k s) = m ((c : Thread nD τ).loc main_arg1) (ix2 (⟨t.val % 2 * 2048 + k, by omega⟩ : Fin 4096) s) := by
  have e := (ind t).2.1
  unfold iblk
  rw [View.read_apply]
  refine congrArg (m ((c : Thread nD τ).loc main_arg1)) (ix2_eq _ _ _ ?_ ?_)
  · show win0_1.index t 0 * 2048 + 1 * k.val = t.val % 2 * 2048 + k.val
    rw [e.1]; omega
  · show win0_1.index t 1 * 1024 + 1 * s.val = s.val
    rw [e.2]; omega

/-- At an even point the scratch is left with the first half's product. -/
theorem scratch_even (n : ℕ) (hn : n < cfg0.N) (h : n % 2 = 0) :
    (outsAt0 m c n hn).2 = k0_pay1 (iblk m c 0 ⟨n, hn⟩) (iblk m c 1 ⟨n, hn⟩) := by
  rw [outsAt0_A m c ⟨n, hn⟩ h (by show ¬n % 2 = 1; omega) (by show ¬n % 2 = 1; omega)]
  dsimp only
  rw [sout_first]

/-- The gradient at the kernel's arguments. -/
def dw (p : Fin 1024) (s : Fin 1024) : EReal := tn (m ((c : Thread nD τ).loc main_arg0)) (m ((c : Thread nD τ).loc main_arg1)) p s

/-- What an odd point writes back, at an index of its block. -/
theorem flushed_odd (t : Fin cfg0.N) (h : t.val % 2 = 1) (r : Fin 1024) (s : Fin 1024) :
    (dats m 0 c).flushed 2 t (ix2 r s) = dw m c (⟨t.val / 2 * 1024 + r, by have : t.val < 2 := t.isLt; omega⟩ : Fin 1024) s := by
  have ht : t.val < 2 := t.isLt
  have hN : t.val - 1 < cfg0.N := show t.val - 1 < 2 by omega
  rw [flushed2_B m c t (by omega) h h, out_second, scratch_even m c (t.val - 1) hN (by omega)]
  refine (pay3_apply _ _ _ r s).trans ?_
  rw [pay1_apply]
  unfold dw
  rw [tn_halves]
  have e0 : (t.val - 1) % 2 = 0 := by omega
  have e1 : (t.val - 1) / 2 = t.val / 2 := by omega
  refine congrArg₂ (· + ·) (Finset.sum_congr rfl fun k _ => ?_) (Finset.sum_congr rfl fun k _ => ?_)
  · rw [iblk0, iblk1]
    simp only [e0, e1]
  · rw [iblk0, iblk1]
    simp only [h]

/-- The array that the kernel leaves. -/
theorem arr2 (p : Fin 1024) (s : Fin 1024) : (dats m 0 c).arrAt 2 cfg0.N (ix2 p s) = dw m c p s := by
  obtain ⟨t, h, ht⟩ : ∃ t : Fin cfg0.N, t.val % 2 = 1 ∧ t.val / 2 = p.val / 1024 :=
    ⟨⟨2 * (p.val / 1024) + 1, show _ < 2 by omega⟩, show (2 * (p.val / 1024) + 1) % 2 = 1 by omega, show (2 * (p.val / 1024) + 1) / 2 = _ by omega⟩
  have hb := congrFun (flushed2_eq m c t ((flush0_2 t).mpr h)) (ix2 ⟨p.val % 1024, by omega⟩ s)
  rw [View.read_apply, ← final2, flushed_odd m c t h] at hb
  have e := (ind t).2.2
  have hi : ((cfg0.win 2).blk t).view.emb (ix2 ⟨p.val % 1024, by omega⟩ s) = ix2 p s := by
    refine ix2_eq _ _ _ ?_ ?_
    · show win0_2.index t 0 * 1024 + 1 * (p.val % 1024) = p.val
      rw [e.1, ht]; omega
    · show win0_2.index t 1 * 1024 + 1 * s.val = s.val
      rw [e.2]; omega
  rw [hi] at hb
  refine hb.symm.trans (congrArg (fun q => dw m c q s) (Fin.ext ?_))
  show t.val / 2 * 1024 + p.val % 1024 = p.val
  rw [ht]; omega

end Cert.Kernel19Ideal.Product

namespace Cert.SsdWeightClaim

open Idealize.ShloMosaic Idealize.SL.Sem Idealize.ShloMosaic.Pointwise Cert.Reference19Ideal.Read Cert.Product

/-- The reference's result at an index. -/
theorem ref_apply (x0 : (⟨Cert.Reference19Ideal.S4096x1024, .bf16⟩ : BufTy).Contents (Elt Ideal)) (x1 : (⟨Cert.Reference19Ideal.S4096x1024, .f32⟩ : BufTy).Contents (Elt Ideal))
    (r : Fin 1024) (s : Fin 1024) : val_main_v5 x0 x1 (ix2 r s) = tn x0 x1 r s := by
  unfold val_main_v5 val_main_v4 val_main_v3 val_main_v1
  pointwise
  exact Finset.sum_congr rfl fun k _ => mul_comm _ _

/-- Kernel and reference compute the same gradient. -/
theorem algebraic :
    Cert.algebraic_Kernel19Ideal_Reference19Ideal (hKernel19Ideal := Cert.Kernel19Ideal.Gen.facts) (hReference19Ideal := Cert.Reference19Ideal.Gen.facts) := by
  intro m g m' g' _ harg
  refine ⟨fun c => (Cert.Kernel19Ideal.Gen.dats m 0 c).arrAt 2 Cert.Kernel19Ideal.cfg0.N, Cert.Kernel19Ideal.Value.run_blocks m g,
    (θ_run _ _ _).mono (fun r h c => ?_) (Cert.Reference19Ideal.Value.run m' g')⟩
  obtain ⟨h0, hr⟩ := h c
  obtain ⟨e0, e1⟩ := harg c
  refine ⟨h0.trans ?_, hr⟩
  rw [val_main_v5_eq, e0, e1]
  funext j
  obtain ⟨p, s, rfl⟩ := exists_ix2 j
  exact (ref_apply _ _ p s).trans (Cert.Kernel19Ideal.Product.arr2 m c p s).symm

end Cert.SsdWeightClaim

end
-- ==== Proof.Product.QueryBlock.lean ====
/-
  The gradient that leaves the cross attention's query product, one block of 512 rows: it goes through the norm of each row, and
  the norm's weight collects one row of sums. The kernel forms the block in two pieces of 256 rows.
-/
module

public import proofs.«01_k».proof.Proof.Gen.Kernel20Ideal.Value
public import proofs.«01_k».proof.Proof.Product.Shared
public import proofs.«01_k».proof.Proof.Ffn.NormMath
public import Idealize.ShloMosaic.Lib.Pointwise
public import Idealize.ShloMosaic.Lib.Pipeline.ValueKit
public import Idealize.ShloMosaic.Lib.Tactic

@[expose] public section

set_option maxRecDepth 16384

noncomputable section

namespace Cert.Kernel20Ideal.Product

open Cert.Kernel20Ideal Cert.Kernel20Ideal.Gen Cert.Kernel20Ideal.Value Idealize.ShloMosaic Idealize.ShloMosaic.TcCoe Idealize.SL.Sem Idealize.ShloMosaic.Pointwise Cert.Norm Cert.Product
open Idealize.ShloMosaic.Pipeline (Dat)

/-- The gradient of the rows, of `n` rows: `g` is the norm's weight and `d` the gradient that came through the residual. -/
def dxF {n : ℕ} (q : Shape.Idx ⟨2, ![n, 1024]⟩ → EReal) (w : Shape.Idx ⟨2, ![1024, 1024]⟩ → EReal) (x d : Shape.Idx ⟨2, ![n, 1024]⟩ → EReal)
    (g : Fin 1024 → EReal) (r : Fin n) (j : Fin 1024) : EReal :=
  dxK width (fun k => nt q w r k * g k) (fun k => x (ix2 r k)) (d (ix2 r j)) j

/-- What a row adds to the gradient of the norm's weight. -/
def dgF {n : ℕ} (q : Shape.Idx ⟨2, ![n, 1024]⟩ → EReal) (w : Shape.Idx ⟨2, ![1024, 1024]⟩ → EReal) (x : Shape.Idx ⟨2, ![n, 1024]⟩ → EReal)
    (j : Fin 1024) (r : Fin n) : EReal :=
  nt q w r j * (x (ix2 r j) * root width fun k => x (ix2 r k))

/-- Both depend on the matrices only through the entries of the row. -/
theorem dxF_congr {n n' : ℕ} {q x d : Shape.Idx ⟨2, ![n, 1024]⟩ → EReal} {q' x' d' : Shape.Idx ⟨2, ![n', 1024]⟩ → EReal}
    {w w' : Shape.Idx ⟨2, ![1024, 1024]⟩ → EReal} {g g' : Fin 1024 → EReal} {r : Fin n} {r' : Fin n'} (j : Fin 1024)
    (hq : ∀ k, q (ix2 r k) = q' (ix2 r' k)) (hw : ∀ a b, w (ix2 a b) = w' (ix2 a b)) (hx : ∀ k, x (ix2 r k) = x' (ix2 r' k))
    (hd : ∀ k, d (ix2 r k) = d' (ix2 r' k)) (hg : ∀ k, g k = g' k) : dxF q w x d g r j = dxF q' w' x' d' g' r' j := by
  unfold dxF nt
  simp only [hq, hw, hx, hd, hg]

theorem dgF_congr {n n' : ℕ} {q x : Shape.Idx ⟨2, ![n, 1024]⟩ → EReal} {q' x' : Shape.Idx ⟨2, ![n', 1024]⟩ → EReal}
    {w w' : Shape.Idx ⟨2, ![1024, 1024]⟩ → EReal} {r : Fin n} {r' : Fin n'} (j : Fin 1024)
    (hq : ∀ k, q (ix2 r k) = q' (ix2 r' k)) (hw : ∀ a b, w (ix2 a b) = w' (ix2 a b)) (hx : ∀ k, x (ix2 r k) = x' (ix2 r' k)) :
    dgF q w x j r = dgF q' w' x' j r' := by
  unfold dgF nt
  simp only [hq, hw, hx]

section
variable (q : Vec Ideal S256x1024 .bf16) (w : Vec Ideal S1024x1024 .bf16) (x d : Vec Ideal S256x1024 .f32) (g : Vec Ideal S1x1024 .f32)
  (r : Fin 256) (j : Fin 1024)

theorem pay2_apply : k0_pay2 q w (ix2 r j) = nt q w r j := by
  pointwise [k0_pay2]
  rfl

theorem pay3_apply : k0_pay3 x (ix2 r 0) = root width fun k => x (ix2 r k) := by
  pointwise [k0_pay3]
  rfl

theorem pay4_apply : k0_pay4 x (ix2 r j) = x (ix2 r j) * root width fun k => x (ix2 r k) := by
  rw [← pay3_apply]
  unfold k0_pay4
  pointwise

theorem pay5_apply : k0_pay5 q w x d g (ix2 r j) = dxF q w x d (fun k => g (ix2 0 k)) r j := by
  unfold k0_pay5 dxF dxK
  pointwise
  simp only [pay2_apply, pay4_apply, pay3_apply]
  rfl

theorem pay6_apply : k0_pay6 q w x (ix2 0 j) = ∑ r : Fin 256, dgF q w x j r := by
  unfold k0_pay6 dgF
  pointwise
  simp only [pay2_apply, pay4_apply]
end

/-- Rows of a block that a piece loads. -/
theorem ld_rows {e : EltTy} (v : Vec Ideal S512x1024 e) (o : ℕ) (ho : o ≤ 256)
    (inb : ∀ a, (![o, 0] : Fin 2 → ℕ) a + (![256, 1024] : Fin 2 → ℕ) a ≤ S512x1024.size a) (r : Fin 256) (k : Fin 1024) :
    View.ld v (Rect.unit ![o, 0] ![256, 1024] inb) (ix2 r k) = v (ix2 (⟨o + r.val, by omega⟩ : Fin 512) k) := by
  refine congrArg v (ix2_eq _ _ _ ?_ ?_)
  · show o + 1 * r.val = o + r.val
    omega
  · show 0 + 1 * k.val = k.val
    omega

/-- The gradient of the rows in a block. -/
def dxB (q : Vec Ideal S512x1024 .bf16) (w : Vec Ideal S1024x1024 .bf16) (x d : Vec Ideal S512x1024 .f32) (g : Vec Ideal S1x1024 .f32) :
    Vec Ideal S512x1024 .f32 :=
  fun y => dxF q w x d (fun k => g (ix2 0 k)) (y 0 : Fin 512) (y 1 : Fin 1024)

section
variable (q : Vec Ideal S512x1024 .bf16) (w : Vec Ideal S1024x1024 .bf16) (x d : Vec Ideal S512x1024 .f32) (g v : Vec Ideal S1x1024 .f32)

theorem dx_piece (o : ℕ) (ho : o ≤ 256) (inb : ∀ a, (![o, 0] : Fin 2 → ℕ) a + (![256, 1024] : Fin 2 → ℕ) a ≤ S512x1024.size a) (z : S256x1024.Idx) :
    k0_pay5 (View.ld q (Rect.unit ![o, 0] ![256, 1024] inb)) w (View.ld x (Rect.unit ![o, 0] ![256, 1024] inb))
        (View.ld d (Rect.unit ![o, 0] ![256, 1024] inb)) g z
      = dxB q w x d g ((Rect.unit (s := S512x1024) ![o, 0] ![256, 1024] inb).emb z) := by
  obtain ⟨r, j, rfl⟩ := exists_ix2 z
  have hi : (Rect.unit (s := S512x1024) ![o, 0] ![256, 1024] inb).emb (ix2 r j) = ix2 (⟨o + r.val, by omega⟩ : Fin 512) j :=
    ix2_eq _ _ _ (show o + 1 * r.val = o + r.val by omega) (show 0 + 1 * j.val = j.val by omega)
  rw [hi]
  refine (pay5_apply _ _ _ _ _ r j).trans ?_
  exact dxF_congr j (ld_rows q o ho inb r) (fun _ _ => rfl) (ld_rows x o ho inb r) (ld_rows d o ho inb r) fun _ => rfl

/-- What a block adds to the gradient of the norm's weight. -/
theorem dg_pieces (i0 : ∀ a, (![0, 0] : Fin 2 → ℕ) a + (![256, 1024] : Fin 2 → ℕ) a ≤ S512x1024.size a)
    (i1 : ∀ a, (![256, 0] : Fin 2 → ℕ) a + (![256, 1024] : Fin 2 → ℕ) a ≤ S512x1024.size a) (j : Fin 1024) :
    k0_pay1 (k0_pay11 (k0_pay6 (View.ld q (Rect.unit ![0, 0] ![256, 1024] i0)) w (View.ld x (Rect.unit ![0, 0] ![256, 1024] i0)))
        (View.ld q (Rect.unit ![256, 0] ![256, 1024] i1)) w (View.ld x (Rect.unit ![256, 0] ![256, 1024] i1))) v (ix2 0 j)
      = v (ix2 0 j) + ∑ r : Fin 512, dgF q w x j r := by
  have e : ∀ p, k0_pay11 (F := Ideal) p (View.ld q (Rect.unit ![256, 0] ![256, 1024] i1)) w (View.ld x (Rect.unit ![256, 0] ![256, 1024] i1))
      = addf p (k0_pay6 (View.ld q (Rect.unit ![256, 0] ![256, 1024] i1)) w (View.ld x (Rect.unit ![256, 0] ![256, 1024] i1))) := fun _ => rfl
  rw [e]
  unfold k0_pay1
  pointwise
  rw [pay6_apply, pay6_apply, show (∑ r : Fin 512, dgF q w x j r) = ∑ r : Fin (256 + 256), dgF q w x j r from rfl, Fin.sum_univ_add]
  refine congrArg (v (ix2 0 j) + ·) (congrArg₂ (· + ·) (Finset.sum_congr rfl fun r _ => ?_) (Finset.sum_congr rfl fun r _ => ?_))
  · have h : (⟨0 + r.val, by omega⟩ : Fin 512) = Fin.castAdd 256 r := Fin.ext (show 0 + r.val = r.val by omega)
    rw [← h]
    exact dgF_congr j (ld_rows q 0 (by omega) i0 r) (fun _ _ => rfl) (ld_rows x 0 (by omega) i0 r)
  · exact dgF_congr j (ld_rows q 256 (by omega) i1 r) (fun _ _ => rfl) (ld_rows x 256 (by omega) i1 r)
end

/-- The two pieces cover the block. -/
theorem covered (y : S512x1024.Idx) : y ∈ (Rect.unit (s := S512x1024) ![256, 0] ![256, 1024] inb_S512x1024_S256x1024_256_0).set
    ∨ y ∈ (Rect.unit (s := S512x1024) ![0, 0] ![256, 1024] inb_S512x1024_S256x1024_0_0).set := by
  have h0 : (y 0).val < 512 := (y 0).isLt
  have h1 : (y 1).val < 1024 := (y 1).isLt
  by_cases c1 : 256 ≤ (y 0).val
  · exact .inl (Rect.mem_set_unit.2 fun a => match a with
      | ⟨0, _⟩ => show 256 ≤ (y 0).val ∧ (y 0).val < 256 + 256 by omega
      | ⟨1, _⟩ => show 0 ≤ (y 1).val ∧ (y 1).val < 0 + 1024 by omega)
  · exact .inr (Rect.mem_set_unit.2 fun a => match a with
      | ⟨0, _⟩ => show 0 ≤ (y 0).val ∧ (y 0).val < 0 + 256 by omega
      | ⟨1, _⟩ => show 0 ≤ (y 1).val ∧ (y 1).val < 0 + 1024 by omega)

section
variable (c : Dev nD) (i : grid0.Coords)
  (a3 : Memref sig .tc .vmem S512x1024 .bf16) (h3 : a3.IsWhole) (a4 : Memref sig .tc .vmem S1024x1024 .bf16) (h4 : a4.IsWhole)
  (a5 : Memref sig .tc .vmem S512x1024 .f32) (h5 : a5.IsWhole) (a6 : Memref sig .tc .vmem S512x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S1x1024 .f32) (h9 : a9.IsWhole)
  (q : Vec Ideal S512x1024 .bf16) (w : Vec Ideal S1024x1024 .bf16) (x d : Vec Ideal S512x1024 .f32) (g v : Vec Ideal S1x1024 .f32)

theorem outA5 (p) (y : S512x1024.Idx) : out0_A_5 (F := Ideal) c i a3 h3 a4 h4 a5 h5 a6 h6 a7 h7 a8 h8 a9 h9 p q w x d g y = dxB q w x d g y := by
  frame_out
  refine View.canon_apply_of_pieces (dxB q w x d g) _ (fun p hp z => ?_) y ?_
  · simp only [List.mem_cons, List.not_mem_nil, or_false] at hp
    rcases hp with rfl | rfl
    · exact dx_piece q w x d g 256 (by omega) inb_S512x1024_S256x1024_256_0 z
    · exact dx_piece q w x d g 0 (by omega) inb_S512x1024_S256x1024_0_0 z
  · rcases covered y with h | h
    · exact ⟨_, .head _, h⟩
    · exact ⟨_, .tail _ (.head _), h⟩

theorem outB5 (p) (y : S512x1024.Idx) : out0_B_5 (F := Ideal) c i a3 h3 a4 h4 a5 h5 a6 h6 a7 h7 a8 h8 a9 h9 p q w x d g v y = dxB q w x d g y := by
  frame_out
  refine View.canon_apply_of_pieces (dxB q w x d g) _ (fun p hp z => ?_) y ?_
  · simp only [List.mem_cons, List.not_mem_nil, or_false] at hp
    rcases hp with rfl | rfl
    · exact dx_piece q w x d g 256 (by omega) inb_S512x1024_S256x1024_256_0 z
    · exact dx_piece q w x d g 0 (by omega) inb_S512x1024_S256x1024_0_0 z
  · rcases covered y with h | h
    · exact ⟨_, .head _, h⟩
    · exact ⟨_, .tail _ (.head _), h⟩

theorem outA6 (p) (j : Fin 1024) : out0_A_6 (F := Ideal) c i a3 h3 a4 h4 a5 h5 a6 h6 a7 h7 a8 h8 a9 h9 p q w x d g (ix2 0 j)
    = ∑ r : Fin 512, dgF q w x j r := by
  have h : out0_A_6 (F := Ideal) c i a3 h3 a4 h4 a5 h5 a6 h6 a7 h7 a8 h8 a9 h9 p q w x d g
      = k0_pay1 (k0_pay11 (k0_pay6 (View.ld q (Rect.unit ![0, 0] ![256, 1024] inb_S512x1024_S256x1024_0_0)) w
          (View.ld x (Rect.unit ![0, 0] ![256, 1024] inb_S512x1024_S256x1024_0_0)))
        (View.ld q (Rect.unit ![256, 0] ![256, 1024] inb_S512x1024_S256x1024_256_0)) w
        (View.ld x (Rect.unit ![256, 0] ![256, 1024] inb_S512x1024_S256x1024_256_0))) (k0_pay12 (F := Ideal)) := by
    frame_out
  rw [h]
  refine (dg_pieces q w x _ _ _ j).trans ?_
  have : (k0_pay12 (F := Ideal)) (ix2 0 j) = 0 := by pointwise [k0_pay12]
  rw [this, zero_add]

theorem outB6 (p) (j : Fin 1024) : out0_B_6 (F := Ideal) c i a3 h3 a4 h4 a5 h5 a6 h6 a7 h7 a8 h8 a9 h9 p q w x d g v (ix2 0 j)
    = v (ix2 0 j) + ∑ r : Fin 512, dgF q w x j r := by
  have h : out0_B_6 (F := Ideal) c i a3 h3 a4 h4 a5 h5 a6 h6 a7 h7 a8 h8 a9 h9 p q w x d g v
      = k0_pay1 (k0_pay11 (k0_pay6 (View.ld q (Rect.unit ![0, 0] ![256, 1024] inb_S512x1024_S256x1024_0_0)) w
          (View.ld x (Rect.unit ![0, 0] ![256, 1024] inb_S512x1024_S256x1024_0_0)))
        (View.ld q (Rect.unit ![256, 0] ![256, 1024] inb_S512x1024_S256x1024_256_0)) w
        (View.ld x (Rect.unit ![256, 0] ![256, 1024] inb_S512x1024_S256x1024_256_0))) v := by
    frame_out
  rw [h]
  exact dg_pieces q w x _ _ _ j

end

end Cert.Kernel20Ideal.Product

end
-- ==== Proof.Product.QueryArray.lean ====
/-
  The two arrays that the kernel leaves: the gradient of the rows, block by block, and the gradient of the norm's weight, summed
  over the eight blocks of rows.
-/
module

public import proofs.«01_k».proof.Proof.Product.QueryBlock

@[expose] public section

set_option maxRecDepth 16384

noncomputable section

namespace Cert.Kernel20Ideal.Product

open Cert.Kernel20Ideal Cert.Kernel20Ideal.Gen Cert.Kernel20Ideal.Value Idealize.ShloMosaic Idealize.ShloMosaic.TcCoe Idealize.SL.Sem Idealize.ShloMosaic.Pointwise Cert.Norm Cert.Product
open Idealize.ShloMosaic.Pipeline (Dat)

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0))

/-- The array's row at a row of a grid point's block. -/
def row (t : Fin cfg0.N) (r : Fin 512) : Fin 4096 := ⟨t.val * 512 + r, by have : t.val < 8 := t.isLt; omega⟩

theorem iblk0 (t : Fin cfg0.N) (r : Fin 512) (k : Fin 1024) : iblk m c 0 t (ix2 r k) = m ((c : Thread nD τ).loc main_arg0) (ix2 (row t r) k) := by
  have e := (ind t).1
  unfold iblk
  rw [View.read_apply]
  show V m c main_arg0 _ = _
  rw [V_main_arg0]
  refine congrArg (m ((c : Thread nD τ).loc main_arg0)) (ix2_eq _ _ _ ?_ ?_)
  · show win0_0.index t 0 * 512 + 1 * r.val = t.val * 512 + r.val
    rw [e.1]; omega
  · show win0_0.index t 1 * 1024 + 1 * k.val = k.val
    rw [e.2]; omega

theorem iblk1 (t : Fin cfg0.N) (r k : Fin 1024) : iblk m c 1 t (ix2 r k) = m ((c : Thread nD τ).loc main_arg1) (ix2 r k) := by
  have e := (ind t).2.1
  unfold iblk
  rw [View.read_apply]
  show V m c main_arg1 _ = _
  rw [V_main_arg1]
  refine congrArg (m ((c : Thread nD τ).loc main_arg1)) (ix2_eq _ _ _ ?_ ?_)
  · show win0_1.index t 0 * 1024 + 1 * r.val = r.val
    rw [e.1]; omega
  · show win0_1.index t 1 * 1024 + 1 * k.val = k.val
    rw [e.2]; omega

theorem iblk2 (t : Fin cfg0.N) (r : Fin 512) (k : Fin 1024) : iblk m c 2 t (ix2 r k) = m ((c : Thread nD τ).loc main_arg2) (ix2 (row t r) k) := by
  have e := (ind t).2.2.1
  unfold iblk
  rw [View.read_apply]
  show V m c main_arg2 _ = _
  rw [V_main_arg2]
  refine congrArg (m ((c : Thread nD τ).loc main_arg2)) (ix2_eq _ _ _ ?_ ?_)
  · show win0_2.index t 0 * 512 + 1 * r.val = t.val * 512 + r.val
    rw [e.1]; omega
  · show win0_2.index t 1 * 1024 + 1 * k.val = k.val
    rw [e.2]; omega

theorem iblk3 (t : Fin cfg0.N) (r : Fin 512) (k : Fin 1024) : iblk m c 3 t (ix2 r k) = m ((c : Thread nD τ).loc main_arg3) (ix2 (row t r) k) := by
  have e := (ind t).2.2.2.1
  unfold iblk
  rw [View.read_apply]
  show V m c main_arg3 _ = _
  rw [V_main_arg3]
  refine congrArg (m ((c : Thread nD τ).loc main_arg3)) (ix2_eq _ _ _ ?_ ?_)
  · show win0_3.index t 0 * 512 + 1 * r.val = t.val * 512 + r.val
    rw [e.1]; omega
  · show win0_3.index t 1 * 1024 + 1 * k.val = k.val
    rw [e.2]; omega

/-- The norm's weight, laid out as one row by the host. -/
theorem iblk4 (t : Fin cfg0.N) (j : Fin 1024) : iblk m c 4 t (ix2 0 j) = m ((c : Thread nD τ).loc main_arg4) (ix1 j) := by
  have e := (ind t).2.2.2.2.1
  unfold iblk
  rw [View.read_apply]
  have hi : ((cfg0.win 4).blk t).view.emb (ix2 0 j) = ix2 (0 : Fin 1) j := by
    refine ix2_eq _ _ _ ?_ ?_
    · show win0_4.index t 0 * 1 + 1 * 0 = 0
      rw [e.1]
    · show win0_4.index t 1 * 1024 + 1 * j.val = j.val
      rw [e.2]; omega
  rw [hi]
  show V m c main_v0 _ = _
  have hv : V m c main_v0 = shapeCast S1x1024 (m ((c : Thread nD τ).loc main_arg4)) shapeCasts_S1024_S1x1024 := by
    unfold V hostOps0
    simp only [StableHlo.after_cons, StableHlo.after_nil]
    rfl
  refine (congrFun hv _).trans ?_
  pointwise

/-- The five arguments read at the gradient of the rows, and at what a row adds to the gradient of the norm's weight. -/
def dxM (p : Fin 4096) (j : Fin 1024) : EReal :=
  dxF (n := 4096) (m ((c : Thread nD τ).loc main_arg0)) (m ((c : Thread nD τ).loc main_arg1)) (m ((c : Thread nD τ).loc main_arg2))
    (m ((c : Thread nD τ).loc main_arg3)) (fun k => m ((c : Thread nD τ).loc main_arg4) (ix1 k)) p j

def termM (j : Fin 1024) (p : Fin 4096) : EReal :=
  dgF (n := 4096) (m ((c : Thread nD τ).loc main_arg0)) (m ((c : Thread nD τ).loc main_arg1)) (m ((c : Thread nD τ).loc main_arg2)) j p

theorem dx_iblk (t : Fin cfg0.N) (r : Fin 512) (j : Fin 1024) :
    dxB (iblk m c 0 t) (iblk m c 1 t) (iblk m c 2 t) (iblk m c 3 t) (iblk m c 4 t) (ix2 r j) = dxM m c (row t r) j :=
  dxF_congr j (iblk0 m c t r) (iblk1 m c t) (iblk2 m c t r) (iblk3 m c t r) (iblk4 m c t)

theorem dg_iblk (t : Fin cfg0.N) (j : Fin 1024) (r : Fin 512) :
    dgF (n := 512) (iblk m c 0 t) (iblk m c 1 t) (iblk m c 2 t) j r = termM m c j (row t r) :=
  dgF_congr j (iblk0 m c t r) (iblk1 m c t) (iblk2 m c t r)

/-- The array of the rows' gradient. -/
theorem arr5 (p : Fin 4096) (j : Fin 1024) : (dats m 0 c).arrAt 5 cfg0.N (ix2 p j) = dxM m c p j := by
  obtain ⟨t, r, hp⟩ : ∃ (t : Fin cfg0.N) (r : Fin 512), p = row t r :=
    ⟨⟨p.val / 512, show _ < 8 by omega⟩, ⟨p.val % 512, by omega⟩, Fin.ext (show p.val = p.val / 512 * 512 + p.val % 512 by omega)⟩
  have hb := congrFun (blocks5 m c t (flush0_5 _)) (ix2 r j)
  rw [View.read_apply] at hb
  have e := (ind t).2.2.2.2.2.1
  have hi : ((cfg0.win 5).blk t).view.emb (ix2 r j) = ix2 (row t r) j := by
    refine ix2_eq _ _ _ ?_ ?_
    · show win0_5.index t 0 * 512 + 1 * r.val = t.val * 512 + r.val
      rw [e.1]; omega
    · show win0_5.index t 1 * 1024 + 1 * j.val = j.val
      rw [e.2]; omega
  rw [hi] at hb
  rw [hp]
  refine hb.trans ?_
  by_cases h : t.val % 8 = 0
  · rw [flushed5_A m c t h]
    exact (outA5 _ _ _ _ _ _ _ _ _ _ _ _ _ _ _ _ _ _ _ _ _ _ _).trans (dx_iblk m c t r j)
  · rw [flushed5_B m c t h]
    exact (outB5 _ _ _ _ _ _ _ _ _ _ _ _ _ _ _ _ _ _ _ _ _ _ _ _).trans (dx_iblk m c t r j)

/-- What a block of rows adds to the gradient of the norm's weight. -/
def tile (j : Fin 1024) (i : ℕ) : EReal := if h : i < 8 then ∑ r : Fin 512, termM m c j (row ⟨i, h⟩ r) else 0

/-- After a point the weight's row holds the sum of the blocks so far. -/
theorem partials (j : Fin 1024) : ∀ (n : ℕ) (hn : n < cfg0.N), (outsAt0 m c n hn).2 (ix2 0 j) = ∑ i ∈ Finset.range (n + 1), tile m c j i
  | 0, hn => by
    rw [outsAt0_A m c ⟨0, hn⟩ rfl]
    dsimp only
    refine (outA6 _ _ _ _ _ _ _ _ _ _ _ _ _ _ _ _ _ _ _ _ _ _ j).trans ?_
    rw [Finset.sum_range_one, tile, dif_pos (by omega)]
    exact Finset.sum_congr rfl fun r _ => dg_iblk m c ⟨0, hn⟩ j r
  | n + 1, hn => by
    have h8 : n + 1 < 8 := hn
    rw [outsAt0_B m c ⟨n + 1, hn⟩ (by show ¬(n + 1) % 8 = 0; omega)]
    dsimp only
    refine (outB6 _ _ _ _ _ _ _ _ _ _ _ _ _ _ _ _ _ _ _ _ _ _ _ j).trans ?_
    rw [Finset.sum_range_succ, tile, dif_pos h8]
    exact congrArg₂ (· + ·) (partials j n _) (Finset.sum_congr rfl fun r _ => dg_iblk m c ⟨n + 1, hn⟩ j r)

/-- The eight blocks are all the rows. -/
theorem sum_tiles (j : Fin 1024) : ∑ i ∈ Finset.range 8, tile m c j i = ∑ p : Fin 4096, termM m c j p := by
  rw [Finset.sum_range, ← (finProdFinEquiv (m := 8) (n := 512)).sum_comp (fun p : Fin (8 * 512) => termM m c j p), Fintype.sum_prod_type]
  refine Finset.sum_congr rfl fun i _ => ?_
  rw [tile, dif_pos i.isLt]
  refine Finset.sum_congr rfl fun r _ => congrArg (termM m c j) (Fin.ext ?_)
  show i.val * 512 + r.val = r.val + 512 * i.val
  omega

/-- The array of the gradient of the norm's weight. -/
theorem arr6 (j : Fin 1024) : (dats m 0 c).arrAt 6 cfg0.N (ix2 0 j) = ∑ p : Fin 4096, termM m c j p := by
  obtain ⟨t, ht⟩ : ∃ t : Fin cfg0.N, t.val = 7 := ⟨⟨7, show 7 < 8 by omega⟩, rfl⟩
  have hd : ∀ t t' : Fin cfg0.N, (cfg0.win 6).flush t = true → (cfg0.win 6).flush t' = true → t ≠ t' →
      Disjoint ((cfg0.win 6).blk t).view.set ((cfg0.win 6).blk t').view.set := fun t t' h h' hne => by
    have a := (flush0_6 t).1 h
    have b := (flush0_6 t').1 h'
    have ha : t.val < 8 := t.isLt
    have hb : t'.val < 8 := t'.isLt
    exact absurd (Fin.ext (by omega)) hne
  have hb := congrFun ((dats m 0 c).read_blk_arrAt_eq_flushed 6 hd cfg0.N t t.isLt ((flush0_6 t).2 (by omega))) (ix2 0 j)
  rw [View.read_apply, flushed6] at hb
  have e := (ind t).2.2.2.2.2.2
  have hi : ((cfg0.win 6).blk t).view.emb (ix2 0 j) = ix2 (0 : Fin 1) j := by
    refine ix2_eq _ _ _ ?_ ?_
    · show win0_6.index t 0 * 1 + 1 * 0 = 0
      rw [e.1]
    · show win0_6.index t 1 * 1024 + 1 * j.val = j.val
      rw [e.2]; omega
  rw [hi] at hb
  refine hb.trans ((partials m c j t.val t.isLt).trans ?_)
  rw [ht, sum_tiles]

end Cert.Kernel20Ideal.Product

end
-- ==== Proof.Product.Query.lean ====
/-
  The reference's gradient that leaves the cross attention's query product, stage by stage, and that kernel and reference agree.
-/
module

public import proofs.«01_k».proof.Defs
public import proofs.«01_k».proof.Proof.Product.QueryArray
public import proofs.«01_k».proof.Proof.Gen.Reference20Ideal.Run
public import proofs.«01_k».proof.Proof.Gen.Reference20Ideal.Read

@[expose] public section

set_option maxRecDepth 16384

noncomputable section

namespace Cert.QueryClaim

open Idealize.ShloMosaic Idealize.SL.Sem Idealize.ShloMosaic.Pointwise Cert.Reference20Ideal Cert.Reference20Ideal.Read Cert.Norm Cert.Product Cert.Kernel20Ideal.Product

section
variable (x0 : (⟨S4096x1024, .bf16⟩ : BufTy).Contents (Elt Ideal)) (x1 : (⟨S1024x1024, .bf16⟩ : BufTy).Contents (Elt Ideal))
  (x2 x3 : (⟨S4096x1024, .f32⟩ : BufTy).Contents (Elt Ideal)) (x4 : (⟨S1024, .f32⟩ : BufTy).Contents (Elt Ideal)) (p : Fin 4096) (j : Fin 1024)

theorem v6_apply : val_main_v6 x2 (ix2 p 0) = var width fun k => x2 (ix2 p k) := by
  pointwise [val_main_v6, val_main_v5, val_main_v4, val_main_v3, val_main_v2, val_main_v1, val_main_v0, val_main_cst, val_main_cst_0, val_main_cst_1]
  rfl

theorem v7_apply : val_main_v7 x2 (ix2 p 0) = root width fun k => x2 (ix2 p k) := by
  unfold root
  rw [← v6_apply]
  rfl

theorem v12_apply : val_main_v12 x2 (ix2 p j) = x2 (ix2 p j) * root width fun k => x2 (ix2 p k) := by
  rw [← v7_apply]
  unfold val_main_v12 val_main_v11
  generalize val_main_v7 (F := Ideal) x2 = y
  pointwise

theorem v10_apply : val_main_v10 x2 (ix2 p 0) = mhalf * Ideal.div (root width fun k => x2 (ix2 p k)) (var width fun k => x2 (ix2 p k)) := by
  rw [← v7_apply, ← v6_apply]
  unfold val_main_v10 val_main_v9 val_main_v8 val_main_cst_2
  generalize val_main_v7 (F := Ideal) x2 = y
  generalize val_main_v6 (F := Ideal) x2 = z
  pointwise
  rfl

theorem v19_apply : val_main_v19 x0 x1 (ix2 p j) = nt (n := 4096) x0 x1 p j := by
  pointwise [val_main_v19, val_main_v18, val_main_v16]
  rfl

theorem v24_apply : val_main_v24 x0 x1 x4 (ix2 p j) = nt (n := 4096) x0 x1 p j * x4 (ix1 j) := by
  rw [← v19_apply]
  unfold val_main_v24 val_main_v23 val_main_v13
  generalize val_main_v19 (F := Ideal) x0 x1 = y
  pointwise

theorem v36_apply : val_main_v36 x0 x1 x2 x4 (ix2 p j)
    = coef width (fun k => nt (n := 4096) x0 x1 p k * x4 (ix1 k)) (fun k => x2 (ix2 p k)) := by
  unfold coef val_main_v36 val_main_v35 val_main_v34 val_main_v33 val_main_v32 val_main_v28 val_main_v27 val_main_v26 val_main_cst_5 val_main_cst_6 val_main_cst_7
  pointwise
  refine (Fin.sum_univ_one _).trans ?_
  refine congrArg₂ Ideal.div (congrArg₂ (· * ·) (Finset.sum_congr rfl fun k _ => congrArg (x2 (ix2 p k) * ·) ?_) ?_) rfl
  · exact v24_apply x0 x1 x4 p k
  · exact v10_apply x2 p

theorem v40_apply : val_main_v40 x0 x1 x2 x3 x4 (ix2 p j) = dxF (n := 4096) x0 x1 x2 x3 (fun k => x4 (ix1 k)) p j := by
  unfold dxF
  rw [dxK_eq width_eq (by norm_num)]
  unfold dxR
  beta_reduce
  rw [← v36_apply x0 x1 x2 x4 p j, ← v24_apply, ← v7_apply]
  unfold val_main_v40 val_main_v39 val_main_v38 val_main_v37 val_main_v31 val_main_v30 val_main_v29
  generalize val_main_v7 (F := Ideal) x2 = y
  generalize val_main_v24 (F := Ideal) x0 x1 x4 = z
  generalize val_main_v36 (F := Ideal) x0 x1 x2 x4 = w
  pointwise

theorem v41_apply : val_main_v41 x0 x1 x2 (ix2 0 j) = ∑ p : Fin 4096, dgF (n := 4096) x0 x1 x2 j p := by
  unfold val_main_v41 val_main_v25 val_main_v22 val_main_v21 val_main_v20 val_main_cst_3 val_main_cst_4
  pointwise
  refine (Fin.sum_univ_one _).trans (Finset.sum_congr rfl fun p _ => ?_)
  refine (congrArg₂ (· * ·) (v12_apply x2 p j) (v19_apply x0 x1 p j)).trans ?_
  exact mul_comm (G := EReal) _ _
end

/-- Kernel and reference compute the same gradient of the rows and of the norm's weight. -/
theorem algebraic : Cert.algebraic_Kernel20Ideal_Reference20Ideal (hKernel20Ideal := Cert.Kernel20Ideal.Gen.facts)
      (hReference20Ideal := Cert.Reference20Ideal.Gen.facts) := by
  intro m g m' g' _ harg
  refine ⟨fun c => (Cert.Kernel20Ideal.Gen.dats m 0 c).arrAt 5 Cert.Kernel20Ideal.cfg0.N, fun c => (Cert.Kernel20Ideal.Gen.dats m 0 c).arrAt 6 Cert.Kernel20Ideal.cfg0.N,
    Cert.Kernel20Ideal.Value.run_blocks m g, (θ_run _ _ _).mono (fun r h c => ?_) (Cert.Reference20Ideal.Value.run m' g')⟩
  obtain ⟨h0, h1, hr⟩ := h c
  obtain ⟨e0, e1, e2, e3, e4⟩ := harg c
  refine ⟨h0.trans ?_, h1.trans ?_, hr⟩
  · rw [Cert.Reference20Ideal.Read.val_main_v40_eq, e0, e1, e2, e3, e4]
    funext i
    obtain ⟨p, j, rfl⟩ := exists_ix2 i
    exact (v40_apply _ _ _ _ _ p j).trans (arr5 m c p j).symm
  · rw [Cert.Reference20Ideal.Read.val_main_v41_eq, e0, e1, e2]
    funext i
    obtain ⟨a, j, rfl⟩ := exists_ix2 i
    rw [show a = 0 from Fin.eq_zero a]
    exact (v41_apply _ _ _ j).trans (arr6 m c j).symm

end Cert.QueryClaim

end
-- ==== Proof.Ffn.Weight.lean ====
/-
  The gradient of a weight of the feed-forward layer: a product contracted over the 4096 rows. The kernel sums the rows in
  two halves in a scratch that it carries between the grid points; over the extended reals that is the one sum.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Tactic

@[expose] public section

set_option maxRecDepth 16384

noncomputable section

namespace Cert.Kernel2Ideal.Ffn

open Cert.Kernel2Ideal Cert.Kernel2Ideal.Gen Cert.Kernel2Ideal.Value Idealize.ShloMosaic Idealize.ShloMosaic.TcCoe Idealize.SL.Sem Idealize.ShloMosaic.Pointwise
open Idealize.ShloMosaic.Pipeline (Dat)

section
variable (c : Dev nD) (i : grid0.Coords)
  (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)

/-- After the first half of the rows the scratch holds that half's product. -/
theorem sout_first (q0 q1 q2) (x : Vec Ideal S2048x1408 .bf16) (y : Vec Ideal S2048x1024 .bf16) :
    sout0_A_0 (F := Ideal) c i a3 h3 a4 h4 a5 h5 a6 h6 q0 q1 q2 x y = k0_pay1 x y := by
  frame_out

/-- After the second half the output's block holds the scratch's contents before it and that half's product. -/
theorem out_second (q0 q1 q2) (x : Vec Ideal S2048x1408 .bf16) (y : Vec Ideal S2048x1024 .bf16) (z : Vec Ideal S1408x1024 .f32) :
    out0_B_2 (F := Ideal) c i a3 h3 a4 h4 a5 h5 a6 h6 q0 q1 q2 x y z = k0_pay3 (k0_pay2 x y z) := by
  frame_out

end

theorem pay1_apply (x : Vec Ideal S2048x1408 .bf16) (y : Vec Ideal S2048x1024 .bf16) (r : Fin 1408) (s : Fin 1024) :
    k0_pay1 x y (ix2 r s) = ∑ k : Fin 2048, x (ix2 k r) * y (ix2 k s) := by
  pointwise [k0_pay1]

theorem pay3_apply (x : Vec Ideal S2048x1408 .bf16) (y : Vec Ideal S2048x1024 .bf16) (z : Vec Ideal S1408x1024 .f32) (r : Fin 1408) (s : Fin 1024) :
    k0_pay3 (k0_pay2 x y z) (ix2 r s) = z (ix2 r s) + ∑ k : Fin 2048, x (ix2 k r) * y (ix2 k s) := by
  pointwise [k0_pay3, k0_pay2]

variable (m : (ℓ : Loc nD τ sig) → Buf (Elt Ideal) ℓ) (c : Dev nD)

theorem ind : ∀ t : Fin cfg0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) :=
  (by decide +kernel : ∀ t : Fin grid0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0))

/-- A grid point's rows of the first factor, at that point's columns. -/
theorem iblk0 (t : Fin cfg0.N) (k : Fin 2048) (r : Fin 1408) :
    iblk m c 0 t (ix2 k r) = m ((c : Thread nD τ).loc main_arg0) (ix2 (⟨t.val % 2 * 2048 + k, by omega⟩ : Fin 4096)
      (⟨t.val / 2 * 1408 + r, by have : t.val < 4 := t.isLt; omega⟩ : Fin 2816)) := by
  have e := (ind t).1
  unfold iblk
  rw [View.read_apply]
  show V m c main_arg0 _ = _
  unfold V
  congr 1
  funext a
  apply Fin.ext
  match a with
  | ⟨0, _⟩ => show win0_0.index t 0 * 2048 + 1 * k.val = t.val % 2 * 2048 + k.val; rw [e.1]; omega
  | ⟨1, _⟩ => show win0_0.index t 1 * 1408 + 1 * r.val = t.val / 2 * 1408 + r.val; rw [e.2]; omega

theorem iblk1 (t : Fin cfg0.N) (k : Fin 2048) (s : Fin 1024) :
    iblk m c 1 t (ix2 k s) = m ((c : Thread nD τ).loc main_arg1) (ix2 (⟨t.val % 2 * 2048 + k, by omega⟩ : Fin 4096) s) := by
  have e := (ind t).2.1
  unfold iblk
  rw [View.read_apply]
  show V m c main_arg1 _ = _
  unfold V
  congr 1
  funext a
  apply Fin.ext
  match a with
  | ⟨0, _⟩ => show win0_1.index t 0 * 2048 + 1 * k.val = t.val % 2 * 2048 + k.val; rw [e.1]; omega
  | ⟨1, _⟩ => show win0_1.index t 1 * 1024 + 1 * s.val = s.val; rw [e.2]; omega

/-- The two halves of a sum over the rows. -/
theorem sum_halves (f : Fin 4096 → EReal) :
    ∑ k : Fin 4096, f k = ∑ k : Fin 2048, f ⟨0 * 2048 + k, by omega⟩ + ∑ k : Fin 2048, f ⟨1 * 2048 + k, by omega⟩ := by
  rw [show (∑ k : Fin 4096, f k) = ∑ k : Fin (2048 + 2048), f k from rfl, Fin.sum_univ_add]
  refine congrArg₂ (· + ·) (Finset.sum_congr rfl fun k _ => congrArg f (Fin.ext ?_)) (Finset.sum_congr rfl fun k _ => congrArg f (Fin.ext ?_))
  · show k.val = 0 * 2048 + k.val
    omega
  · show 2048 + k.val = 1 * 2048 + k.val
    omega

/-- The gradient of the weight: row `r` of the first factor's columns against column `s` of the second. -/
def dw (x : S4096x2816.Idx → EReal) (y : S4096x1024.Idx → EReal) (r : Fin 2816) (s : Fin 1024) : EReal :=
  ∑ k : Fin 4096, x (ix2 k r) * y (ix2 k s)

/-- At an even point the scratch is left with the first half's product. -/
theorem scratch_even (n : ℕ) (hn : n < cfg0.N) (h : n % 2 = 0) :
    (outsAt0 m c n hn).2 = k0_pay1 (iblk m c 0 ⟨n, hn⟩) (iblk m c 1 ⟨n, hn⟩) := by
  rw [outsAt0_A m c ⟨n, hn⟩ h (by show ¬n % 2 = 1; omega) (by show ¬n % 2 = 1; omega)]
  dsimp only
  rw [sout_first]

/-- What an odd point writes back, at an index of its block. -/
theorem flushed_odd (t : Fin cfg0.N) (h : t.val % 2 = 1) (r : Fin 1408) (s : Fin 1024) :
    (dats m 0 c).flushed 2 t (ix2 r s) = dw (m ((c : Thread nD τ).loc main_arg0)) (m ((c : Thread nD τ).loc main_arg1))
      ⟨t.val / 2 * 1408 + r, by have : t.val < 4 := t.isLt; omega⟩ s := by
  have ht : t.val < 4 := t.isLt
  have hN : t.val - 1 < cfg0.N := show t.val - 1 < 4 by omega
  rw [flushed2_B m c t (by omega) h h, out_second, scratch_even m c (t.val - 1) hN (by omega)]
  refine (pay3_apply _ _ _ r s).trans ?_
  rw [pay1_apply]
  unfold dw
  rw [sum_halves]
  have e0 : (t.val - 1) % 2 = 0 := by omega
  have e1 : (t.val - 1) / 2 = t.val / 2 := by omega
  refine congrArg₂ (· + ·) (Finset.sum_congr rfl fun k _ => ?_) (Finset.sum_congr rfl fun k _ => ?_)
  · rw [iblk0, iblk1]
    simp only [e0, e1]
  · rw [iblk0, iblk1]
    simp only [h]

/-- The array that the kernel leaves. -/
theorem arr2 (t : Fin cfg0.N) (h : t.val % 2 = 1) (r : Fin 1408) (s : Fin 1024) :
    (dats m 0 c).arrAt 2 cfg0.N (ix2 (⟨t.val / 2 * 1408 + r, by have : t.val < 4 := t.isLt; omega⟩ : Fin 2816) s)
      = dw (m ((c : Thread nD τ).loc main_arg0)) (m ((c : Thread nD τ).loc main_arg1)) ⟨t.val / 2 * 1408 + r, by have : t.val < 4 := t.isLt; omega⟩ s := by
  have hb := congrFun (flushed2_eq m c t ((flush0_2 t).mpr h)) (ix2 r s)
  rw [View.read_apply, ← final2, flushed_odd m c t h] at hb
  have e := (ind t).2.2
  have hi : ((cfg0.win 2).blk t).view.emb (ix2 r s) = ix2 (⟨t.val / 2 * 1408 + r, by have : t.val < 4 := t.isLt; omega⟩ : Fin 2816) s := by
    funext a
    apply Fin.ext
    match a with
    | ⟨0, _⟩ => show win0_2.index t 0 * 1408 + 1 * r.val = t.val / 2 * 1408 + r.val; rw [e.1]; omega
    | ⟨1, _⟩ => show win0_2.index t 1 * 1024 + 1 * s.val = s.val; rw [e.2]; omega
  rw [hi] at hb
  exact hb.symm

/-- The array that the kernel leaves, at any index. -/
theorem arr2_apply (p : Fin 2816) (s : Fin 1024) :
    (dats m 0 c).arrAt 2 cfg0.N (ix2 p s) = dw (m ((c : Thread nD τ).loc main_arg0)) (m ((c : Thread nD τ).loc main_arg1)) p s := by
  obtain ⟨t, h, ht⟩ : ∃ t : Fin cfg0.N, t.val % 2 = 1 ∧ t.val / 2 = p.val / 1408 :=
    ⟨⟨2 * (p.val / 1408) + 1, show _ < 4 by omega⟩, show (2 * (p.val / 1408) + 1) % 2 = 1 by omega, show (2 * (p.val / 1408) + 1) / 2 = _ by omega⟩
  have := arr2 m c t h ⟨p.val % 1408, by omega⟩ s
  simp only [ht] at this
  have hp : (⟨p.val / 1408 * 1408 + p.val % 1408, by omega⟩ : Fin 2816) = p := Fin.ext (show p.val / 1408 * 1408 + p.val % 1408 = p.val by omega)
  rwa [hp] at this

end Cert.Kernel2Ideal.Ffn

namespace Cert.WeightClaim

open Idealize.ShloMosaic Idealize.SL.Sem Idealize.ShloMosaic.Pointwise

/-- The reference's result at an index. -/
theorem ref_apply (x0 : (⟨Cert.Reference2Ideal.S4096x2816, .bf16⟩ : BufTy).Contents (Elt Ideal)) (x1 : (⟨Cert.Reference2Ideal.S4096x1024, .bf16⟩ : BufTy).Contents (Elt Ideal))
    (r : Fin 2816) (s : Fin 1024) :
    Cert.Reference2Ideal.Read.val_main_v6 x0 x1 (ix2 r s) = Cert.Kernel2Ideal.Ffn.dw x0 x1 r s := by
  unfold Cert.Reference2Ideal.Read.val_main_v6 Cert.Reference2Ideal.Read.val_main_v5 Cert.Reference2Ideal.Read.val_main_v4 Cert.Reference2Ideal.Read.val_main_v3 Cert.Reference2Ideal.Read.val_main_v1
  pointwise
  exact Finset.sum_congr rfl fun k _ => mul_comm _ _

/-- Kernel and reference compute the same gradient. -/
theorem algebraic :
    Cert.algebraic_Kernel2Ideal_Reference2Ideal (hKernel2Ideal := Cert.Kernel2Ideal.Gen.facts) (hReference2Ideal := Cert.Reference2Ideal.Gen.facts) := by
  intro m g m' g' _ harg
  refine ⟨fun c => (Cert.Kernel2Ideal.Gen.dats m 0 c).arrAt 2 Cert.Kernel2Ideal.cfg0.N, Cert.Kernel2Ideal.Value.run_blocks m g,
    (θ_run _ _ _).mono (fun r h c => ?_) (Cert.Reference2Ideal.Value.run m' g')⟩
  obtain ⟨h0, hr⟩ := h c
  obtain ⟨e0, e1⟩ := harg c
  refine ⟨h0.trans ?_, hr⟩
  rw [Cert.Reference2Ideal.Read.val_main_v6_eq, e0, e1]
  funext j
  obtain ⟨p, s, rfl⟩ : ∃ (p : Fin 2816) (s : Fin 1024), j = ix2 p s := ⟨j 0, j 1, by funext a; match a with | ⟨0, _⟩ => rfl | ⟨1, _⟩ => rfl⟩
  exact (ref_apply _ _ p s).trans (Cert.Kernel2Ideal.Ffn.arr2_apply m c p s).symm

end Cert.WeightClaim

end
-- ==== Proof.Ffn.GateBlock.lean ====
/-
  The gradient of the gated product, one block of 512 rows and 1408 columns: the kernel forms it in three pieces of 384, 512
  and 512 columns, and each piece holds the same function of the block's inputs.
-/
module

public import proofs.«01_k».proof.Proof.Gen.Kernel3Ideal.Value
public import proofs.«01_k».proof.Proof.Ffn.GateMath
public import Idealize.ShloMosaic.Lib.Pointwise
public import Idealize.ShloMosaic.Lib.Pipeline.ValueKit
public import Idealize.ShloMosaic.Lib.Tactic

@[expose] public section

set_option maxRecDepth 16384

noncomputable section

namespace Cert.Kernel3Ideal.Ffn

open Cert.Kernel3Ideal Cert.Kernel3Ideal.Gen Cert.Kernel3Ideal.Value Idealize.ShloMosaic Idealize.ShloMosaic.TcCoe Idealize.SL.Sem Idealize.ShloMosaic.Pointwise Cert.Gate
open Idealize.ShloMosaic.Pipeline (Dat)

/-! The payloads of the three pieces, read at an index. -/

section
variable (x : Vec Ideal S512x1024 .bf16) (w : Vec Ideal S384x1024 .bf16) (g u : Vec Ideal S512x384 .bf16) (r : Fin 512) (s : Fin 384)

theorem pay7_apply : k0_pay7 x w g u (ix2 r s) = gateK (∑ k : Fin 1024, x (ix2 r k) * w (ix2 s k)) (g (ix2 r s)) (u (ix2 r s)) := by
  pointwise [k0_pay7, k0_pay4, k0_pay5, k0_pay6]
  try rw [show (1 : EReal) = one from one_eq.symm]
  rfl

theorem pay8_apply : k0_pay8 x w g (ix2 r s) = upK (∑ k : Fin 1024, x (ix2 r k) * w (ix2 s k)) (g (ix2 r s)) := by
  pointwise [k0_pay8, k0_pay4, k0_pay5, k0_pay6]
  try rw [show (1 : EReal) = one from one_eq.symm]
  rfl
end

section
variable (x : Vec Ideal S512x1024 .bf16) (w : Vec Ideal S512x1024 .bf16) (g u : Vec Ideal S512x512 .bf16) (r s : Fin 512)

theorem pay12_apply : k0_pay12 (k0_pay9 x w) g u (ix2 r s) = gateK (∑ k : Fin 1024, x (ix2 r k) * w (ix2 s k)) (g (ix2 r s)) (u (ix2 r s)) := by
  pointwise [k0_pay12, k0_pay9, k0_pay10, k0_pay11]
  try rw [show (1 : EReal) = one from one_eq.symm]
  rfl

theorem pay13_apply : k0_pay13 (k0_pay9 x w) g (ix2 r s) = upK (∑ k : Fin 1024, x (ix2 r k) * w (ix2 s k)) (g (ix2 r s)) := by
  pointwise [k0_pay13, k0_pay9, k0_pay10, k0_pay11]
  try rw [show (1 : EReal) = one from one_eq.symm]
  rfl

theorem pay2_apply : k0_pay2 (k0_pay14 x w) (k0_pay15 g) (k0_pay16 u) (k0_pay17 g) (FloatOps.ofBits FTy.f32 1056964608#32) (ix2 r s)
    = gateK (∑ k : Fin 1024, x (ix2 r k) * w (ix2 s k)) (g (ix2 r s)) (u (ix2 r s)) := by
  pointwise [k0_pay2, k0_pay1, k0_pay14, k0_pay15, k0_pay16, k0_pay17]
  try rw [show (1 : EReal) = one from one_eq.symm]
  rfl

theorem pay3_apply : k0_pay3 (k0_pay14 x w) (k0_pay15 g) (k0_pay17 g) (FloatOps.ofBits FTy.f32 1056964608#32) (ix2 r s)
    = upK (∑ k : Fin 1024, x (ix2 r k) * w (ix2 s k)) (g (ix2 r s)) := by
  pointwise [k0_pay3, k0_pay1, k0_pay14, k0_pay15, k0_pay17]
  try rw [show (1 : EReal) = one from one_eq.symm]
  rfl
end

/-- The hidden product's gradient in a block. -/
def hid (x : Vec Ideal S512x1024 .bf16) (w : Vec Ideal S1408x1024 .bf16) (y : S512x1408.Idx) : EReal :=
  ∑ k : Fin 1024, x (ix2 (y 0 : Fin 512) k) * w (ix2 (y 1 : Fin 1408) k)

/-- The block of the gate's gradient, as a function of the block's inputs. -/
def gateB (x : Vec Ideal S512x1024 .bf16) (w : Vec Ideal S1408x1024 .bf16) (g u : Vec Ideal S512x1408 .bf16) : Vec Ideal S512x1408 .bf16 :=
  fun y => gateK (hid x w y) (g y) (u y)

/-- The block of the other factor's gradient, as a function of the block's inputs. -/
def upB (x : Vec Ideal S512x1024 .bf16) (w : Vec Ideal S1408x1024 .bf16) (g : Vec Ideal S512x1408 .bf16) : Vec Ideal S512x1408 .bf16 :=
  fun y => upK (hid x w y) (g y)

/-- The three pieces cover the block. -/
theorem covered (y : S512x1408.Idx) : y ∈ (Rect.unit (s := S512x1408) ![0, 896] ![512, 512] inb_S512x1408_S512x512_0_896).set
    ∨ y ∈ (Rect.unit (s := S512x1408) ![0, 384] ![512, 512] inb_S512x1408_S512x512_0_384).set
    ∨ y ∈ (Rect.unit (s := S512x1408) ![0, 0] ![512, 384] inb_S512x1408_S512x384_0_0).set := by
  have h0 : (y 0).val < 512 := (y 0).isLt
  have h1 : (y 1).val < 1408 := (y 1).isLt
  by_cases c1 : 896 ≤ (y 1).val
  · exact .inl (Rect.mem_set_unit.2 fun a => match a with
      | ⟨0, _⟩ => show 0 ≤ (y 0).val ∧ (y 0).val < 0 + 512 by omega
      | ⟨1, _⟩ => show 896 ≤ (y 1).val ∧ (y 1).val < 896 + 512 by omega)
  · by_cases c2 : 384 ≤ (y 1).val
    · exact .inr (.inl (Rect.mem_set_unit.2 fun a => match a with
        | ⟨0, _⟩ => show 0 ≤ (y 0).val ∧ (y 0).val < 0 + 512 by omega
        | ⟨1, _⟩ => show 384 ≤ (y 1).val ∧ (y 1).val < 384 + 512 by omega))
    · exact .inr (.inr (Rect.mem_set_unit.2 fun a => match a with
        | ⟨0, _⟩ => show 0 ≤ (y 0).val ∧ (y 0).val < 0 + 512 by omega
        | ⟨1, _⟩ => show 0 ≤ (y 1).val ∧ (y 1).val < 0 + 384 by omega))

section
variable (x : Vec Ideal S512x1024 .bf16) (w : Vec Ideal S1408x1024 .bf16)

/-- The hidden product at an index of a piece: the piece's own product of the rows of `w` it loads. -/
theorem hid_piece {n o : ℕ} (inb : ∀ a, (![0, o] : Fin 2 → ℕ) a + (![512, n] : Fin 2 → ℕ) a ≤ S512x1408.size a)
    (inw : ∀ a, (![o, 0] : Fin 2 → ℕ) a + (![n, 1024] : Fin 2 → ℕ) a ≤ S1408x1024.size a) (r : Fin 512) (s : Fin n) :
    (∑ k : Fin 1024, x (ix2 r k) * View.ld w (Rect.unit ![o, 0] ![n, 1024] inw) (ix2 s k))
      = hid x w ((Rect.unit (s := S512x1408) ![0, o] ![512, n] inb).emb (ix2 r s)) := by
  unfold hid
  refine Finset.sum_congr rfl fun k _ => congrArg₂ (· * ·) (congrArg x ?_) (congrArg w ?_)
  · funext a
    apply Fin.ext
    match a with
    | ⟨0, _⟩ => show r.val = 0 + 1 * r.val; omega
    | ⟨1, _⟩ => rfl
  · funext a
    apply Fin.ext
    match a with
    | ⟨0, _⟩ => rfl
    | ⟨1, _⟩ => show 0 + 1 * k.val = k.val; omega
end

section
variable (c : Dev nD) (i : grid0.Coords)
  (a3 : Memref sig .tc .vmem S512x1024 .bf16) (h3 : a3.IsWhole) (a4 : Memref sig .tc .vmem S1408x1024 .bf16) (h4 : a4.IsWhole)
  (a5 : Memref sig .tc .vmem S512x1408 .bf16) (h5 : a5.IsWhole) (a6 : Memref sig .tc .vmem S512x1408 .bf16) (h6 : a6.IsWhole)
  (a7 : Memref sig .tc .vmem S512x1408 .bf16) (h7 : a7.IsWhole) (a8 : Memref sig .tc .vmem S512x1408 .bf16) (h8 : a8.IsWhole)
  (x : Vec Ideal S512x1024 .bf16) (w : Vec Ideal S1408x1024 .bf16) (g u : Vec Ideal S512x1408 .bf16) (y : S512x1408.Idx)

/-- The block of the gradient of the gate's argument. -/
theorem out_gate : out0_A_4 (F := Ideal) c i a3 h3 a4 h4 a5 h5 a6 h6 a7 h7 a8 h8 x w g u y = gateK (hid x w y) (g y) (u y) := by
  frame_out
  refine View.canon_apply_of_pieces (gateB x w g u) _ (fun p hp z => ?_) y ?_
  · simp only [List.mem_cons, List.not_mem_nil, or_false] at hp
    rcases hp with rfl | rfl | rfl
    · obtain ⟨r, s, rfl⟩ : ∃ (r s : Fin 512), z = ix2 r s := ⟨z 0, z 1, by funext a; match a with | ⟨0, _⟩ => rfl | ⟨1, _⟩ => rfl⟩
      refine (pay2_apply _ _ _ _ r s).trans ?_
      rw [hid_piece (n := 512) (o := 896) x w inb_S512x1408_S512x512_0_896]
      rfl
    · obtain ⟨r, s, rfl⟩ : ∃ (r s : Fin 512), z = ix2 r s := ⟨z 0, z 1, by funext a; match a with | ⟨0, _⟩ => rfl | ⟨1, _⟩ => rfl⟩
      refine (pay12_apply _ _ _ _ r s).trans ?_
      rw [hid_piece (n := 512) (o := 384) x w inb_S512x1408_S512x512_0_384]
      rfl
    · obtain ⟨r, s, rfl⟩ : ∃ (r : Fin 512) (s : Fin 384), z = ix2 r s := ⟨z 0, z 1, by funext a; match a with | ⟨0, _⟩ => rfl | ⟨1, _⟩ => rfl⟩
      refine (pay7_apply _ _ _ _ r s).trans ?_
      rw [hid_piece (n := 384) (o := 0) x w inb_S512x1408_S512x384_0_0]
      rfl
  · rcases covered y with h | h | h
    · exact ⟨_, .head _, h⟩
    · exact ⟨_, .tail _ (.head _), h⟩
    · exact ⟨_, .tail _ (.tail _ (.head _)), h⟩

/-- The block of the gradient of the other factor. -/
theorem out_up : out0_A_5 (F := Ideal) c i a3 h3 a4 h4 a5 h5 a6 h6 a7 h7 a8 h8 x w g u y = upK (hid x w y) (g y) := by
  frame_out
  refine View.canon_apply_of_pieces (upB x w g) _ (fun p hp z => ?_) y ?_
  · simp only [List.mem_cons, List.not_mem_nil, or_false] at hp
    rcases hp with rfl | rfl | rfl
    · obtain ⟨r, s, rfl⟩ : ∃ (r s : Fin 512), z = ix2 r s := ⟨z 0, z 1, by funext a; match a with | ⟨0, _⟩ => rfl | ⟨1, _⟩ => rfl⟩
      refine (pay3_apply _ _ _ r s).trans ?_
      rw [hid_piece (n := 512) (o := 896) x w inb_S512x1408_S512x512_0_896]
      rfl
    · obtain ⟨r, s, rfl⟩ : ∃ (r s : Fin 512), z = ix2 r s := ⟨z 0, z 1, by funext a; match a with | ⟨0, _⟩ => rfl | ⟨1, _⟩ => rfl⟩
      refine (pay13_apply _ _ _ r s).trans ?_
      rw [hid_piece (n := 512) (o := 384) x w inb_S512x1408_S512x512_0_384]
      rfl
    · obtain ⟨r, s, rfl⟩ : ∃ (r : Fin 512) (s : Fin 384), z = ix2 r s := ⟨z 0, z 1, by funext a; match a with | ⟨0, _⟩ => rfl | ⟨1, _⟩ => rfl⟩
      refine (pay8_apply _ _ _ r s).trans ?_
      rw [hid_piece (n := 384) (o := 0) x w inb_S512x1408_S512x384_0_0]
      rfl
  · rcases covered y with h | h | h
    · exact ⟨_, .head _, h⟩
    · exact ⟨_, .tail _ (.head _), h⟩
    · exact ⟨_, .tail _ (.tail _ (.head _)), h⟩

end

end Cert.Kernel3Ideal.Ffn

end
-- ==== Proof.Ffn.Gate.lean ====
/-
  The gradient of the gated product: the two arrays that the kernel leaves, the reference's two results, and that they agree.
-/
module

public import proofs.«01_k».proof.Defs
public import proofs.«01_k».proof.Proof.Ffn.GateBlock
public import proofs.«01_k».proof.Proof.Xa.Equation
public import proofs.«01_k».proof.Proof.Gen.Reference3Ideal.Run
public import proofs.«01_k».proof.Proof.Gen.Reference3Ideal.Read

@[expose] public section

set_option maxRecDepth 16384

noncomputable section

namespace Cert.Kernel3Ideal.Ffn

open Cert.Kernel3Ideal Cert.Kernel3Ideal.Gen Cert.Kernel3Ideal.Value Idealize.ShloMosaic Idealize.ShloMosaic.TcCoe Idealize.SL.Sem Idealize.ShloMosaic.Pointwise Cert.Gate
open Idealize.ShloMosaic.Pipeline (Dat)

variable (m : (ℓ : Loc nD τ sig) → Buf (Elt Ideal) ℓ) (c : Dev nD)

theorem ind : ∀ t : Fin cfg0.N,
    (win0_0.index t 0 = t.val % 8 ∧ win0_0.index t 1 = 0) ∧ (win0_1.index t 0 = t.val / 8 ∧ win0_1.index t 1 = 0)
    ∧ (win0_2.index t 0 = t.val % 8 ∧ win0_2.index t 1 = t.val / 8) ∧ (win0_3.index t 0 = t.val % 8 ∧ win0_3.index t 1 = t.val / 8)
    ∧ (win0_4.index t 0 = t.val % 8 ∧ win0_4.index t 1 = t.val / 8) ∧ (win0_5.index t 0 = t.val % 8 ∧ win0_5.index t 1 = t.val / 8) :=
  (by decide +kernel : ∀ t : Fin grid0.N,
    (win0_0.index t 0 = t.val % 8 ∧ win0_0.index t 1 = 0) ∧ (win0_1.index t 0 = t.val / 8 ∧ win0_1.index t 1 = 0)
    ∧ (win0_2.index t 0 = t.val % 8 ∧ win0_2.index t 1 = t.val / 8) ∧ (win0_3.index t 0 = t.val % 8 ∧ win0_3.index t 1 = t.val / 8)
    ∧ (win0_4.index t 0 = t.val % 8 ∧ win0_4.index t 1 = t.val / 8) ∧ (win0_5.index t 0 = t.val % 8 ∧ win0_5.index t 1 = t.val / 8))

/-- The array's index at an index of a grid point's block. -/
def at' (t : Fin cfg0.N) (r : Fin 512) (s : Fin 1408) : S4096x2816.Idx :=
  ix2 (⟨t.val % 8 * 512 + r, by omega⟩ : Fin 4096) (⟨t.val / 8 * 1408 + s, by have : t.val < 16 := t.isLt; omega⟩ : Fin 2816)

/-- The hidden product's gradient at an index of the array. -/
def hidden (x : S4096x1024.Idx → EReal) (w : S2816x1024.Idx → EReal) (p : Fin 4096) (q : Fin 2816) : EReal :=
  ∑ k : Fin 1024, x (ix2 p k) * w (ix2 q k)

theorem iblk0 (t : Fin cfg0.N) (r : Fin 512) (k : Fin 1024) :
    iblk m c 0 t (ix2 r k) = m ((c : Thread nD τ).loc main_arg0) (ix2 (⟨t.val % 8 * 512 + r, by omega⟩ : Fin 4096) k) := by
  have e := (ind t).1
  unfold iblk
  rw [View.read_apply]
  show V m c main_arg0 _ = _
  unfold V
  congr 1
  funext a
  apply Fin.ext
  match a with
  | ⟨0, _⟩ => show win0_0.index t 0 * 512 + 1 * r.val = t.val % 8 * 512 + r.val; rw [e.1]; omega
  | ⟨1, _⟩ => show win0_0.index t 1 * 1024 + 1 * k.val = k.val; rw [e.2]; omega

theorem iblk1 (t : Fin cfg0.N) (s : Fin 1408) (k : Fin 1024) :
    iblk m c 1 t (ix2 s k) = m ((c : Thread nD τ).loc main_arg1) (ix2 (⟨t.val / 8 * 1408 + s, by have : t.val < 16 := t.isLt; omega⟩ : Fin 2816) k) := by
  have e := (ind t).2.1
  unfold iblk
  rw [View.read_apply]
  show V m c main_arg1 _ = _
  unfold V
  congr 1
  funext a
  apply Fin.ext
  match a with
  | ⟨0, _⟩ => show win0_1.index t 0 * 1408 + 1 * s.val = t.val / 8 * 1408 + s.val; rw [e.1]; omega
  | ⟨1, _⟩ => show win0_1.index t 1 * 1024 + 1 * k.val = k.val; rw [e.2]; omega

theorem iblk2 (t : Fin cfg0.N) (r : Fin 512) (s : Fin 1408) :
    iblk m c 2 t (ix2 r s) = m ((c : Thread nD τ).loc main_arg2) (at' t r s) := by
  have e := (ind t).2.2.1
  unfold iblk
  rw [View.read_apply]
  show V m c main_arg2 _ = _
  unfold V
  congr 1
  funext a
  apply Fin.ext
  match a with
  | ⟨0, _⟩ => show win0_2.index t 0 * 512 + 1 * r.val = t.val % 8 * 512 + r.val; rw [e.1]; omega
  | ⟨1, _⟩ => show win0_2.index t 1 * 1408 + 1 * s.val = t.val / 8 * 1408 + s.val; rw [e.2]; omega

theorem iblk3 (t : Fin cfg0.N) (r : Fin 512) (s : Fin 1408) :
    iblk m c 3 t (ix2 r s) = m ((c : Thread nD τ).loc main_arg3) (at' t r s) := by
  have e := (ind t).2.2.2.1
  unfold iblk
  rw [View.read_apply]
  show V m c main_arg3 _ = _
  unfold V
  congr 1
  funext a
  apply Fin.ext
  match a with
  | ⟨0, _⟩ => show win0_3.index t 0 * 512 + 1 * r.val = t.val % 8 * 512 + r.val; rw [e.1]; omega
  | ⟨1, _⟩ => show win0_3.index t 1 * 1408 + 1 * s.val = t.val / 8 * 1408 + s.val; rw [e.2]; omega

/-- The hidden product of a point's blocks is the arrays' at the block's place. -/
theorem hid_iblk (t : Fin cfg0.N) (r : Fin 512) (s : Fin 1408) :
    hid (iblk m c 0 t) (iblk m c 1 t) (ix2 r s)
      = hidden (m ((c : Thread nD τ).loc main_arg0)) (m ((c : Thread nD τ).loc main_arg1)) ⟨t.val % 8 * 512 + r, by omega⟩
          ⟨t.val / 8 * 1408 + s, by have : t.val < 16 := t.isLt; omega⟩ :=
  Finset.sum_congr rfl fun k _ => congrArg₂ (· * ·) (iblk0 m c t r k) (iblk1 m c t s k)

/-- Every index of the array lies in a grid point's block. -/
theorem exists_at (p : Fin 4096) (q : Fin 2816) : ∃ (t : Fin cfg0.N) (r : Fin 512) (s : Fin 1408),
    p = ⟨t.val % 8 * 512 + r, by omega⟩ ∧ q = ⟨t.val / 8 * 1408 + s, by have : t.val < 16 := t.isLt; omega⟩ :=
  ⟨⟨q.val / 1408 * 8 + p.val / 512, show _ < 16 by omega⟩, ⟨p.val % 512, by omega⟩, ⟨q.val % 1408, by omega⟩,
    Fin.ext (show p.val = (q.val / 1408 * 8 + p.val / 512) % 8 * 512 + p.val % 512 by omega),
    Fin.ext (show q.val = (q.val / 1408 * 8 + p.val / 512) / 8 * 1408 + q.val % 1408 by omega)⟩

/-- The array of the gradient of the gate's argument. -/
theorem arr4 (p : Fin 4096) (q : Fin 2816) : (dats m 0 c).arrAt 4 cfg0.N (ix2 p q)
      = gateK (hidden (m ((c : Thread nD τ).loc main_arg0)) (m ((c : Thread nD τ).loc main_arg1)) p q)
          (m ((c : Thread nD τ).loc main_arg2) (ix2 p q)) (m ((c : Thread nD τ).loc main_arg3) (ix2 p q)) := by
  obtain ⟨t, r, s, hp, hq⟩ := exists_at p q
  have hb := congrFun (blocks4 m c t (flush0_4 _)) (ix2 r s)
  rw [View.read_apply, flushed4_A] at hb
  have e := (ind t).2.2.2.2.1
  have hi : ((cfg0.win 4).blk t).view.emb (ix2 r s) = at' t r s := by
    funext a
    apply Fin.ext
    match a with
    | ⟨0, _⟩ => show win0_4.index t 0 * 512 + 1 * r.val = t.val % 8 * 512 + r.val; rw [e.1]; omega
    | ⟨1, _⟩ => show win0_4.index t 1 * 1408 + 1 * s.val = t.val / 8 * 1408 + s.val; rw [e.2]; omega
  rw [hi] at hb
  rw [hp, hq]
  refine hb.trans ((out_gate c _ _ _ _ _ _ _ _ _ _ _ _ _ _ _ _ _ (ix2 r s)).trans ?_)
  rw [hid_iblk, iblk2, iblk3]
  rfl

/-- The array of the gradient of the other factor. -/
theorem arr5 (p : Fin 4096) (q : Fin 2816) : (dats m 0 c).arrAt 5 cfg0.N (ix2 p q)
      = upK (hidden (m ((c : Thread nD τ).loc main_arg0)) (m ((c : Thread nD τ).loc main_arg1)) p q)
          (m ((c : Thread nD τ).loc main_arg2) (ix2 p q)) := by
  obtain ⟨t, r, s, hp, hq⟩ := exists_at p q
  have hb := congrFun (blocks5 m c t (flush0_5 _)) (ix2 r s)
  rw [View.read_apply, flushed5_A] at hb
  have e := (ind t).2.2.2.2.2
  have hi : ((cfg0.win 5).blk t).view.emb (ix2 r s) = at' t r s := by
    funext a
    apply Fin.ext
    match a with
    | ⟨0, _⟩ => show win0_5.index t 0 * 512 + 1 * r.val = t.val % 8 * 512 + r.val; rw [e.1]; omega
    | ⟨1, _⟩ => show win0_5.index t 1 * 1408 + 1 * s.val = t.val / 8 * 1408 + s.val; rw [e.2]; omega
  rw [hi] at hb
  rw [hp, hq]
  refine hb.trans ((out_up c _ _ _ _ _ _ _ _ _ _ _ _ _ _ _ _ _ (ix2 r s)).trans ?_)
  rw [hid_iblk, iblk2]
  rfl

end Cert.Kernel3Ideal.Ffn

namespace Cert.GateClaim

open Idealize.ShloMosaic Idealize.SL.Sem Idealize.ShloMosaic.Pointwise Cert.Reference3Ideal Cert.Reference3Ideal.Read Cert.Gate Cert.AttnGrad

section
variable (x0 : (⟨S4096x1024, .bf16⟩ : BufTy).Contents (Elt Ideal)) (x1 : (⟨S2816x1024, .bf16⟩ : BufTy).Contents (Elt Ideal))
  (x2 x3 : (⟨S4096x2816, .bf16⟩ : BufTy).Contents (Elt Ideal)) (p : Fin 4096) (q : Fin 2816)

theorem v22_apply : val_main_v2_2 x2 (ix2 p q) = sigR (x2 (ix2 p q)) := by
  pointwise [val_main_v2_2, val_main_call0_v4, val_main_call0_v3, val_main_call0_v2, val_main_call0_v1, val_main_call0_v0, val_main_v0, val_main_call0_cst, val_main_call0_cst_0]
  rw [show (1 : EReal) = one from one_eq.symm]
  rfl

theorem v7_apply : val_main_v7 x0 x1 (ix2 p q) = Cert.Kernel3Ideal.Ffn.hidden x0 x1 p q := by
  pointwise [val_main_v7, val_main_v6, val_main_v4]
  rfl

theorem v11_apply : val_main_v11 x0 x1 x2 x3 (ix2 p q) = gateR (Cert.Kernel3Ideal.Ffn.hidden x0 x1 p q) (x2 (ix2 p q)) (x3 (ix2 p q)) := by
  rw [← v7_apply]
  unfold gateR
  rw [← v22_apply]
  rfl

theorem v12_apply : val_main_v12 x0 x1 x2 (ix2 p q) = upR (Cert.Kernel3Ideal.Ffn.hidden x0 x1 p q) (x2 (ix2 p q)) := by
  rw [← v7_apply]
  unfold upR
  rw [← v22_apply]
  rfl
end

/-- Kernel and reference compute the same two gradients, the three finite arguments being finite. -/
theorem algebraic [hPre : Cert.Pre_finite_hidden.Facts] :
    Cert.algebraic_Kernel3Ideal_Reference3Ideal_pre_finite_hidden (hKernel3Ideal := Cert.Kernel3Ideal.Gen.facts)
      (hReference3Ideal := Cert.Reference3Ideal.Gen.facts) (hPre_finite_hidden := hPre) := by
  intro m g m' g' hpre harg
  have f0 : ∀ (c : Dev Cert.Kernel3Ideal.nD) i, Fin' (m ((c.tc : Thread Cert.Kernel3Ideal.nD Cert.Kernel3Ideal.τ).loc Cert.Kernel3Ideal.main_arg0) i) := fun c i => by
    have h := congrFun (hpre c).1 i
    simp only [Cert.Pre_finite_hidden.fn] at h
    pointwise at h
    exact Cert.XaClaim.fin_of_lt _ h
  have f1 : ∀ (c : Dev Cert.Kernel3Ideal.nD) i, Fin' (m ((c.tc : Thread Cert.Kernel3Ideal.nD Cert.Kernel3Ideal.τ).loc Cert.Kernel3Ideal.main_arg1) i) := fun c i => by
    have h := congrFun (hpre c).2.1 i
    simp only [Cert.Pre_finite_hidden.fn] at h
    pointwise at h
    exact Cert.XaClaim.fin_of_lt _ h
  have f3 : ∀ (c : Dev Cert.Kernel3Ideal.nD) i, Fin' (m ((c.tc : Thread Cert.Kernel3Ideal.nD Cert.Kernel3Ideal.τ).loc Cert.Kernel3Ideal.main_arg3) i) := fun c i => by
    have h := congrFun (hpre c).2.2 i
    simp only [Cert.Pre_finite_hidden.fn] at h
    pointwise at h
    exact Cert.XaClaim.fin_of_lt _ h
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    Cert.Kernel3Ideal.Value.run_blocks m g, (θ_run _ _ _).mono (fun r h c => ?_) (Cert.Reference3Ideal.Value.run m' g')⟩
  obtain ⟨h0, h1, hr⟩ := h c
  obtain ⟨e0, e1, e2, e3⟩ := harg c
  refine ⟨h0.trans ?_, h1.trans ?_, hr⟩
  · rw [Cert.Reference3Ideal.Read.val_main_v11_eq, e0, e1, e2, e3]
    funext j
    obtain ⟨p, q, rfl⟩ : ∃ (p : Fin 4096) (q : Fin 2816), j = ix2 p q := ⟨j 0, j 1, by funext a; match a with | ⟨0, _⟩ => rfl | ⟨1, _⟩ => rfl⟩
    refine (v11_apply _ _ _ _ p q).trans (Eq.trans ?_ (Cert.Kernel3Ideal.Ffn.arr4 m c p q).symm)
    exact (gateK_eq (Fin'.sum _ _ fun k => (f0 c _).mul (f1 c _)) (f3 c _) _).symm
  · rw [Cert.Reference3Ideal.Read.val_main_v12_eq, e0, e1, e2]
    funext j
    obtain ⟨p, q, rfl⟩ : ∃ (p : Fin 4096) (q : Fin 2816), j = ix2 p q := ⟨j 0, j 1, by funext a; match a with | ⟨0, _⟩ => rfl | ⟨1, _⟩ => rfl⟩
    refine (v12_apply _ _ _ p q).trans (Eq.trans ?_ (Cert.Kernel3Ideal.Ffn.arr5 m c p q).symm)
    exact (upK_eq _ _).symm

end Cert.GateClaim

end
-- ==== Proof.Ffn.NormBlock.lean ====
/-
  The gradient that enters the feed-forward layer, one block of 256 rows: the product's gradient goes through the norm of each
  row, and the norm's weight collects one row of sums.
-/
module

public import proofs.«01_k».proof.Proof.Gen.Kernel4Ideal.Value
public import proofs.«01_k».proof.Proof.Ffn.NormMath
public import Idealize.ShloMosaic.Lib.Pointwise
public import Idealize.ShloMosaic.Lib.Pipeline.ValueKit
public import Idealize.ShloMosaic.Lib.Tactic

@[expose] public section

set_option maxRecDepth 16384

noncomputable section

namespace Cert.Kernel4Ideal.Ffn

open Cert.Kernel4Ideal Cert.Kernel4Ideal.Gen Cert.Kernel4Ideal.Value Idealize.ShloMosaic Idealize.ShloMosaic.TcCoe Idealize.SL.Sem Idealize.ShloMosaic.Pointwise Cert.Norm
open Idealize.ShloMosaic.Pipeline (Dat)

section
variable (dg : Vec Ideal S256x2816 .bf16) (wg : Vec Ideal S2816x1024 .bf16) (du : Vec Ideal S256x2816 .bf16) (wu : Vec Ideal S2816x1024 .bf16)
  (x y : Vec Ideal S256x1024 .f32) (g : Vec Ideal S1x1024 .f32) (r : Fin 256) (j : Fin 1024)

/-- The gradient of the normalised row, of two products. -/
def dn (r : Fin 256) (j : Fin 1024) : EReal :=
  (∑ k : Fin 2816, dg (ix2 r k) * wg (ix2 k j)) + ∑ k : Fin 2816, du (ix2 r k) * wu (ix2 k j)

theorem pay3_apply : k0_pay3 dg wg du wu (ix2 r j) = dn dg wg du wu r j := by
  pointwise [k0_pay3]
  rfl

theorem pay4_apply : k0_pay4 x (ix2 r 0) = root width fun k => x (ix2 r k) := by
  pointwise [k0_pay4]
  rfl

theorem pay5_apply : k0_pay5 x (ix2 r j) = x (ix2 r j) * root width fun k => x (ix2 r k) := by
  rw [← pay4_apply]
  unfold k0_pay5
  pointwise

theorem pay6_apply : k0_pay6 dg wg du wu x y g (ix2 r j)
    = dxK width (fun k => dn dg wg du wu r k * g (ix2 0 k)) (fun k => x (ix2 r k)) (y (ix2 r j)) j := by
  unfold k0_pay6 dxK
  pointwise
  simp only [pay3_apply, pay5_apply, pay4_apply]
  rfl

theorem pay2_apply (v : Vec Ideal S1x1024 .f32) : k0_pay2 (k0_pay3 dg wg du wu) (k0_pay5 x) v (ix2 0 j)
    = v (ix2 0 j) + ∑ r : Fin 256, dn dg wg du wu r j * (x (ix2 r j) * root width fun k => x (ix2 r k)) := by
  unfold k0_pay2
  pointwise
  simp only [pay3_apply, pay5_apply]

end

section
variable (c : Dev nD) (i : grid0.Coords)
  (a3 : Memref sig .tc .vmem S256x2816 .bf16) (h3 : a3.IsWhole) (a4 : Memref sig .tc .vmem S2816x1024 .bf16) (h4 : a4.IsWhole)
  (a5 : Memref sig .tc .vmem S256x2816 .bf16) (h5 : a5.IsWhole) (a6 : Memref sig .tc .vmem S2816x1024 .bf16) (h6 : a6.IsWhole)
  (a7 : Memref sig .tc .vmem S256x1024 .f32) (h7 : a7.IsWhole) (a8 : Memref sig .tc .vmem S256x1024 .f32) (h8 : a8.IsWhole)
  (a9 : Memref sig .tc .vmem S1x1024 .f32) (h9 : a9.IsWhole) (a10 : Memref sig .tc .vmem S256x1024 .f32) (h10 : a10.IsWhole)
  (a11 : Memref sig .tc .vmem S1x1024 .f32) (h11 : a11.IsWhole)
  (dg : Vec Ideal S256x2816 .bf16) (wg : Vec Ideal S2816x1024 .bf16) (du : Vec Ideal S256x2816 .bf16) (wu : Vec Ideal S2816x1024 .bf16)
  (x y : Vec Ideal S256x1024 .f32) (g v : Vec Ideal S1x1024 .f32)

theorem outA7 (q) : out0_A_7 (F := Ideal) c i a3 h3 a4 h4 a5 h5 a6 h6 a7 h7 a8 h8 a9 h9 a10 h10 a11 h11 q dg wg du wu x y g = k0_pay6 dg wg du wu x y g := by
  frame_out

theorem outB7 (q) : out0_B_7 (F := Ideal) c i a3 h3 a4 h4 a5 h5 a6 h6 a7 h7 a8 h8 a9 h9 a10 h10 a11 h11 q dg wg du wu x y g v = k0_pay6 dg wg du wu x y g := by
  frame_out

theorem outA8 (q) : out0_A_8 (F := Ideal) c i a3 h3 a4 h4 a5 h5 a6 h6 a7 h7 a8 h8 a9 h9 a10 h10 a11 h11 q dg wg du wu x y g
    = k0_pay2 (k0_pay3 dg wg du wu) (k0_pay5 x) (k0_pay1 (F := Ideal)) := by
  frame_out

theorem outB8 (q) : out0_B_8 (F := Ideal) c i a3 h3 a4 h4 a5 h5 a6 h6 a7 h7 a8 h8 a9 h9 a10 h10 a11 h11 q dg wg du wu x y g v
    = k0_pay2 (k0_pay3 dg wg du wu) (k0_pay5 x) v := by
  frame_out

end

end Cert.Kernel4Ideal.Ffn

end
-- ==== Proof.Ffn.NormArray.lean ====
/-
  The two arrays that the kernel leaves: the gradient of the rows, tile by tile, and the gradient of the norm's weight, summed
  over the sixteen tiles of rows.
-/
module

public import proofs.«01_k».proof.Proof.Ffn.NormBlock

@[expose] public section

set_option maxRecDepth 16384

noncomputable section

namespace Cert.Kernel4Ideal.Ffn

open Cert.Kernel4Ideal Cert.Kernel4Ideal.Gen Cert.Kernel4Ideal.Value Idealize.ShloMosaic Idealize.ShloMosaic.TcCoe Idealize.SL.Sem Idealize.ShloMosaic.Pointwise Cert.Norm
open Idealize.ShloMosaic.Pipeline (Dat)

variable (m : (ℓ : Loc nD τ sig) → Buf (Elt Ideal) ℓ) (c : Dev nD)

theorem ind : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = t.val ∧ win0_7.index t 1 = 0)
    ∧ (win0_8.index t 0 = 0 ∧ win0_8.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = t.val ∧ win0_7.index t 1 = 0)
    ∧ (win0_8.index t 0 = 0 ∧ win0_8.index t 1 = 0))

/-- The array's row at a row of a grid point's block. -/
def row (t : Fin cfg0.N) (r : Fin 256) : Fin 4096 := ⟨t.val * 256 + r, by have : t.val < 16 := t.isLt; omega⟩

theorem iblk0 (t : Fin cfg0.N) (r : Fin 256) (k : Fin 2816) : iblk m c 0 t (ix2 r k) = m ((c : Thread nD τ).loc main_arg0) (ix2 (row t r) k) := by
  have e := (ind t).1
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 2816 + 1 * k.val = k.val; rw [e.2]; omega

theorem iblk1 (t : Fin cfg0.N) (k : Fin 2816) (j : Fin 1024) : iblk m c 1 t (ix2 k j) = m ((c : Thread nD τ).loc main_arg2) (ix2 k j) := by
  have e := (ind t).2.1
  unfold iblk
  rw [View.read_apply]
  show V m c main_arg2 _ = _
  rw [V_main_arg2]
  congr 1
  funext a
  apply Fin.ext
  match a with
  | ⟨0, _⟩ => show win0_1.index t 0 * 2816 + 1 * k.val = k.val; rw [e.1]; omega
  | ⟨1, _⟩ => show win0_1.index t 1 * 1024 + 1 * j.val = j.val; rw [e.2]; omega

theorem iblk2 (t : Fin cfg0.N) (r : Fin 256) (k : Fin 2816) : iblk m c 2 t (ix2 r k) = m ((c : Thread nD τ).loc main_arg1) (ix2 (row t r) k) := by
  have e := (ind t).2.2.1
  unfold iblk
  rw [View.read_apply]
  show V m c main_arg1 _ = _
  rw [V_main_arg1]
  congr 1
  funext a
  apply Fin.ext
  match a with
  | ⟨0, _⟩ => show win0_2.index t 0 * 256 + 1 * r.val = t.val * 256 + r.val; rw [e.1]; omega
  | ⟨1, _⟩ => show win0_2.index t 1 * 2816 + 1 * k.val = k.val; rw [e.2]; omega

theorem iblk3 (t : Fin cfg0.N) (k : Fin 2816) (j : Fin 1024) : iblk m c 3 t (ix2 k j) = m ((c : Thread nD τ).loc main_arg3) (ix2 k j) := by
  have e := (ind t).2.2.2.1
  unfold iblk
  rw [View.read_apply]
  show V m c main_arg3 _ = _
  rw [V_main_arg3]
  congr 1
  funext a
  apply Fin.ext
  match a with
  | ⟨0, _⟩ => show win0_3.index t 0 * 2816 + 1 * k.val = k.val; rw [e.1]; omega
  | ⟨1, _⟩ => show win0_3.index t 1 * 1024 + 1 * j.val = j.val; rw [e.2]; omega

theorem iblk4 (t : Fin cfg0.N) (r : Fin 256) (j : Fin 1024) : iblk m c 4 t (ix2 r j) = m ((c : Thread nD τ).loc main_arg4) (ix2 (row t r) j) := by
  have e := (ind t).2.2.2.2.1
  unfold iblk
  rw [View.read_apply]
  show V m c main_arg4 _ = _
  rw [V_main_arg4]
  congr 1
  funext a
  apply Fin.ext
  match a with
  | ⟨0, _⟩ => show win0_4.index t 0 * 256 + 1 * r.val = t.val * 256 + r.val; rw [e.1]; omega
  | ⟨1, _⟩ => show win0_4.index t 1 * 1024 + 1 * j.val = j.val; rw [e.2]; omega

theorem iblk5 (t : Fin cfg0.N) (r : Fin 256) (j : Fin 1024) : iblk m c 5 t (ix2 r j) = m ((c : Thread nD τ).loc main_arg5) (ix2 (row t r) j) := by
  have e := (ind t).2.2.2.2.2.1
  unfold iblk
  rw [View.read_apply]
  show V m c main_arg5 _ = _
  rw [V_main_arg5]
  congr 1
  funext a
  apply Fin.ext
  match a with
  | ⟨0, _⟩ => show win0_5.index t 0 * 256 + 1 * r.val = t.val * 256 + r.val; rw [e.1]; omega
  | ⟨1, _⟩ => show win0_5.index t 1 * 1024 + 1 * j.val = j.val; rw [e.2]; omega

/-- The norm's weight, laid out as one row by the host. -/
theorem iblk6 (t : Fin cfg0.N) (j : Fin 1024) : iblk m c 6 t (ix2 0 j) = m ((c : Thread nD τ).loc main_arg6) (ix1 j) := by
  have e := (ind t).2.2.2.2.2.2.1
  unfold iblk
  rw [View.read_apply]
  have hi : ((cfg0.win 6).blk t).view.emb (ix2 0 j) = ix2 (0 : Fin 1) j := by
    funext a
    apply Fin.ext
    match a with
    | ⟨0, _⟩ => show win0_6.index t 0 * 1 + 1 * 0 = 0; rw [e.1]
    | ⟨1, _⟩ => show win0_6.index t 1 * 1024 + 1 * j.val = j.val; rw [e.2]; omega
  rw [hi]
  show V m c main_v0 _ = _
  have hv : V m c main_v0 = shapeCast S1x1024 (m ((c : Thread nD τ).loc main_arg6)) shapeCasts_S1024_S1x1024 := by
    unfold V hostOps0
    simp only [StableHlo.after_cons, StableHlo.after_nil]
    rfl
  refine (congrFun hv _).trans ?_
  pointwise

/-- The product's gradient at an index of the array. -/
def dnA (dg : S4096x2816.Idx → EReal) (wg : S2816x1024.Idx → EReal) (du : S4096x2816.Idx → EReal) (wu : S2816x1024.Idx → EReal)
    (p : Fin 4096) (j : Fin 1024) : EReal :=
  (∑ k : Fin 2816, dg (ix2 p k) * wg (ix2 k j)) + ∑ k : Fin 2816, du (ix2 p k) * wu (ix2 k j)

/-- The gradient of the rows, and of the norm's weight, as functions of the seven arguments. -/
def dxA (dg : S4096x2816.Idx → EReal) (du : S4096x2816.Idx → EReal) (wg : S2816x1024.Idx → EReal) (wu : S2816x1024.Idx → EReal)
    (x y : S4096x1024.Idx → EReal) (g : S1024.Idx → EReal) (p : Fin 4096) (j : Fin 1024) : EReal :=
  dxK width (fun k => dnA dg wg du wu p k * g (ix1 k)) (fun k => x (ix2 p k)) (y (ix2 p j)) j

def dgTerm (dg : S4096x2816.Idx → EReal) (du : S4096x2816.Idx → EReal) (wg : S2816x1024.Idx → EReal) (wu : S2816x1024.Idx → EReal)
    (x : S4096x1024.Idx → EReal) (j : Fin 1024) (p : Fin 4096) : EReal :=
  dnA dg wg du wu p j * (x (ix2 p j) * root width fun k => x (ix2 p k))

/-- The seven arguments read at the gradient. -/
def dxM (p : Fin 4096) (j : Fin 1024) : EReal :=
  dxA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) p j

def termM (j : Fin 1024) (p : Fin 4096) : EReal :=
  dgTerm (m ((c : Thread nD τ).loc main_arg0)) (m ((c : Thread nD τ).loc main_arg1)) (m ((c : Thread nD τ).loc main_arg2)) (m ((c : Thread nD τ).loc main_arg3))
    (m ((c : Thread nD τ).loc main_arg4)) j p

theorem dn_iblk (t : Fin cfg0.N) (r : Fin 256) (j : Fin 1024) : dn (iblk m c 0 t) (iblk m c 1 t) (iblk m c 2 t) (iblk m c 3 t) r j
    = dnA (m ((c : Thread nD τ).loc main_arg0)) (m ((c : Thread nD τ).loc main_arg2)) (m ((c : Thread nD τ).loc main_arg1)) (m ((c : Thread nD τ).loc main_arg3)) (row t r) j :=
  congrArg₂ (· + ·) (Finset.sum_congr rfl fun k _ => congrArg₂ (· * ·) (iblk0 m c t r k) (iblk1 m c t k j))
    (Finset.sum_congr rfl fun k _ => congrArg₂ (· * ·) (iblk2 m c t r k) (iblk3 m c t k j))

theorem pay6_iblk (t : Fin cfg0.N) (r : Fin 256) (j : Fin 1024) :
    k0_pay6 (F := Ideal) (iblk m c 0 t) (iblk m c 1 t) (iblk m c 2 t) (iblk m c 3 t) (iblk m c 4 t) (iblk m c 5 t) (iblk m c 6 t) (ix2 r j) = dxM m c (row t r) j := by
  refine (pay6_apply _ _ _ _ _ _ _ r j).trans ?_
  simp only [dn_iblk, iblk4, iblk5, iblk6]
  rfl

theorem pay2_iblk (t : Fin cfg0.N) (v : Vec Ideal S1x1024 .f32) (j : Fin 1024) :
    k0_pay2 (F := Ideal) (k0_pay3 (iblk m c 0 t) (iblk m c 1 t) (iblk m c 2 t) (iblk m c 3 t)) (k0_pay5 (iblk m c 4 t)) v (ix2 0 j)
      = v (ix2 0 j) + ∑ r : Fin 256, termM m c j (row t r) := by
  refine (pay2_apply _ _ _ _ _ j v).trans ?_
  simp only [dn_iblk, iblk4]
  rfl

/-- The array of the rows' gradient. -/
theorem arr7 (p : Fin 4096) (j : Fin 1024) : (dats m 0 c).arrAt 7 cfg0.N (ix2 p j) = dxM m c p j := by
  obtain ⟨t, r, hp⟩ : ∃ (t : Fin cfg0.N) (r : Fin 256), p = row t r :=
    ⟨⟨p.val / 256, show _ < 16 by omega⟩, ⟨p.val % 256, by omega⟩, Fin.ext (show p.val = p.val / 256 * 256 + p.val % 256 by omega)⟩
  have hb := congrFun (blocks7 m c t (flush0_7 _)) (ix2 r j)
  rw [View.read_apply] at hb
  have e := (ind t).2.2.2.2.2.2.2.1
  have hi : ((cfg0.win 7).blk t).view.emb (ix2 r j) = ix2 (row t r) j := by
    funext a
    apply Fin.ext
    match a with
    | ⟨0, _⟩ => show win0_7.index t 0 * 256 + 1 * r.val = t.val * 256 + r.val; rw [e.1]; omega
    | ⟨1, _⟩ => show win0_7.index t 1 * 1024 + 1 * j.val = j.val; rw [e.2]; omega
  rw [hi] at hb
  rw [hp]
  refine hb.trans ?_
  by_cases h : t.val % 16 = 0
  · rw [flushed7_A m c t h, outA7]
    exact pay6_iblk m c t r j
  · rw [flushed7_B m c t h, outB7]
    exact pay6_iblk m c t r j

/-- What a tile of rows adds to the gradient of the norm's weight. -/
def tile (j : Fin 1024) (i : ℕ) : EReal := if h : i < 16 then ∑ r : Fin 256, termM m c j (row ⟨i, h⟩ r) else 0

/-- After a point the weight's row holds the sum of the tiles so far. -/
theorem partials (j : Fin 1024) : ∀ (n : ℕ) (hn : n < cfg0.N), (outsAt0 m c n hn).2 (ix2 0 j) = ∑ i ∈ Finset.range (n + 1), tile m c j i
  | 0, hn => by
    rw [outsAt0_A m c ⟨0, hn⟩ rfl]
    dsimp only
    rw [outA8]
    refine (pay2_iblk m c ⟨0, hn⟩ _ j).trans ?_
    rw [Finset.sum_range_one, tile, dif_pos (by omega)]
    have : (k0_pay1 (F := Ideal)) (ix2 0 j) = 0 := by pointwise [k0_pay1]
    rw [this, zero_add]
  | n + 1, hn => by
    have h16 : n + 1 < 16 := hn
    rw [outsAt0_B m c ⟨n + 1, hn⟩ (by show ¬(n + 1) % 16 = 0; omega)]
    dsimp only
    rw [outB8]
    refine (pay2_iblk m c ⟨n + 1, hn⟩ _ j).trans ?_
    rw [Finset.sum_range_succ, tile, dif_pos h16]
    exact congrArg (· + _) (partials j n _)

/-- The sixteen tiles are all the rows. -/
theorem sum_tiles (j : Fin 1024) : ∑ i ∈ Finset.range 16, tile m c j i = ∑ p : Fin 4096, termM m c j p := by
  rw [Finset.sum_range, ← (finProdFinEquiv (m := 16) (n := 256)).sum_comp (fun p : Fin (16 * 256) => termM m c j p), Fintype.sum_prod_type]
  refine Finset.sum_congr rfl fun i _ => ?_
  rw [tile, dif_pos i.isLt]
  refine Finset.sum_congr rfl fun r _ => congrArg (termM m c j) (Fin.ext ?_)
  show i.val * 256 + r.val = r.val + 256 * i.val
  omega

/-- The array of the gradient of the norm's weight. -/
theorem arr8 (j : Fin 1024) : (dats m 0 c).arrAt 8 cfg0.N (ix2 0 j) = ∑ p : Fin 4096, termM m c j p := by
  obtain ⟨t, ht⟩ : ∃ t : Fin cfg0.N, t.val = 15 := ⟨⟨15, show 15 < 16 by omega⟩, rfl⟩
  have hd : ∀ t t' : Fin cfg0.N, (cfg0.win 8).flush t = true → (cfg0.win 8).flush t' = true → t ≠ t' →
      Disjoint ((cfg0.win 8).blk t).view.set ((cfg0.win 8).blk t').view.set := fun t t' h h' hne => by
    have a := (flush0_8 t).1 h
    have b := (flush0_8 t').1 h'
    have ha : t.val < 16 := t.isLt
    have hb : t'.val < 16 := t'.isLt
    exact absurd (Fin.ext (by omega)) hne
  have hb := congrFun ((dats m 0 c).read_blk_arrAt_eq_flushed 8 hd cfg0.N t t.isLt ((flush0_8 t).2 (by omega))) (ix2 0 j)
  rw [View.read_apply, flushed8] at hb
  have e := (ind t).2.2.2.2.2.2.2.2
  have hi : ((cfg0.win 8).blk t).view.emb (ix2 0 j) = ix2 (0 : Fin 1) j := by
    funext a
    apply Fin.ext
    match a with
    | ⟨0, _⟩ => show win0_8.index t 0 * 1 + 1 * 0 = 0; rw [e.1]
    | ⟨1, _⟩ => show win0_8.index t 1 * 1024 + 1 * j.val = j.val; rw [e.2]; omega
  rw [hi] at hb
  refine hb.trans ((partials m c j t.val t.isLt).trans ?_)
  rw [ht, sum_tiles]

end Cert.Kernel4Ideal.Ffn

end
-- ==== Proof.Ffn.Norm.lean ====
/-
  The reference's gradient at the entry of the feed-forward layer, stage by stage, and that kernel and reference agree.
-/
module

public import proofs.«01_k».proof.Defs
public import proofs.«01_k».proof.Proof.Ffn.NormArray
public import proofs.«01_k».proof.Proof.Gen.Reference4Ideal.Run
public import proofs.«01_k».proof.Proof.Gen.Reference4Ideal.Read

@[expose] public section

set_option maxRecDepth 16384

noncomputable section

namespace Cert.NormClaim

open Idealize.ShloMosaic Idealize.SL.Sem Idealize.ShloMosaic.Pointwise Cert.Reference4Ideal Cert.Reference4Ideal.Read Cert.Norm Cert.Kernel4Ideal.Ffn

section
variable (x0 x1 : (⟨S4096x2816, .bf16⟩ : BufTy).Contents (Elt Ideal)) (x2 x3 : (⟨S2816x1024, .bf16⟩ : BufTy).Contents (Elt Ideal))
  (x4 x5 : (⟨S4096x1024, .f32⟩ : BufTy).Contents (Elt Ideal)) (x6 : (⟨S1024, .f32⟩ : BufTy).Contents (Elt Ideal)) (p : Fin 4096) (j : Fin 1024)

theorem v6_apply : val_main_v6 x4 (ix2 p 0) = var width fun k => x4 (ix2 p k) := by
  pointwise [val_main_v6, val_main_v5, val_main_v4, val_main_v3, val_main_v2, val_main_v1, val_main_v0, val_main_cst, val_main_cst_0, val_main_cst_1]
  rfl

theorem v7_apply : val_main_v7 x4 (ix2 p 0) = root width fun k => x4 (ix2 p k) := by
  unfold root
  rw [← v6_apply]
  rfl

theorem v12_apply : val_main_v12 x4 (ix2 p j) = x4 (ix2 p j) * root width fun k => x4 (ix2 p k) := by
  rw [← v7_apply]
  unfold val_main_v12 val_main_v11
  generalize val_main_v7 (F := Ideal) x4 = y
  pointwise

theorem v10_apply : val_main_v10 x4 (ix2 p 0) = mhalf * Ideal.div (root width fun k => x4 (ix2 p k)) (var width fun k => x4 (ix2 p k)) := by
  rw [← v7_apply, ← v6_apply]
  unfold val_main_v10 val_main_v9 val_main_v8 val_main_cst_2
  generalize val_main_v7 (F := Ideal) x4 = y
  generalize val_main_v6 (F := Ideal) x4 = z
  pointwise
  rfl

theorem v26_apply : val_main_v26 x0 x1 x2 x3 (ix2 p j) = dnA x0 x2 x1 x3 p j := by
  unfold dnA
  rw [add_comm]
  pointwise [val_main_v26, val_main_v25, val_main_v24, val_main_v23, val_main_v22, val_main_v20, val_main_v19, val_main_v17, val_main_v16]

theorem v31_apply : val_main_v31 x0 x1 x2 x3 x6 (ix2 p j) = dnA x0 x2 x1 x3 p j * x6 (ix1 j) := by
  rw [← v26_apply]
  unfold val_main_v31 val_main_v30 val_main_v13
  generalize val_main_v26 (F := Ideal) x0 x1 x2 x3 = y
  pointwise

theorem v43_apply : val_main_v43 x0 x1 x2 x3 x4 x6 (ix2 p j) = coef width (fun k => dnA x0 x2 x1 x3 p k * x6 (ix1 k)) (fun k => x4 (ix2 p k)) := by
  unfold coef val_main_v43 val_main_v42 val_main_v41 val_main_v40 val_main_v39 val_main_v35 val_main_v34 val_main_v33 val_main_cst_5 val_main_cst_6 val_main_cst_7
  pointwise
  refine (Fin.sum_univ_one _).trans ?_
  refine congrArg₂ Ideal.div (congrArg₂ (· * ·) (Finset.sum_congr rfl fun k _ => congrArg (x4 (ix2 p k) * ·) ?_) ?_) rfl
  · exact v31_apply x0 x1 x2 x3 x6 p k
  · exact v10_apply x4 p

theorem v47_apply : val_main_v47 x0 x1 x2 x3 x4 x5 x6 (ix2 p j) = dxA x0 x1 x2 x3 x4 x5 x6 p j := by
  unfold dxA
  rw [dxK_eq width_eq (by norm_num)]
  unfold dxR
  beta_reduce
  rw [← v43_apply x0 x1 x2 x3 x4 x6 p j, ← v31_apply, ← v7_apply]
  unfold val_main_v47 val_main_v46 val_main_v45 val_main_v44 val_main_v38 val_main_v37 val_main_v36
  generalize val_main_v7 (F := Ideal) x4 = y
  generalize val_main_v31 (F := Ideal) x0 x1 x2 x3 x6 = z
  generalize val_main_v43 (F := Ideal) x0 x1 x2 x3 x4 x6 = w
  pointwise

theorem v48_apply : val_main_v48 x0 x1 x2 x3 x4 (ix2 0 j) = ∑ p : Fin 4096, dgTerm x0 x1 x2 x3 x4 j p := by
  unfold val_main_v48 val_main_v32 val_main_v29 val_main_v28 val_main_v27 val_main_cst_3 val_main_cst_4
  pointwise
  refine (Fin.sum_univ_one _).trans (Finset.sum_congr rfl fun p _ => ?_)
  refine (congrArg₂ (· * ·) (v12_apply x4 p j) (v26_apply x0 x1 x2 x3 p j)).trans ?_
  exact mul_comm (G := EReal) _ _
end

/-- Kernel and reference compute the same gradient of the rows and of the norm's weight. -/
theorem algebraic : Cert.algebraic_Kernel4Ideal_Reference4Ideal (hKernel4Ideal := Cert.Kernel4Ideal.Gen.facts)
      (hReference4Ideal := Cert.Reference4Ideal.Gen.facts) := by
  intro m g m' g' _ harg
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    Cert.Kernel4Ideal.Value.run_blocks m g, (θ_run _ _ _).mono (fun r h c => ?_) (Cert.Reference4Ideal.Value.run m' g')⟩
  obtain ⟨h0, h1, hr⟩ := h c
  obtain ⟨e0, e1, e2, e3, e4, e5, e6⟩ := harg c
  refine ⟨h0.trans ?_, h1.trans ?_, hr⟩
  · rw [Cert.Reference4Ideal.Read.val_main_v47_eq, e0, e1, e2, e3, e4, e5, e6]
    funext i
    obtain ⟨p, j, rfl⟩ : ∃ (p : Fin 4096) (j : Fin 1024), i = ix2 p j := ⟨i 0, i 1, by funext a; match a with | ⟨0, _⟩ => rfl | ⟨1, _⟩ => rfl⟩
    exact (v47_apply _ _ _ _ _ _ _ p j).trans (arr7 m c p j).symm
  · rw [Cert.Reference4Ideal.Read.val_main_v48_eq, e0, e1, e2, e3, e4]
    funext i
    obtain ⟨j, rfl⟩ : ∃ (j : Fin 1024), i = ix2 (0 : Fin 1) j := ⟨i 1, by
      funext a
      match a with
      | ⟨0, _⟩ => exact Fin.ext (show (i 0).val = 0 by have : (i 0).val < 1 := (i 0).isLt; omega)
      | ⟨1, _⟩ => rfl⟩
    exact (v48_apply _ _ _ _ _ j).trans (arr8 m c j).symm

end Cert.NormClaim

end
-- ==== Proof.lean ====
/- The proof of the claims about twenty calls of the step. Their mathematics is in the modules imported; here they are put
   together. -/
module

public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Ffn.Hidden
public import proofs.«01_k».proof.Proof.Ffn.Down
public import proofs.«01_k».proof.Proof.Merge.Merge
public import proofs.«01_k».proof.Proof.Merge.Group
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Adam.Step
public import proofs.«01_k».proof.Proof.Mix.In
public import proofs.«01_k».proof.Proof.Product.OutWeight
public import proofs.«01_k».proof.Proof.Product.InWeight
public import proofs.«01_k».proof.Proof.Product.In
public import proofs.«01_k».proof.Proof.Product.Out
public import proofs.«01_k».proof.Proof.Product.InConv
public import proofs.«01_k».proof.Proof.Product.ConvWeight
public import proofs.«01_k».proof.Proof.Product.Ssd
public import proofs.«01_k».proof.Proof.Product.OutInput
public import proofs.«01_k».proof.Proof.Product.SsdWeight
public import proofs.«01_k».proof.Proof.Product.Query
public import proofs.«01_k».proof.Proof.Ffn.Weight
public import proofs.«01_k».proof.Proof.Ffn.Gate
public import proofs.«01_k».proof.Proof.Ffn.Norm
public import proofs.«01_k».proof.Defs
public import proofs.«01_k».proof.Proof.Gen.Reference4Ideal.Read
public import proofs.«01_k».proof.Proof.Gen.Reference3Ideal.Read
public import proofs.«01_k».proof.Proof.Gen.Reference2Ideal.Read
public import proofs.«01_k».proof.Proof.Gen.Reference4Ideal.Run
public import proofs.«01_k».proof.Proof.Gen.Reference3Ideal.Run
public import proofs.«01_k».proof.Proof.Gen.Reference2Ideal.Run
public import proofs.«01_k».proof.Proof.Gen.Reference4Ideal
public import proofs.«01_k».proof.Proof.Gen.Reference3Ideal
public import proofs.«01_k».proof.Proof.Gen.Reference2Ideal
public import proofs.«01_k».proof.Proof.Gen.Kernel4Ideal.Value
public import proofs.«01_k».proof.Proof.Gen.Kernel3Ideal.Value
public import proofs.«01_k».proof.Proof.Gen.Kernel2Ideal.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel4.Frame
public import proofs.«01_k».proof.Proof.Gen.Kernel3.Frame
public import proofs.«01_k».proof.Proof.Gen.Kernel2.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Xa.Equation
public import proofs.«01_k».proof.Proof.Gen.ReferenceIdeal.Read
public import proofs.«01_k».proof.Proof.Gen.ReferenceIdeal.Run
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import Idealize.ShloMosaic.Adequacy
public import Idealize.ShloMosaic.Init

@[expose] public section

noncomputable section

namespace Cert.Proof

open Idealize.ShloMosaic Idealize.SL.Sem Cert.Kernel

/-- The side conditions of the preconditions' operations. -/
theorem pre_facts : Cert.Pre_finite_qk.Facts := ⟨by decide, by decide, by decide⟩
theorem pre_facts3 : Cert.Pre_finite_hidden.Facts := by constructor <;> decide
theorem pre_facts8 : Cert.Pre_finite_gated.Facts := by constructor <;> decide

/-- Each reference runs, keeps its arguments, and has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ref2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ref3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_ref4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem frame_ref5 : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_ref6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem frame_ref7 : Cert.quiescent_Reference7Ideal (hReference7Ideal := Cert.Reference7Ideal.Gen.facts) := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

theorem frame_ref8 : Cert.quiescent_Reference8Ideal (hReference8Ideal := Cert.Reference8Ideal.Gen.facts) := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem frame_ref9 : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem frame_ref10 : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem frame_ref11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_ref12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_ref13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_ref14 : Cert.quiescent_Reference14Ideal (hReference14Ideal := Cert.Reference14Ideal.Gen.facts) := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem frame_ref15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_ref16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_ref17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_ref18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_ref19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_ref20 : Cert.quiescent_Reference20Ideal (hReference20Ideal := Cert.Reference20Ideal.Gen.facts) := fun m ρ _ =>
  (θ_run Cert.Reference20Ideal.defs _ _).mono (fun r h => ⟨fun c => (h c).2.2, sem_eq_zero_of_no_sems (by decide) r.2⟩)
    (Cert.Reference20Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  pre_facts, pre_facts3, pre_facts8,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  fun m ρ _ => Cert.Kernel3Ideal.Gen.frame m ρ,
  frame_ref3,
  fun m ρ _ => frame_ref3 m ρ trivial,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  frame_ref6,
  fun m ρ _ => Cert.Kernel7.Gen.frame m ρ,
  fun m ρ _ => Cert.Kernel7Ideal.Gen.frame m ρ,
  frame_ref7,
  fun m ρ _ => Cert.Kernel8.Gen.frame m ρ,
  fun m ρ _ => Cert.Kernel8Ideal.Gen.frame m ρ,
  fun m ρ _ => Cert.Kernel8Ideal.Gen.frame m ρ,
  frame_ref8,
  fun m ρ _ => frame_ref8 m ρ trivial,
  fun m ρ _ => Cert.Kernel9.Gen.frame m ρ,
  fun m ρ _ => Cert.Kernel9Ideal.Gen.frame m ρ,
  frame_ref9,
  fun m ρ _ => Cert.Kernel10.Gen.frame m ρ,
  fun m ρ _ => Cert.Kernel10Ideal.Gen.frame m ρ,
  frame_ref10,
  fun m ρ _ => Cert.Kernel11.Gen.frame m ρ,
  fun m ρ _ => Cert.Kernel11Ideal.Gen.frame m ρ,
  frame_ref11,
  fun m ρ _ => Cert.Kernel12.Gen.frame m ρ,
  fun m ρ _ => Cert.Kernel12Ideal.Gen.frame m ρ,
  frame_ref12,
  fun m ρ _ => Cert.Kernel13.Gen.frame m ρ,
  fun m ρ _ => Cert.Kernel13Ideal.Gen.frame m ρ,
  frame_ref13,
  fun m ρ _ => Cert.Kernel14.Gen.frame m ρ,
  fun m ρ _ => Cert.Kernel14Ideal.Gen.frame m ρ,
  frame_ref14,
  fun m ρ _ => Cert.Kernel15.Gen.frame m ρ,
  fun m ρ _ => Cert.Kernel15Ideal.Gen.frame m ρ,
  frame_ref15,
  fun m ρ _ => Cert.Kernel16.Gen.frame m ρ,
  fun m ρ _ => Cert.Kernel16Ideal.Gen.frame m ρ,
  frame_ref16,
  fun m ρ _ => Cert.Kernel17.Gen.frame m ρ,
  fun m ρ _ => Cert.Kernel17Ideal.Gen.frame m ρ,
  frame_ref17,
  fun m ρ _ => Cert.Kernel18.Gen.frame m ρ,
  fun m ρ _ => Cert.Kernel18Ideal.Gen.frame m ρ,
  frame_ref18,
  fun m ρ _ => Cert.Kernel19.Gen.frame m ρ,
  fun m ρ _ => Cert.Kernel19Ideal.Gen.frame m ρ,
  frame_ref19,
  fun m ρ _ => Cert.Kernel20.Gen.frame m ρ,
  fun m ρ _ => Cert.Kernel20Ideal.Gen.frame m ρ,
  frame_ref20,
  trivial,
  Cert.XaClaim.algebraic (hPre := pre_facts),
  trivial,
  Cert.WeightClaim.algebraic,
  trivial,
  Cert.GateClaim.algebraic (hPre := pre_facts3),
  trivial,
  Cert.NormClaim.algebraic,
  trivial,
  Cert.HiddenClaim.algebraic,
  trivial,
  Cert.DownClaim.algebraic,
  trivial,
  Cert.MergeClaim.algebraic,
  trivial,
  Cert.GroupNormClaim.algebraic (hPre := pre_facts8),
  trivial,
  Cert.AdamClaim.algebraic,
  trivial,
  Cert.MixClaim.algebraic,
  trivial,
  Cert.OutWeightClaim.algebraic,
  trivial,
  Cert.InWeightClaim.algebraic,
  trivial,
  Cert.InProductClaim.algebraic,
  trivial,
  Cert.OutClaim.algebraic,
  trivial,
  Cert.InConvClaim.algebraic,
  trivial,
  Cert.ConvWeightClaim.algebraic,
  trivial,
  Cert.SsdProductClaim.algebraic,
  trivial,
  Cert.OutInputClaim.algebraic,
  trivial,
  Cert.SsdWeightClaim.algebraic,
  trivial,
  Cert.QueryClaim.algebraic⟩

end Cert.Proof

end
